-- ==== Defs.lean ====
def Pre_Kernel [hPre_plan : Cert.Pre_plan.Facts] (m : (ℓ : Loc Cert.Kernel.nD Cert.Kernel.τ Cert.Kernel.sig) → Buf (Elt Bits) ℓ) : Prop :=
  ∀ c : Dev Cert.Kernel.nD,
    (Cert.Pre_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_plan : Cert.Pre_plan.Facts] (m : (ℓ : Loc Cert.KernelIdeal.nD Cert.KernelIdeal.τ Cert.KernelIdeal.sig) → Buf (Elt Ideal) ℓ) : Prop :=
  ∀ c : Dev Cert.KernelIdeal.nD,
    (Cert.Pre_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan [hPre_plan : Cert.Pre_plan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_out [hPre_finite_out : Cert.Pre_finite_out.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_out.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_out [hPre_finite_out : Cert.Pre_finite_out.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_out.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2 = (fun _ => 1#1)

def quiescent_Kernel [hKernel : Cert.Kernel.Facts] [hPre_plan : Cert.Pre_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_plan : Cert.Pre_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_plan [hReferenceIdeal : Cert.ReferenceIdeal.Facts] [hPre_plan : Cert.Pre_plan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_out [hKernel6Ideal : Cert.Kernel6Ideal.Facts] [hPre_finite_out : Cert.Pre_finite_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_out m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_out [hReference6Ideal : Cert.Reference6Ideal.Facts] [hPre_finite_out : Cert.Pre_finite_out.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_out m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hPre_plan : Cert.Pre_plan.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![40960, 2048]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![40960, 2048]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v19) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_on_stream_and_norm [hKernel6Ideal : Cert.Kernel6Ideal.Facts] [hReference6Ideal : Cert.Reference6Ideal.Facts] [hOn_stream_and_norm : Cert.On_stream_and_norm.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![16384, 2048]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 i = 1#1 → r.2.mem ((c.tc : Thread Cert.Kernel6Ideal.nD Cert.Kernel6Ideal.τ).loc Cert.Kernel6Ideal.main_v6_0) i = v0 c i)
          ∧ (∀ i : (⟨2, ![262144, 128]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 i = 1#1 → r.2.mem ((c.tc : Thread Cert.Kernel6Ideal.nD Cert.Kernel6Ideal.τ).loc Cert.Kernel6Ideal.main_v6_1) i = v1 c i)
          ∧ (∀ i : (⟨2, ![16384, 128]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2 i = 1#1 → r.2.mem ((c.tc : Thread Cert.Kernel6Ideal.nD Cert.Kernel6Ideal.τ).loc Cert.Kernel6Ideal.main_v6_2) i = v2 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![16384, 2048]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 i = 1#1 → r.2.mem ((c.tc : Thread Cert.Reference6Ideal.nD Cert.Reference6Ideal.τ).loc Cert.Reference6Ideal.main_v5) i = v0 c i)
          ∧ (∀ i : (⟨2, ![262144, 128]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 i = 1#1 → r.2.mem ((c.tc : Thread Cert.Reference6Ideal.nD Cert.Reference6Ideal.τ).loc Cert.Reference6Ideal.main_v22) i = v1 c i)
          ∧ (∀ i : (⟨2, ![16384, 128]⟩ : Shape).Idx, (Cert.On_stream_and_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2 i = 1#1 → r.2.mem ((c.tc : Thread Cert.Reference6Ideal.nD Cert.Reference6Ideal.τ).loc Cert.Reference6Ideal.main_v21) i = v2 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def algebraic_Kernel6Ideal_Reference6Ideal_pre_finite_out [hKernel6Ideal : Cert.Kernel6Ideal.Facts] [hReference6Ideal : Cert.Reference6Ideal.Facts] [hPre_finite_out : Cert.Pre_finite_out.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_out m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v35_0)) (v1 : (c : Dev Cert.Kernel7Ideal.nD) → Buf (Elt Ideal) ((c.tc : Thread Cert.Kernel7Ideal.nD Cert.Kernel7Ideal.τ).loc Cert.Kernel7Ideal.main_v35_1)) (v2 : (c : Dev Cert.Kernel7Ideal.nD) → Buf (Elt Ideal) ((c.tc : Thread Cert.Kernel7Ideal.nD Cert.Kernel7Ideal.τ).loc Cert.Kernel7Ideal.main_v35_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35_0) = v0 c
          ∧ r.2.mem ((c.tc : Thread Cert.Kernel7Ideal.nD Cert.Kernel7Ideal.τ).loc Cert.Kernel7Ideal.main_v35_1) = v1 c
          ∧ r.2.mem ((c.tc : Thread Cert.Kernel7Ideal.nD Cert.Kernel7Ideal.τ).loc Cert.Kernel7Ideal.main_v35_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v94) = v0 c
          ∧ r.2.mem ((c.tc : Thread Cert.Reference7Ideal.nD Cert.Reference7Ideal.τ).loc Cert.Reference7Ideal.main_v97) = v1 c
          ∧ r.2.mem ((c.tc : Thread Cert.Reference7Ideal.nD Cert.Reference7Ideal.τ).loc Cert.Reference7Ideal.main_v100) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def algebraic_Kernel7Ideal_Reference8Ideal_pre_finite [hKernel7Ideal : Cert.Kernel7Ideal.Facts] [hReference8Ideal : Cert.Reference8Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel7Ideal_finite m →
    (∀ c : Dev Cert.Kernel7Ideal.nD,
      m' ((c.tc : Thread Cert.Reference8Ideal.nD Cert.Reference8Ideal.τ).loc Cert.Reference8Ideal.main_arg0) = m ((c.tc : Thread Cert.Kernel7Ideal.nD Cert.Kernel7Ideal.τ).loc Cert.Kernel7Ideal.main_arg0)
      ∧ m' ((c.tc : Thread Cert.Reference8Ideal.nD Cert.Reference8Ideal.τ).loc Cert.Reference8Ideal.main_arg1) = m ((c.tc : Thread Cert.Kernel7Ideal.nD Cert.Kernel7Ideal.τ).loc Cert.Kernel7Ideal.main_arg1)
      ∧ m' ((c.tc : Thread Cert.Reference8Ideal.nD Cert.Reference8Ideal.τ).loc Cert.Reference8Ideal.main_arg2) = m ((c.tc : Thread Cert.Kernel7Ideal.nD Cert.Kernel7Ideal.τ).loc Cert.Kernel7Ideal.main_arg2)
      ∧ m' ((c.tc : Thread Cert.Reference8Ideal.nD Cert.Reference8Ideal.τ).loc Cert.Reference8Ideal.main_arg3) = m ((c.tc : Thread Cert.Kernel7Ideal.nD Cert.Kernel7Ideal.τ).loc Cert.Kernel7Ideal.main_arg3)
      ∧ m' ((c.tc : Thread Cert.Reference8Ideal.nD Cert.Reference8Ideal.τ).loc Cert.Reference8Ideal.main_arg4) = m ((c.tc : Thread Cert.Kernel7Ideal.nD Cert.Kernel7Ideal.τ).loc Cert.Kernel7Ideal.main_arg4)
      ∧ m' ((c.tc : Thread Cert.Reference8Ideal.nD Cert.Reference8Ideal.τ).loc Cert.Reference8Ideal.main_arg5) = m ((c.tc : Thread Cert.Kernel7Ideal.nD Cert.Kernel7Ideal.τ).loc Cert.Kernel7Ideal.main_arg5)
      ∧ m' ((c.tc : Thread Cert.Reference8Ideal.nD Cert.Reference8Ideal.τ).loc Cert.Reference8Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v35_0)) (v1 : (c : Dev Cert.Kernel7Ideal.nD) → Buf (Elt Ideal) ((c.tc : Thread Cert.Kernel7Ideal.nD Cert.Kernel7Ideal.τ).loc Cert.Kernel7Ideal.main_v35_1)) (v2 : (c : Dev Cert.Kernel7Ideal.nD) → Buf (Elt Ideal) ((c.tc : Thread Cert.Kernel7Ideal.nD Cert.Kernel7Ideal.τ).loc Cert.Kernel7Ideal.main_v35_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35_0) = v0 c
          ∧ r.2.mem ((c.tc : Thread Cert.Kernel7Ideal.nD Cert.Kernel7Ideal.τ).loc Cert.Kernel7Ideal.main_v35_1) = v1 c
          ∧ r.2.mem ((c.tc : Thread Cert.Kernel7Ideal.nD Cert.Kernel7Ideal.τ).loc Cert.Kernel7Ideal.main_v35_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v87) = v0 c
          ∧ r.2.mem ((c.tc : Thread Cert.Reference8Ideal.nD Cert.Reference8Ideal.τ).loc Cert.Reference8Ideal.main_v90) = v1 c
          ∧ r.2.mem ((c.tc : Thread Cert.Reference8Ideal.nD Cert.Reference8Ideal.τ).loc Cert.Reference8Ideal.main_v93) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hReference8Ideal : Cert.Reference8Ideal.Facts) (hPre_plan : Cert.Pre_plan.Facts) (hPre_finite_out : Cert.Pre_finite_out.Facts) (hPre_finite : Cert.Pre_finite.Facts) (hOn_routed : Cert.On_routed.Facts) (hOn_stream_and_norm : Cert.On_stream_and_norm.Facts),
    quiescent_Kernel (hKernel := hKernel) (hPre_plan := hPre_plan)
    ∧ quiescent_KernelIdeal (hKernelIdeal := hKernelIdeal) (hPre_plan := hPre_plan)
    ∧ quiescent_ReferenceIdeal (hReferenceIdeal := hReferenceIdeal)
    ∧ quiescent_ReferenceIdeal_pre_plan (hReferenceIdeal := hReferenceIdeal) (hPre_plan := hPre_plan)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_out (hKernel6Ideal := hKernel6Ideal) (hPre_finite_out := hPre_finite_out)
    ∧ quiescent_Reference6Ideal (hReference6Ideal := hReference6Ideal)
    ∧ quiescent_Reference6Ideal_pre_finite_out (hReference6Ideal := hReference6Ideal) (hPre_finite_out := hPre_finite_out)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference8Ideal (hReference8Ideal := hReference8Ideal)
    ∧ quiescent_Reference8Ideal_pre_finite (hReference8Ideal := hReference8Ideal) (hPre_finite := hPre_finite)
    ∧ preserves_Kernel_KernelIdeal
    ∧ algebraic_KernelIdeal_ReferenceIdeal_on_routed (hKernelIdeal := hKernelIdeal) (hReferenceIdeal := hReferenceIdeal) (hPre_plan := hPre_plan) (hOn_routed := hOn_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_stream_and_norm (hKernel6Ideal := hKernel6Ideal) (hReference6Ideal := hReference6Ideal) (hOn_stream_and_norm := hOn_stream_and_norm)
    ∧ algebraic_Kernel6Ideal_Reference6Ideal_pre_finite_out (hKernel6Ideal := hKernel6Ideal) (hReference6Ideal := hReference6Ideal) (hPre_finite_out := hPre_finite_out)
    ∧ preserves_Kernel7_Kernel7Ideal
    ∧ algebraic_Kernel7Ideal_Reference7Ideal (hKernel7Ideal := hKernel7Ideal) (hReference7Ideal := hReference7Ideal)
    ∧ algebraic_Kernel7Ideal_Reference8Ideal_pre_finite (hKernel7Ideal := hKernel7Ideal) (hReference8Ideal := hReference8Ideal) (hPre_finite := hPre_finite)
-- ==== On_routed.lean ====
abbrev S40960x2048 : Shape := ⟨2, ![40960, 2048]⟩
abbrev S40 : Shape := ⟨1, ![40]⟩
abbrev S8x2048x7168 : Shape := ⟨3, ![8, 2048, 7168]⟩
abbrev S8x7168x2048 : Shape := ⟨3, ![8, 7168, 2048]⟩
abbrev S40x1024x2048 : Shape := ⟨3, ![40, 1024, 2048]⟩
abbrev S40x1x1 : Shape := ⟨3, ![40, 1, 1]⟩

class Facts : Prop where
  bcast_S40_S40x1x1_0 : S40.BroadcastsInDim S40x1x1 (![0] : Fin 1 → Fin S40x1x1.rank)
  bcast_S40x1x1_S40x1024x2048_0_1_2 : S40x1x1.BroadcastsInDim S40x1024x2048 (![0, 1, 2] : Fin 3 → Fin S40x1024x2048.rank)
  shapeCasts_S40x1024x2048_S40960x2048 : S40x1024x2048.ShapeCasts S40960x2048

variable [Facts]

def fn {F : FTy → Type} [FloatOps F] (main_arg0 : FVec F S40960x2048 .bf16) (main_arg1 : IVec S40 32) (main_arg2 : IVec S40 32) (main_arg3 : FVec F S8x2048x7168 .f32) (main_arg4 : FVec F S8x2048x7168 .f32) (main_arg5 : FVec F S8x7168x2048 .f32) : IVec S40960x2048 1 :=
  let main_v0 : IVec S40x1024x2048 32 := iotaInDim S40x1024x2048 32 1
  let main_v1 : IVec S40x1x1 32 := broadcastInDim S40x1x1 ![0] bcast_S40_S40x1x1_0 main_arg2
  let main_v2 : IVec S40x1024x2048 32 := broadcastInDim S40x1024x2048 ![0, 1, 2] bcast_S40x1x1_S40x1024x2048_0_1_2 main_v1
  let main_v3 : IVec S40x1024x2048 1 := cmpi .slt main_v0 main_v2
  let main_v4 : IVec S40960x2048 1 := shapeCast S40960x2048 main_v3 shapeCasts_S40x1024x2048_S40960x2048
  main_v4
-- ==== On_stream_and_norm.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S_ : Shape := ⟨0, ![]⟩
abbrev S262144x128 : Shape := ⟨2, ![262144, 128]⟩
abbrev S16384x128 : Shape := ⟨2, ![16384, 128]⟩

class Facts : Prop where
  bcast_S_S16384x2048 : S_.BroadcastsInDim S16384x2048 (![] : Fin 0 → Fin S16384x2048.rank)
  bcast_S_S262144x128 : S_.BroadcastsInDim S262144x128 (![] : Fin 0 → Fin S262144x128.rank)
  bcast_S_S16384x128 : S_.BroadcastsInDim S16384x128 (![] : Fin 0 → Fin S16384x128.rank)

variable [Facts]

def fn {F : FTy → Type} [FloatOps F] (main_arg0 : FVec F S16384x2048 .bf16) (main_arg1 : FVec F S2048x2048 .f32) (main_arg2 : FVec F S2048 .f32) (main_arg3 : FVec F S16384x2048 .f32) (main_arg4 : FVec F S2048 .f32) (main_arg5 : FVec F S2048x8 .f32) : IVec S16384x2048 1 × IVec S262144x128 1 × IVec S16384x128 1 :=
  let main_c : IVec S_ 1 := constantI S_ 1 1#1
  let main_v0 : IVec S16384x2048 1 := broadcastInDim S16384x2048 ![] bcast_S_S16384x2048 main_c
  let main_c_0 : IVec S_ 1 := constantI S_ 1 1#1
  let main_v1 : IVec S262144x128 1 := broadcastInDim S262144x128 ![] bcast_S_S262144x128 main_c_0
  let main_c_1 : IVec S_ 1 := constantI S_ 1 0#1
  let main_v2 : IVec S16384x128 1 := broadcastInDim S16384x128 ![] bcast_S_S16384x128 main_c_1
  (main_v0, main_v1, main_v2)
-- ==== Pre_finite.lean ====
abbrev S16384x2048 : Shape := ⟨2, ![16384, 2048]⟩
abbrev S2x8192 : Shape := ⟨2, ![2, 8192]⟩
abbrev S2048x4416 : Shape := ⟨2, ![2048, 4416]⟩
abbrev S512 : Shape := ⟨1, ![512]⟩
abbrev S512x1536 : Shape := ⟨2, ![512, 1536]⟩
abbrev S512x2048 : Shape := ⟨2, ![512, 2048]⟩
abbrev S_ : Shape := ⟨0, ![]⟩

class Facts : Prop where
  bcast_S_S16384x2048 : S_.BroadcastsInDim S16384x2048 (![] : Fin 0 → Fin S16384x2048.rank)
  bcast_S_S2048x4416 : S_.BroadcastsInDim S2048x4416 (![] : Fin 0 → Fin S2048x4416.rank)
  bcast_S_S512 : S_.BroadcastsInDim S512 (![] : Fin 0 → Fin S512.rank)
  bcast_S_S512x1536 : S_.BroadcastsInDim S512x1536 (![] : Fin 0 → Fin S512x1536.rank)

variable [Facts]

def fn {F : FTy → Type} [FloatOps F] (main_arg0 : FVec F S16384x2048 .bf16) (main_arg1 : IVec S2x8192 32) (main_arg2 : FVec F S2048x4416 .f32) (main_arg3 : FVec F S512 .f32) (main_arg4 : FVec F S512x1536 .f32) (main_arg5 : FVec F S512 .f32) (main_arg6 : FVec F S512x2048 .f32) : IVec S16384x2048 1 × IVec S2048x4416 1 × IVec S512 1 × IVec S512x1536 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S2048x4416 .f32 := Host.absf main_arg2
  let main_cst_0 : FVec F S_ .f32 := constant S_ .f32 0x7F800000#32
  let main_v4 : FVec F S2048x4416 .f32 := broadcastInDim S2048x4416 ![] bcast_S_S2048x4416 main_cst_0
  let main_v5 : IVec S2048x4416 1 := cmpf .olt main_v3 main_v4
  let main_v6 : FVec F S512 .f32 := Host.absf main_arg3
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x1536 .f32 := Host.absf main_arg4
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  (main_v2, main_v5, main_v8, main_v11)
-- ==== Pre_finite_out.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S_ : Shape := ⟨0, ![]⟩

class Facts : Prop where
  bcast_S_S2048 : S_.BroadcastsInDim S2048 (![] : Fin 0 → Fin S2048.rank)
  bcast_S_S2048x8 : S_.BroadcastsInDim S2048x8 (![] : Fin 0 → Fin S2048x8.rank)

variable [Facts]

def fn {F : FTy → Type} [FloatOps F] (main_arg0 : FVec F S16384x2048 .bf16) (main_arg1 : FVec F S2048x2048 .f32) (main_arg2 : FVec F S2048 .f32) (main_arg3 : FVec F S16384x2048 .f32) (main_arg4 : FVec F S2048 .f32) (main_arg5 : FVec F S2048x8 .f32) : IVec S2048 1 × IVec S2048x8 1 :=
  let main_v0 : FVec F S2048 .f32 := Host.absf main_arg4
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x8 .f32 := Host.absf main_arg5
  let main_cst_0 : FVec F S_ .f32 := constant S_ .f32 0x7F800000#32
  let main_v4 : FVec F S2048x8 .f32 := broadcastInDim S2048x8 ![] bcast_S_S2048x8 main_cst_0
  let main_v5 : IVec S2048x8 1 := cmpf .olt main_v3 main_v4
  (main_v2, main_v5)
-- ==== Pre_plan.lean ====
abbrev S40960x2048 : Shape := ⟨2, ![40960, 2048]⟩
abbrev S40 : Shape := ⟨1, ![40]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x2048 .bf16) (main_arg1 : IVec S40 32) (main_arg2 : IVec S40 32) (main_arg3 : FVec F S8x2048x7168 .f32) (main_arg4 : FVec F S8x2048x7168 .f32) (main_arg5 : FVec F S8x7168x2048 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .sge main_arg2 main_v5
  let main_v7 : IVec S40 1 := andi main_v4 main_v6
  let main_c_2 : IVec S_ 32 := constantI S_ 32 1024#32
  let main_v8 : IVec S40 32 := broadcastInDim S40 ![] bcast_S_S40 main_c_2
  let main_v9 : IVec S40 1 := cmpi .sle main_arg2 main_v8
  let main_v10 : IVec S40 1 := andi main_v7 main_v9
  main_v10
-- ==== Kernel.lean ====
abbrev S40960x2048 : Shape := ⟨2, ![40960, 2048]⟩
abbrev S40 : Shape := ⟨1, ![40]⟩
abbrev S8x2048x7168 : Shape := ⟨3, ![8, 2048, 7168]⟩
abbrev S8x7168x2048 : Shape := ⟨3, ![8, 7168, 2048]⟩
abbrev S8x2048x14x512 : Shape := ⟨4, ![8, 2048, 14, 512]⟩
abbrev S8x14x2048x512 : Shape := ⟨4, ![8, 14, 2048, 512]⟩
abbrev S1024x2048 : Shape := ⟨2, ![1024, 2048]⟩
abbrev S1x1x2048x512 : Shape := ⟨4, ![1, 1, 2048, 512]⟩
abbrev S1 : Shape := ⟨1, ![1]⟩
abbrev S1x512x2048 : Shape := ⟨3, ![1, 512, 2048]⟩
abbrev S512x2048 : Shape := ⟨2, ![512, 2048]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 11
  | .vmem => 11
  | .smem => 2
  | _ => 0

abbrev bufTy : (tb : Table) → Fin (tcTables nBuf tb) → BufTy
  | .hbm, ⟨0, _⟩ => ⟨S40960x2048, .bf16⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S8x2048x14x512, .f32⟩
  | .hbm, ⟨5, _⟩ => ⟨S8x14x2048x512, .f32⟩
  | .hbm, ⟨6, _⟩ => ⟨S8x14x2048x512, .bf16⟩
  | .hbm, ⟨7, _⟩ => ⟨S8x2048x14x512, .f32⟩
  | .hbm, ⟨8, _⟩ => ⟨S8x14x2048x512, .f32⟩
  | .hbm, ⟨9, _⟩ => ⟨S8x14x2048x512, .bf16⟩
  | .hbm, ⟨10, _⟩ => ⟨S40960x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x512x2048, .f32⟩
  | .local _ .vmem, ⟨7, _⟩ => ⟨S1x512x2048, .f32⟩
  | .local _ .vmem, ⟨8, _⟩ => ⟨S1024x2048, .f32⟩
  | .local _ .vmem, ⟨9, _⟩ => ⟨S1024x2048, .f32⟩
  | .local _ .vmem, ⟨10, _⟩ => ⟨S512x2048, .bf16⟩
  | .local _ .smem, ⟨0, _⟩ => ⟨S40, .i32⟩
  | .local _ .smem, ⟨1, _⟩ => ⟨S40, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 14], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1024_i32 : BitVec 32 := 1024#32
  let v5 : BitVec 1 := Scalar.cmpi .eq v1 c1024_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c0_i32_2 : BitVec 32 := 0#32
  let v8 : BitVec 1 := Scalar.cmpi .sgt v1 c0_i32_2
  let c1024_i32_3 : BitVec 32 := 1024#32
  let v9 : BitVec 1 := Scalar.cmpi .slt v1 c1024_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (v1 : BitVec 32) : BitVec 1 :=
  let c0_i32_9 : BitVec 32 := 0#32
  let v19 : BitVec 1 := Scalar.cmpi .sgt v1 c0_i32_9
  let v20 : BitVec 32 := Scalar.extui v19
  let c0_i32_10 : BitVec 32 := 0#32
  let v21 : BitVec 1 := Scalar.cmpi .ne v20 c0_i32_10
  v21

def k0_cond5 (v1 : BitVec 32) : BitVec 1 :=
  let c512_i32 : BitVec 32 := 512#32
  let v22 : BitVec 1 := Scalar.cmpi .sgt v1 c512_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  let c0_i32_2 : BitVec 32 := 0#32
  ![v1.toNat, v5.toNat, c0_i32_0.toNat, c0_i32_1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  let c0_i32_2 : BitVec 32 := 0#32
  ![v1.toNat, v5.toNat, c0_i32_0.toNat, c0_i32_1.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40960x2048 : Shape := ⟨2, ![40960, 2048]⟩
abbrev S40 : Shape := ⟨1, ![40]⟩
abbrev S8x2048x7168 : Shape := ⟨3, ![8, 2048, 7168]⟩
abbrev S8x7168x2048 : Shape := ⟨3, ![8, 7168, 2048]⟩
abbrev S8x7168x40960 : Shape := ⟨3, ![8, 7168, 40960]⟩
abbrev S8x40960x7168 : Shape := ⟨3, ![8, 40960, 7168]⟩
abbrev S_ : Shape := ⟨0, ![]⟩
abbrev S8x40960x2048 : Shape := ⟨3, ![8, 40960, 2048]⟩
abbrev S40x1 : Shape := ⟨2, ![40, 1]⟩
abbrev S40x1024 : Shape := ⟨2, ![40, 1024]⟩
abbrev S40960 : Shape := ⟨1, ![40960]⟩
abbrev S1x40960 : Shape := ⟨2, ![1, 40960]⟩
abbrev S8 : Shape := ⟨1, ![8]⟩
abbrev S8x1 : Shape := ⟨2, ![8, 1]⟩
abbrev S8x40960 : Shape := ⟨2, ![8, 40960]⟩
abbrev S8x40960x1 : Shape := ⟨3, ![8, 40960, 1]⟩

abbrev nBuf : Space → Nat
  | .hbm => 39
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S40, .i32⟩
  | .hbm, ⟨2, _⟩ => ⟨S40, .i32⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S40960x2048, .f32⟩
  | .hbm, ⟨7, _⟩ => ⟨S8x7168x40960, .f32⟩
  | .hbm, ⟨8, _⟩ => ⟨S8x40960x7168, .f32⟩
  | .hbm, ⟨9, _⟩ => ⟨S8x7168x40960, .f32⟩
  | .hbm, ⟨10, _⟩ => ⟨S8x40960x7168, .f32⟩
  | .hbm, ⟨11, _⟩ => ⟨S8x40960x7168, .f32⟩
  | .hbm, ⟨12, _⟩ => ⟨S8x40960x7168, .f32⟩
  | .hbm, ⟨13, _⟩ => ⟨S_, .f32⟩
  | .hbm, ⟨14, _⟩ => ⟨S8x40960x7168, .f32⟩
  | .hbm, ⟨15, _⟩ => ⟨S8x40960x7168, .f32⟩
  | .hbm, ⟨16, _⟩ => ⟨S_, .f32⟩
  | .hbm, ⟨17, _⟩ => ⟨S8x40960x7168, .f32⟩
  | .hbm, ⟨18, _⟩ => ⟨S8x40960x7168, .f32⟩
  | .hbm, ⟨19, _⟩ => ⟨S8x40960x7168, .f32⟩
  | .hbm, ⟨20, _⟩ => ⟨S8x40960x7168, .f32⟩
  | .hbm, ⟨21, _⟩ => ⟨S8x40960x2048, .f32⟩
  | .hbm, ⟨22, _⟩ => ⟨S40x1, .i32⟩
  | .hbm, ⟨23, _⟩ => ⟨S40x1024, .i32⟩
  | .hbm, ⟨24, _⟩ => ⟨S40960, .i32⟩
  | .hbm, ⟨25, _⟩ => ⟨S1x40960, .i32⟩
  | .hbm, ⟨26, _⟩ => ⟨S8, .i32⟩
  | .hbm, ⟨27, _⟩ => ⟨S8x1, .i32⟩
  | .hbm, ⟨28, _⟩ => ⟨S8x40960, .i32⟩
  | .hbm, ⟨29, _⟩ => ⟨S8x40960, .i32⟩
  | .hbm, ⟨30, _⟩ => ⟨S8x40960, .i1⟩
  | .hbm, ⟨31, _⟩ => ⟨S8x40960x1, .i1⟩
  | .hbm, ⟨32, _⟩ => ⟨S_, .f32⟩
  | .hbm, ⟨33, _⟩ => ⟨S_, .f32⟩
  | .hbm, ⟨34, _⟩ => ⟨S8x40960x2048, .i1⟩
  | .hbm, ⟨35, _⟩ => ⟨S8x40960x2048, .f32⟩
  | .hbm, ⟨36, _⟩ => ⟨S8x40960x2048, .f32⟩
  | .hbm, ⟨37, _⟩ => ⟨S_, .f32⟩
  | .hbm, ⟨38, _⟩ => ⟨S40960x2048, .f32⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel2.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S16384x2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S16384x2048 : Shape := ⟨2, ![16384, 2048]⟩
abbrev S2048x4096 : Shape := ⟨2, ![2048, 4096]⟩
abbrev S4096 : Shape := ⟨1, ![4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S1x4096, .f32⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S2048x4096 : Shape := ⟨2, ![2048, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S4096, .f32⟩
  | .hbm, ⟨3, _⟩ => ⟨S16384x2048, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S16384x2048 : Shape := ⟨2, ![16384, 2048]⟩
abbrev S2048x4416 : Shape := ⟨2, ![2048, 4416]⟩
abbrev S2048x3328 : Shape := ⟨2, ![2048, 3328]⟩
abbrev S16384x3328 : Shape := ⟨2, ![16384, 3328]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4416, .f32⟩
  | .hbm, ⟨2, _⟩ => ⟨S2048x3328, .f32⟩
  | .hbm, ⟨3, _⟩ => ⟨S2048x3328, .bf16⟩
  | .hbm, ⟨4, _⟩ => ⟨S16384x3328, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x4416 : Shape := ⟨2, ![2048, 4416]⟩
abbrev S16384x4416 : Shape := ⟨2, ![16384, 4416]⟩
abbrev S16384x3328 : Shape := ⟨2, ![16384, 3328]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4416, .f32⟩
  | .hbm, ⟨2, _⟩ => ⟨S16384x2048, .f32⟩
  | .hbm, ⟨3, _⟩ => ⟨S16384x4416, .f32⟩
  | .hbm, ⟨4, _⟩ => ⟨S16384x3328, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S262144x128 : Shape := ⟨2, ![262144, 128]⟩
abbrev S16384x128 : Shape := ⟨2, ![16384, 128]⟩
abbrev S512x2048 : Shape := ⟨2, ![512, 2048]⟩
abbrev S8192x128 : Shape := ⟨2, ![8192, 128]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 17
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048, .f32⟩
  | .hbm, ⟨5, _⟩ => ⟨S2048x8, .f32⟩
  | .hbm, ⟨6, _⟩ => ⟨S_, .f32⟩
  | .hbm, ⟨7, _⟩ => ⟨S2048x128, .f32⟩
  | .hbm, ⟨8, _⟩ => ⟨S_, .i32⟩
  | .hbm, ⟨9, _⟩ => ⟨S1, .i32⟩
  | .hbm, ⟨10, _⟩ => ⟨S2048x128, .f32⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S16384x2048, .f32⟩
  | .hbm, ⟨15, _⟩ => ⟨S262144x128, .f32⟩
  | .hbm, ⟨16, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x128, .f32⟩
  | .local _ .vmem, ⟨8, _⟩ => ⟨S512x2048, .f32⟩
  | .local _ .vmem, ⟨9, _⟩ => ⟨S512x2048, .f32⟩
  | .local _ .vmem, ⟨10, _⟩ => ⟨S8192x128, .f32⟩
  | .local _ .vmem, ⟨11, _⟩ => ⟨S8192x128, .f32⟩
  | .local _ .vmem, ⟨12, _⟩ => ⟨S512x128, .f32⟩
  | .local _ .vmem, ⟨13, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x2048 : Shape := ⟨2, ![16384, 2048]⟩
abbrev S2048x2048 : Shape := ⟨2, ![2048, 2048]⟩
abbrev S2048 : Shape := ⟨1, ![2048]⟩
abbrev S2048x8 : Shape := ⟨2, ![2048, 8]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x120 : Shape := ⟨2, ![16384, 120]⟩
abbrev S16384x128 : Shape := ⟨2, ![16384, 128]⟩
abbrev S262144x128 : Shape := ⟨2, ![262144, 128]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048, .f32⟩
  | .hbm, ⟨5, _⟩ => ⟨S2048x8, .f32⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x8, .f32⟩
  | .hbm, ⟨29, _⟩ => ⟨S_, .f32⟩
  | .hbm, ⟨30, _⟩ => ⟨S16384x120, .f32⟩
  | .hbm, ⟨31, _⟩ => ⟨S16384x128, .f32⟩
  | .hbm, ⟨32, _⟩ => ⟨S262144x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel7.lean ====
abbrev S16384x2048 : Shape := ⟨2, ![16384, 2048]⟩
abbrev S2x8192 : Shape := ⟨2, ![2, 8192]⟩
abbrev S2048x4416 : Shape := ⟨2, ![2048, 4416]⟩
abbrev S512 : Shape := ⟨1, ![512]⟩
abbrev S512x1536 : Shape := ⟨2, ![512, 1536]⟩
abbrev S512x2048 : Shape := ⟨2, ![512, 2048]⟩
abbrev S16384x1 : Shape := ⟨2, ![16384, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2048x1024 : Shape := ⟨2, ![2048, 1024]⟩
abbrev S2048x64 : Shape := ⟨2, ![2048, 64]⟩
abbrev S2048x32 : Shape := ⟨2, ![2048, 32]⟩
abbrev S2048x1152 : Shape := ⟨2, ![2048, 1152]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S1x512 : Shape := ⟨2, ![1, 512]⟩
abbrev S2x8x8192x256 : Shape := ⟨4, ![2, 8, 8192, 256]⟩
abbrev S512x1 : Shape := ⟨2, ![512, 1]⟩
abbrev S1x8x512x256 : Shape := ⟨4, ![1, 8, 512, 256]⟩
abbrev S512x1152 : Shape := ⟨2, ![512, 1152]⟩
abbrev S512x128 : Shape := ⟨2, ![512, 128]⟩
abbrev S512x512 : Shape := ⟨2, ![512, 512]⟩
abbrev S1x1x512x128 : Shape := ⟨4, ![1, 1, 512, 128]⟩

abbrev nBuf : Space → Nat
  | .hbm => 49
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2x8192, .i32⟩
  | .hbm, ⟨2, _⟩ => ⟨S2048x4416, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S16384x1, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x32, .f32⟩
  | .hbm, ⟨23, _⟩ => ⟨S4x32, .f32⟩
  | .hbm, ⟨24, _⟩ => ⟨S128, .f32⟩
  | .hbm, ⟨25, _⟩ => ⟨S1x128, .f32⟩
  | .hbm, ⟨26, _⟩ => ⟨S2048x1024, .f32⟩
  | .hbm, ⟨27, _⟩ => ⟨S2048x64, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S2048x1152, .f32⟩
  | .hbm, ⟨33, _⟩ => ⟨S512x8x192, .f32⟩
  | .hbm, ⟨34, _⟩ => ⟨S512x8x64, .f32⟩
  | .hbm, ⟨35, _⟩ => ⟨S512x8x32, .f32⟩
  | .hbm, ⟨36, _⟩ => ⟨S512x8x32, .f32⟩
  | .hbm, ⟨37, _⟩ => ⟨S512x8x32, .f32⟩
  | .hbm, ⟨38, _⟩ => ⟨S512x8x64, .f32⟩
  | .hbm, ⟨39, _⟩ => ⟨S512x8x256, .f32⟩
  | .hbm, ⟨40, _⟩ => ⟨S512x2048, .f32⟩
  | .hbm, ⟨41, _⟩ => ⟨S2048x1152, .bf16⟩
  | .hbm, ⟨42, _⟩ => ⟨S512x2048, .bf16⟩
  | .hbm, ⟨43, _⟩ => ⟨S512x2048, .bf16⟩
  | .hbm, ⟨44, _⟩ => ⟨S1x512, .f32⟩
  | .hbm, ⟨45, _⟩ => ⟨S1x512, .f32⟩
  | .hbm, ⟨46, _⟩ => ⟨S2x8x8192x256, .bf16⟩
  | .hbm, ⟨47, _⟩ => ⟨S2x8x8192x256, .bf16⟩
  | .hbm, ⟨48, _⟩ => ⟨S2x8x8192x256, .bf16⟩
  | .local _ .vmem, ⟨0, _⟩ => ⟨S512x2048, .bf16⟩
  | .local _ .vmem, ⟨1, _⟩ => ⟨S512x2048, .bf16⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S2048x1152, .bf16⟩
  | .local _ .vmem, ⟨6, _⟩ => ⟨S1x512, .f32⟩
  | .local _ .vmem, ⟨7, _⟩ => ⟨S512x2048, .bf16⟩
  | .local _ .vmem, ⟨8, _⟩ => ⟨S1x512, .f32⟩
  | .local _ .vmem, ⟨9, _⟩ => ⟨S512x2048, .bf16⟩
  | .local _ .vmem, ⟨10, _⟩ => ⟨S1x8x512x256, .bf16⟩
  | .local _ .vmem, ⟨11, _⟩ => ⟨S1x8x512x256, .bf16⟩
  | .local _ .vmem, ⟨12, _⟩ => ⟨S1x8x512x256, .bf16⟩
  | .local _ .vmem, ⟨13, _⟩ => ⟨S1x8x512x256, .bf16⟩
  | .local _ .vmem, ⟨14, _⟩ => ⟨S1x8x512x256, .bf16⟩
  | .local _ .vmem, ⟨15, _⟩ => ⟨S1x8x512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S16384x2048 : Shape := ⟨2, ![16384, 2048]⟩
abbrev S2x8192 : Shape := ⟨2, ![2, 8192]⟩
abbrev S2048x4416 : Shape := ⟨2, ![2048, 4416]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S2048x512 : Shape := ⟨2, ![2048, 512]⟩
abbrev S16384x512 : Shape := ⟨2, ![16384, 512]⟩
abbrev S16384 : Shape := ⟨1, ![16384]⟩
abbrev S1x512 : Shape := ⟨2, ![1, 512]⟩
abbrev S512x8x192 : Shape := ⟨3, ![512, 8, 192]⟩
abbrev S512x8x32 : Shape := ⟨3, ![512, 8, 32]⟩
abbrev S512x8x64 : Shape := ⟨3, ![512, 8, 64]⟩
abbrev S16384x8x192 : Shape := ⟨3, ![16384, 8, 192]⟩
abbrev S16384x8x64 : Shape := ⟨3, ![16384, 8, 64]⟩
abbrev S16384x8x128 : Shape := ⟨3, ![16384, 8, 128]⟩
abbrev S16384x1x64 : Shape := ⟨3, ![16384, 1, 64]⟩
abbrev S16384x8x256 : Shape := ⟨3, ![16384, 8, 256]⟩
abbrev S512x8x256 : Shape := ⟨3, ![512, 8, 256]⟩
abbrev S2048x64 : Shape := ⟨2, ![2048, 64]⟩
abbrev S2048x32 : Shape := ⟨2, ![2048, 32]⟩
abbrev S2x8192x8x256 : Shape := ⟨4, ![2, 8192, 8, 256]⟩
abbrev S2x8x8192x256 : Shape := ⟨4, ![2, 8, 8192, 256]⟩

abbrev nBuf : Space → Nat
  | .hbm => 121
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192, .i32⟩
  | .hbm, ⟨2, _⟩ => ⟨S2048x4416, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S16384x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2x8192, .f32⟩
  | .hbm, ⟨23, _⟩ => ⟨S16384x1, .f32⟩
  | .hbm, ⟨24, _⟩ => ⟨S1x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x64, .f32⟩
  | .hbm, ⟨31, _⟩ => ⟨S16384x32, .f32⟩
  | .hbm, ⟨32, _⟩ => ⟨S16384x32, .f32⟩
  | .hbm, ⟨33, _⟩ => ⟨S16384x64, .f32⟩
  | .hbm, ⟨34, _⟩ => ⟨S2048x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S1x512, .f32⟩
  | .hbm, ⟨50, _⟩ => ⟨S16384x512, .f32⟩
  | .hbm, ⟨51, _⟩ => ⟨S16384x512, .f32⟩
  | .hbm, ⟨52, _⟩ => ⟨S512x8x192, .f32⟩
  | .hbm, ⟨53, _⟩ => ⟨S512x8x32, .f32⟩
  | .hbm, ⟨54, _⟩ => ⟨S512x8x32, .f32⟩
  | .hbm, ⟨55, _⟩ => ⟨S512x8x32, .f32⟩
  | .hbm, ⟨56, _⟩ => ⟨S512x8x64, .f32⟩
  | .hbm, ⟨57, _⟩ => ⟨S16384x8x192, .f32⟩
  | .hbm, ⟨58, _⟩ => ⟨S_, .f32⟩
  | .hbm, ⟨59, _⟩ => ⟨S16384x8x192, .f32⟩
  | .hbm, ⟨60, _⟩ => ⟨S16384x8x192, .f32⟩
  | .hbm, ⟨61, _⟩ => ⟨S16384x8x64, .f32⟩
  | .hbm, ⟨62, _⟩ => ⟨S_, .f32⟩
  | .hbm, ⟨63, _⟩ => ⟨S16384x8x64, .f32⟩
  | .hbm, ⟨64, _⟩ => ⟨S16384x8x64, .f32⟩
  | .hbm, ⟨65, _⟩ => ⟨S16384x8x128, .f32⟩
  | .hbm, ⟨66, _⟩ => ⟨S16384x8x64, .f32⟩
  | .hbm, ⟨67, _⟩ => ⟨S16384x1x64, .f32⟩
  | .hbm, ⟨68, _⟩ => ⟨S16384x8x64, .f32⟩
  | .hbm, ⟨69, _⟩ => ⟨S16384x8x64, .f32⟩
  | .hbm, ⟨70, _⟩ => ⟨S16384x1x64, .f32⟩
  | .hbm, ⟨71, _⟩ => ⟨S16384x8x64, .f32⟩
  | .hbm, ⟨72, _⟩ => ⟨S16384x8x64, .f32⟩
  | .hbm, ⟨73, _⟩ => ⟨S16384x8x256, .f32⟩
  | .hbm, ⟨74, _⟩ => ⟨S2048x512, .f32⟩
  | .hbm, ⟨75, _⟩ => ⟨S16384x512, .f32⟩
  | .hbm, ⟨76, _⟩ => ⟨S16384x512, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x512, .f32⟩
  | .hbm, ⟨88, _⟩ => ⟨S16384x512, .f32⟩
  | .hbm, ⟨89, _⟩ => ⟨S1x512, .f32⟩
  | .hbm, ⟨90, _⟩ => ⟨S16384x512, .f32⟩
  | .hbm, ⟨91, _⟩ => ⟨S16384x512, .f32⟩
  | .hbm, ⟨92, _⟩ => ⟨S512x8x256, .f32⟩
  | .hbm, ⟨93, _⟩ => ⟨S16384x8x256, .f32⟩
  | .hbm, ⟨94, _⟩ => ⟨S2048x64, .f32⟩
  | .hbm, ⟨95, _⟩ => ⟨S2048x32, .f32⟩
  | .hbm, ⟨96, _⟩ => ⟨S2048x32, .f32⟩
  | .hbm, ⟨97, _⟩ => ⟨S2048x32, .f32⟩
  | .hbm, ⟨98, _⟩ => ⟨S2048x64, .f32⟩
  | .hbm, ⟨99, _⟩ => ⟨S16384x64, .f32⟩
  | .hbm, ⟨100, _⟩ => ⟨S16384x64, .f32⟩
  | .hbm, ⟨101, _⟩ => ⟨S16384x64, .f32⟩
  | .hbm, ⟨102, _⟩ => ⟨S16384x64, .f32⟩
  | .hbm, ⟨103, _⟩ => ⟨S16384x64, .f32⟩
  | .hbm, ⟨104, _⟩ => ⟨S16384x1x64, .f32⟩
  | .hbm, ⟨105, _⟩ => ⟨S16384x8x64, .f32⟩
  | .hbm, ⟨106, _⟩ => ⟨S16384x8x128, .f32⟩
  | .hbm, ⟨107, _⟩ => ⟨S16384x8x256, .f32⟩
  | .hbm, ⟨108, _⟩ => ⟨S16384x8x128, .f32⟩
  | .hbm, ⟨109, _⟩ => ⟨S_, .f32⟩
  | .hbm, ⟨110, _⟩ => ⟨S16384x8x128, .f32⟩
  | .hbm, ⟨111, _⟩ => ⟨S16384x8x256, .f32⟩
  | .hbm, ⟨112, _⟩ => ⟨S2x8192x8x256, .f32⟩
  | .hbm, ⟨113, _⟩ => ⟨S2x8x8192x256, .f32⟩
  | .hbm, ⟨114, _⟩ => ⟨S2x8x8192x256, .bf16⟩
  | .hbm, ⟨115, _⟩ => ⟨S2x8192x8x256, .f32⟩
  | .hbm, ⟨116, _⟩ => ⟨S2x8x8192x256, .f32⟩
  | .hbm, ⟨117, _⟩ => ⟨S2x8x8192x256, .bf16⟩
  | .hbm, ⟨118, _⟩ => ⟨S2x8192x8x256, .f32⟩
  | .hbm, ⟨119, _⟩ => ⟨S2x8x8192x256, .f32⟩
  | .hbm, ⟨120, _⟩ => ⟨S2x8x8192x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩

abbrev nD : Nat := 1
abbrev τ : Topo := Topo.v7x

variable {F : FTy → Type} [FloatOps F]
-- ==== Reference8Ideal.lean ====
abbrev S16384x2048 : Shape := ⟨2, ![16384, 2048]⟩
abbrev S2x8192 : Shape := ⟨2, ![2, 8192]⟩
abbrev S2048x4416 : Shape := ⟨2, ![2048, 4416]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x4416 : Shape := ⟨2, ![16384, 4416]⟩
abbrev S16384x512 : Shape := ⟨2, ![16384, 512]⟩
abbrev S16384 : Shape := ⟨1, ![16384]⟩
abbrev S1x512 : Shape := ⟨2, ![1, 512]⟩
abbrev S16384x1536 : Shape := ⟨2, ![16384, 1536]⟩
abbrev S16384x8x192 : Shape := ⟨3, ![16384, 8, 192]⟩
abbrev S16384x8x32 : Shape := ⟨3, ![16384, 8, 32]⟩
abbrev S16384x1x32 : Shape := ⟨3, ![16384, 1, 32]⟩
abbrev S16384x8x128 : Shape := ⟨3, ![16384, 8, 128]⟩
abbrev S16384x8x256 : Shape := ⟨3, ![16384, 8, 256]⟩
abbrev S16384x64 : Shape := ⟨2, ![16384, 64]⟩
abbrev S16384x1x64 : Shape := ⟨3, ![16384, 1, 64]⟩
abbrev S16384x8x64 : Shape := ⟨3, ![16384, 8, 64]⟩
abbrev S2x8192x8x256 : Shape := ⟨4, ![2, 8192, 8, 256]⟩
abbrev S2x8x8192x256 : Shape := ⟨4, ![2, 8, 8192, 256]⟩

abbrev nBuf : Space → Nat
  | .hbm => 113
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x8192, .i32⟩
  | .hbm, ⟨2, _⟩ => ⟨S2048x4416, .f32⟩
  | .hbm, ⟨3, _⟩ => ⟨S512, .f32⟩
  | .hbm, ⟨4, _⟩ => ⟨S512x1536, .f32⟩
  | .hbm, ⟨5, _⟩ => ⟨S512, .f32⟩
  | .hbm, ⟨6, _⟩ => ⟨S512x2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2x8192, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x2048, .f32⟩
  | .hbm, ⟨30, _⟩ => ⟨S16384x4416, .f32⟩
  | .hbm, ⟨31, _⟩ => ⟨S16384x512, .f32⟩
  | .hbm, ⟨32, _⟩ => ⟨S16384x512, .f32⟩
  | .hbm, ⟨33, _⟩ => ⟨S16384x32, .f32⟩
  | .hbm, ⟨34, _⟩ => ⟨S16384x32, .f32⟩
  | .hbm, ⟨35, _⟩ => ⟨S16384x512, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x512, .f32⟩
  | .hbm, ⟨47, _⟩ => ⟨S16384x512, .f32⟩
  | .hbm, ⟨48, _⟩ => ⟨S1x512, .f32⟩
  | .hbm, ⟨49, _⟩ => ⟨S16384x512, .f32⟩
  | .hbm, ⟨50, _⟩ => ⟨S16384x512, .f32⟩
  | .hbm, ⟨51, _⟩ => ⟨S16384x1536, .f32⟩
  | .hbm, ⟨52, _⟩ => ⟨S16384x8x192, .f32⟩
  | .hbm, ⟨53, _⟩ => ⟨S_, .f32⟩
  | .hbm, ⟨54, _⟩ => ⟨S16384x8x192, .f32⟩
  | .hbm, ⟨55, _⟩ => ⟨S16384x8x192, .f32⟩
  | .hbm, ⟨56, _⟩ => ⟨S16384x8x32, .f32⟩
  | .hbm, ⟨57, _⟩ => ⟨S16384x8x32, .f32⟩
  | .hbm, ⟨58, _⟩ => ⟨S16384x1x32, .f32⟩
  | .hbm, ⟨59, _⟩ => ⟨S16384x1x32, .f32⟩
  | .hbm, ⟨60, _⟩ => ⟨S16384x8x128, .f32⟩
  | .hbm, ⟨61, _⟩ => ⟨S16384x8x32, .f32⟩
  | .hbm, ⟨62, _⟩ => ⟨S16384x8x32, .f32⟩
  | .hbm, ⟨63, _⟩ => ⟨S16384x8x32, .f32⟩
  | .hbm, ⟨64, _⟩ => ⟨S16384x8x32, .f32⟩
  | .hbm, ⟨65, _⟩ => ⟨S16384x8x32, .f32⟩
  | .hbm, ⟨66, _⟩ => ⟨S16384x8x32, .f32⟩
  | .hbm, ⟨67, _⟩ => ⟨S16384x8x32, .f32⟩
  | .hbm, ⟨68, _⟩ => ⟨S16384x8x32, .f32⟩
  | .hbm, ⟨69, _⟩ => ⟨S16384x8x32, .f32⟩
  | .hbm, ⟨70, _⟩ => ⟨S16384x8x256, .f32⟩
  | .hbm, ⟨71, _⟩ => ⟨S16384x32, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x32, .f32⟩
  | .hbm, ⟨77, _⟩ => ⟨S16384x64, .f32⟩
  | .hbm, ⟨78, _⟩ => ⟨S16384x1x64, .f32⟩
  | .hbm, ⟨79, _⟩ => ⟨S16384x8x64, .f32⟩
  | .hbm, ⟨80, _⟩ => ⟨S16384x512, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x512, .f32⟩
  | .hbm, ⟨92, _⟩ => ⟨S16384x512, .f32⟩
  | .hbm, ⟨93, _⟩ => ⟨S1x512, .f32⟩
  | .hbm, ⟨94, _⟩ => ⟨S16384x512, .f32⟩
  | .hbm, ⟨95, _⟩ => ⟨S16384x512, .f32⟩
  | .hbm, ⟨96, _⟩ => ⟨S16384x2048, .f32⟩
  | .hbm, ⟨97, _⟩ => ⟨S16384x8x256, .f32⟩
  | .hbm, ⟨98, _⟩ => ⟨S16384x8x128, .f32⟩
  | .hbm, ⟨99, _⟩ => ⟨S16384x8x256, .f32⟩
  | .hbm, ⟨100, _⟩ => ⟨S16384x8x128, .f32⟩
  | .hbm, ⟨101, _⟩ => ⟨S_, .f32⟩
  | .hbm, ⟨102, _⟩ => ⟨S16384x8x128, .f32⟩
  | .hbm, ⟨103, _⟩ => ⟨S16384x8x256, .f32⟩
  | .hbm, ⟨104, _⟩ => ⟨S2x8192x8x256, .f32⟩
  | .hbm, ⟨105, _⟩ => ⟨S2x8x8192x256, .f32⟩
  | .hbm, ⟨106, _⟩ => ⟨S2x8x8192x256, .bf16⟩
  | .hbm, ⟨107, _⟩ => ⟨S2x8192x8x256, .f32⟩
  | .hbm, ⟨108, _⟩ => ⟨S2x8x8192x256, .f32⟩
  | .hbm, ⟨109, _⟩ => ⟨S2x8x8192x256, .bf16⟩
  | .hbm, ⟨110, _⟩ => ⟨S2x8192x8x256, .f32⟩
  | .hbm, ⟨111, _⟩ => ⟨S2x8x8192x256, .f32⟩
  | .hbm, ⟨112, _⟩ => ⟨S2x8x8192x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Proof.Moe.Body.lean ====
/- The routed experts' kernel body run once, case by case of its conditionals: what the output's buffer holds after it. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put window_put_of_disjoint)
open Idealize.ShloMosaic.Pipeline (Dat Cfg Window BodyObligation BodyObligationLoose cellOf)

variable {F : FTy → Type} [FloatOps F]

local notation "𝕄" => MT nD τ sig Unit (Elt F) ℕ (UR sig nD τ) ℕ

abbrev tb0 : Memref sig .tc .smem S40 .i32 := Memref.whole main_arg1
abbrev tb1 : Memref sig .tc .smem S40 .i32 := Memref.whole main_arg2
abbrev sc0 : Memref sig .tc .vmem S512x2048 .bf16 := Memref.whole cc0_scratch0

/-- The word of the second table that the body reads at a grid point: how many of the tile's rows are used. -/
abbrev word (T1 : S40.Idx → Elt F .i32) (i : grid0.Coords) : Elt F .i32 :=
  View.readAt (Elt F) tb1.view (Rect.unit (s := S40) (k0_off1 i) S1.size (k0_off1_inb i)).toLoadRect T1 (Shape.Idx.first (numel1_S1.symm ▸ Nat.one_pos))

/-! ## What one run makes of the output's block -/

variable (x0 : S1024x2048.Idx → Elt F .bf16) (x1 x2 : S1x1x2048x512.Idx → Elt F .bf16) (x3 : S1x512x2048.Idx → Elt F .f32)

/-- The upper half of the rows advanced by one hidden tile. -/
def half0 (y : S1024x2048.Idx → Elt F .f32) : S1024x2048.Idx → Elt F .f32 :=
  put y ![0, 0] S512x2048.size (k0_pay5 (window x0 ![0, 0] S512x2048.size inb_S1024x2048_S512x2048_0_0) x1 x2
    (window y ![0, 0] S512x2048.size inb_S1024x2048_S512x2048_0_0) (k0_pay4 x3))
/-- The lower half of the rows advanced by one hidden tile. -/
def half1 (y : S1024x2048.Idx → Elt F .f32) : S1024x2048.Idx → Elt F .f32 :=
  put y ![512, 0] S512x2048.size (k0_pay6 (window x0 ![512, 0] S512x2048.size inb_S1024x2048_S512x2048_512_0) x1 x2
    (window y ![512, 0] S512x2048.size inb_S1024x2048_S512x2048_512_0) (k0_pay4 x3))
/-- All the rows advanced by one hidden tile. -/
def full (y : S1024x2048.Idx → Elt F .f32) : S1024x2048.Idx → Elt F .f32 := k0_pay3 x0 x1 x2 y (k0_pay2 x3)

/-- Puts over the two halves leave nothing of what was there before. -/
theorem put_halves (y y' : S1024x2048.Idx → Elt F .f32) (w w' : ((a : Fin 2) → Fin (S512x2048.size a)) → Elt F .f32) :
    put (s := S1024x2048) (put (s := S1024x2048) y ![0, 0] S512x2048.size w) ![512, 0] S512x2048.size w'
      = put (s := S1024x2048) (put (s := S1024x2048) y' ![0, 0] S512x2048.size w) ![512, 0] S512x2048.size w' := by
  funext j
  have hj0 : (j 0).val < 1024 := (j 0).isLt
  have hj1 : (j 1).val < 2048 := (j 1).isLt
  unfold put
  by_cases h : ∀ a : Fin 2, (![512, 0] : Fin 2 → ℕ) a ≤ (j a).val ∧ (j a).val < (![512, 0] : Fin 2 → ℕ) a + S512x2048.size a
  · rw [dif_pos h, dif_pos h]
  · rw [dif_neg h, dif_neg h]
    have h' : ∀ a : Fin 2, (![0, 0] : Fin 2 → ℕ) a ≤ (j a).val ∧ (j a).val < (![0, 0] : Fin 2 → ℕ) a + S512x2048.size a := by
      have hn : ¬ (512 ≤ (j 0).val) := fun hle => h (Fin.forall_fin_two.mpr ⟨⟨hle, by show _ < 512 + 512; omega⟩, ⟨Nat.zero_le _, by show _ < 0 + 2048; omega⟩⟩)
      exact Fin.forall_fin_two.mpr ⟨⟨Nat.zero_le _, by show _ < 0 + 512; omega⟩, ⟨Nat.zero_le _, by show _ < 0 + 2048; omega⟩⟩
    rw [dif_pos h', dif_pos h']

/-- A put over the upper half leaves the lower half. -/
theorem window_put_lower (y : S1024x2048.Idx → Elt F .f32) (w : ((a : Fin 2) → Fin (S512x2048.size a)) → Elt F .f32) :
    window (s := S1024x2048) (put (s := S1024x2048) y ![0, 0] S512x2048.size w) ![512, 0] S512x2048.size inb_S1024x2048_S512x2048_512_0
      = window (s := S1024x2048) y ![512, 0] S512x2048.size inb_S1024x2048_S512x2048_512_0 :=
  window_put_of_disjoint (s := S1024x2048) y ![0, 0] S512x2048.size ![512, 0] S512x2048.size _ w (0 : Fin 2) (Or.inr (by decide))

variable (c : Dev nD) (i : grid0.Coords) (arg4 : Memref sig .tc .vmem S1024x2048 .bf16) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x512x2048 .f32) (harg7 : arg7.IsWhole) (arg8 : Memref sig .tc .vmem S1024x2048 .f32) (harg8 : arg8.IsWhole) (T0 T1 : S40.Idx → Elt F .i32) (y4 : S1024x2048.Idx → Elt F .f32)

/-- One run of the body: from the operands, the tables, the output's block at `y4` and the scratch at anything, to the output's block at `yo`. -/
def BodyRun (yo : S1024x2048.Idx → Elt F .f32) : Prop :=
  ∀ (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tb0.view.loc (c : Thread nD τ) ↦{fullShare.right} T0)
          ∗ (tb1.view.loc (c : Thread nD τ) ↦{fullShare.right} T1)
          ∗ owns (c : Thread nD τ) arg8 fullShare y4
          ∗ (sc0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tb0.view.loc (c : Thread nD τ) ↦{fullShare.right} T0)
              ∗ (tb1.view.loc (c : Thread nD τ) ↦{fullShare.right} T1)
              ∗ owns (c : Thread nD τ) arg8 fullShare yo
              ∗ (∃ f, sc0.view.loc (c : Thread nD τ) ↦{fullShare} f)) -∗ K ⟨⟩))
          ⊢ wp frame (wpE (defs₀ (F := F)) Variants.none c none) Set.univ (cc0_moe_experts i tb0 (Memref.isWhole_whole _) tb1 (Memref.isWhole_whole _) arg4 harg4 arg5 harg5 arg6 harg6 arg7 harg7 arg8 harg8 sc0 (Memref.isWhole_whole _)) K

set_option backward.proofsInPublic true in
set_option maxHeartbeats 8000000 in
theorem run_zF (k0_h1 : k0_cond1 i = 1#1) (k0_h2 : k0_cond2 (word T1 i) = 1#1) (k0_h3 : ¬(k0_cond3 (word T1 i) = 1#1)) :
    BodyRun x0 x1 x2 x3 c i arg4 harg4 arg5 harg5 arg6 harg6 arg7 harg7 arg8 harg8 T0 T1 y4 (full x0 x1 x2 x3 k0_pay1) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = (k0_cond1 _ = _); exact k0_h1) | (guard_target = (k0_cond2 _ = _); exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_zF.sl.HO4_2 run_zF.sl.v36 run_zF.sl.HO4_1 run_zF.sl.v38 run_zF.sl.HS0_1 full
      rw [View.read_writes_full, View.readCov_full, View.readCov_full, View.readAt_rep_full, View.readAt_rep_full, View.readAt_rep_full, View.readAt_rep_full]
    iexists _
    iexact HS0

set_option backward.proofsInPublic true in
set_option maxHeartbeats 8000000 in
theorem run_zH2 (k0_h1 : k0_cond1 i = 1#1) (k0_h2 : ¬(k0_cond2 (word T1 i) = 1#1)) (k0_h3 : k0_cond3 (word T1 i) = 1#1) (k0_h4 : k0_cond4 (word T1 i) = 1#1) (k0_h5 : k0_cond5 (word T1 i) = 1#1) :
    BodyRun x0 x1 x2 x3 c i arg4 harg4 arg5 harg5 arg6 harg6 arg7 harg7 arg8 harg8 T0 T1 y4 (half1 x0 x1 x2 x3 (half0 x0 x1 x2 x3 k0_pay1)) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = (k0_cond1 _ = _); exact k0_h1) | (guard_target = ¬(k0_cond2 _ = _); exact k0_h2) | (guard_target = (k0_cond3 _ = _); exact k0_h3) | (guard_target = (k0_cond4 _ = _); exact k0_h4) | (guard_target = (k0_cond5 _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_zH2.sl.HO4_3 run_zH2.sl.v42_1 run_zH2.sl.HO4_2 run_zH2.sl.v42 run_zH2.sl.HO4_1 run_zH2.sl.v44 run_zH2.sl.HS0_1 half1 half0
      rw [View.readCov_full sc0.view]
      unfold View.readCov
      rw [View.readAt_unit arg8.view _ _ rfl inb_S1024x2048_S512x2048_0_0, View.readAt_unit arg8.view _ _ rfl inb_S1024x2048_S512x2048_512_0, View.read_writes_full, View.read_writes_cons_put _ _ _ _ _ rfl, View.read_writes_cons_put _ _ _ _ _ rfl, View.read_writes_full, window_put_lower, window_put_lower, View.readAt_rep_unit arg4.view x0 _ rfl inb_S1024x2048_S512x2048_0_0, View.readAt_rep_unit arg4.view x0 _ rfl inb_S1024x2048_S512x2048_512_0, View.readAt_rep_full arg5.view, View.readAt_rep_full arg6.view, View.readAt_rep_full arg7.view]
    iexists _
    iexact HS0

set_option backward.proofsInPublic true in
set_option maxHeartbeats 8000000 in
theorem run_zH1 (k0_h1 : k0_cond1 i = 1#1) (k0_h2 : ¬(k0_cond2 (word T1 i) = 1#1)) (k0_h3 : k0_cond3 (word T1 i) = 1#1) (k0_h4 : k0_cond4 (word T1 i) = 1#1) (k0_h5 : ¬(k0_cond5 (word T1 i) = 1#1)) :
    BodyRun x0 x1 x2 x3 c i arg4 harg4 arg5 harg5 arg6 harg6 arg7 harg7 arg8 harg8 T0 T1 y4 (half0 x0 x1 x2 x3 k0_pay1) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = (k0_cond1 _ = _); exact k0_h1) | (guard_target = ¬(k0_cond2 _ = _); exact k0_h2) | (guard_target = (k0_cond3 _ = _); exact k0_h3) | (guard_target = (k0_cond4 _ = _); exact k0_h4) | (guard_target = ¬(k0_cond5 _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_zH1.sl.HO4_2 run_zH1.sl.v42 run_zH1.sl.HO4_1 run_zH1.sl.v44 run_zH1.sl.HS0_1 half0
      rw [View.read_writes_cons_put _ _ _ _ _ rfl, View.read_writes_full, View.readCov_full sc0.view]
      unfold View.readCov
      rw [View.readAt_unit arg8.view _ _ rfl inb_S1024x2048_S512x2048_0_0, View.read_writes_full, View.readAt_rep_unit arg4.view x0 _ rfl inb_S1024x2048_S512x2048_0_0, View.readAt_rep_full arg5.view, View.readAt_rep_full arg6.view, View.readAt_rep_full arg7.view]
    iexists _
    iexact HS0

set_option backward.proofsInPublic true in
set_option maxHeartbeats 8000000 in
theorem run_zN (k0_h1 : k0_cond1 i = 1#1) (k0_h2 : ¬(k0_cond2 (word T1 i) = 1#1)) (k0_h3 : ¬(k0_cond3 (word T1 i) = 1#1)) :
    BodyRun x0 x1 x2 x3 c i arg4 harg4 arg5 harg5 arg6 harg6 arg7 harg7 arg8 harg8 T0 T1 y4 k0_pay1 := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = (k0_cond1 _ = _); exact k0_h1) | (guard_target = ¬(k0_cond2 _ = _); exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_zN.sl.HO4_1
      rw [View.read_writes_full]
    iexists _
    iexact HS0

set_option backward.proofsInPublic true in
set_option maxHeartbeats 8000000 in
theorem run_kF (k0_h1 : ¬(k0_cond1 i = 1#1)) (k0_h2 : k0_cond2 (word T1 i) = 1#1) (k0_h3 : ¬(k0_cond3 (word T1 i) = 1#1)) :
    BodyRun x0 x1 x2 x3 c i arg4 harg4 arg5 harg5 arg6 harg6 arg7 harg7 arg8 harg8 T0 T1 y4 (full x0 x1 x2 x3 y4) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = ¬(k0_cond1 _ = _); exact k0_h1) | (guard_target = (k0_cond2 _ = _); exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_kF.sl.HO4_1 run_kF.sl.v38 run_kF.sl.HS0_1 full
      rw [View.read_writes_full, View.readCov_full, View.readAt_full arg8.view, hf4, View.readAt_rep_full, View.readAt_rep_full, View.readAt_rep_full, View.readAt_rep_full]
    iexists _
    iexact HS0

set_option backward.proofsInPublic true in
set_option maxHeartbeats 8000000 in
theorem run_kH2 (k0_h1 : ¬(k0_cond1 i = 1#1)) (k0_h2 : ¬(k0_cond2 (word T1 i) = 1#1)) (k0_h3 : k0_cond3 (word T1 i) = 1#1) (k0_h4 : k0_cond4 (word T1 i) = 1#1) (k0_h5 : k0_cond5 (word T1 i) = 1#1) :
    BodyRun x0 x1 x2 x3 c i arg4 harg4 arg5 harg5 arg6 harg6 arg7 harg7 arg8 harg8 T0 T1 y4 (half1 x0 x1 x2 x3 (half0 x0 x1 x2 x3 y4)) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = ¬(k0_cond1 _ = _); exact k0_h1) | (guard_target = ¬(k0_cond2 _ = _); exact k0_h2) | (guard_target = (k0_cond3 _ = _); exact k0_h3) | (guard_target = (k0_cond4 _ = _); exact k0_h4) | (guard_target = (k0_cond5 _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_kH2.sl.HO4_2 run_kH2.sl.v42 run_kH2.sl.v44 run_kH2.sl.HS0_1 half1 half0
      rw [View.read_writes_cons_put _ _ _ _ _ rfl, View.read_writes_cons_put _ _ _ _ _ rfl, View.readCov_full sc0.view, window_put_lower, View.readAt_unit arg8.view _ _ rfl inb_S1024x2048_S512x2048_0_0, View.readAt_unit arg8.view _ _ rfl inb_S1024x2048_S512x2048_512_0, hf4, View.readAt_rep_unit arg4.view x0 _ rfl inb_S1024x2048_S512x2048_0_0, View.readAt_rep_unit arg4.view x0 _ rfl inb_S1024x2048_S512x2048_512_0, View.readAt_rep_full arg5.view, View.readAt_rep_full arg6.view, View.readAt_rep_full arg7.view]
      exact put_halves _ y4 _ _
    iexists _
    iexact HS0

set_option backward.proofsInPublic true in
set_option maxHeartbeats 8000000 in
theorem run_kH1 (k0_h1 : ¬(k0_cond1 i = 1#1)) (k0_h2 : ¬(k0_cond2 (word T1 i) = 1#1)) (k0_h3 : k0_cond3 (word T1 i) = 1#1) (k0_h4 : k0_cond4 (word T1 i) = 1#1) (k0_h5 : ¬(k0_cond5 (word T1 i) = 1#1)) :
    BodyRun x0 x1 x2 x3 c i arg4 harg4 arg5 harg5 arg6 harg6 arg7 harg7 arg8 harg8 T0 T1 y4 (half0 x0 x1 x2 x3 y4) := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = ¬(k0_cond1 _ = _); exact k0_h1) | (guard_target = ¬(k0_cond2 _ = _); exact k0_h2) | (guard_target = (k0_cond3 _ = _); exact k0_h3) | (guard_target = (k0_cond4 _ = _); exact k0_h4) | (guard_target = ¬(k0_cond5 _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      unfold run_kH1.sl.v44 run_kH1.sl.HS0_1 half0
      rw [View.read_writes_cons_put _ _ _ _ _ rfl, View.writes_nil, View.readCov_full, View.readAt_unit arg8.view _ _ rfl inb_S1024x2048_S512x2048_0_0, hf4, View.readAt_rep_unit arg4.view x0 _ rfl inb_S1024x2048_S512x2048_0_0, View.readAt_rep_full arg5.view, View.readAt_rep_full arg6.view, View.readAt_rep_full arg7.view]
    iexists _
    iexact HS0

set_option backward.proofsInPublic true in
set_option maxHeartbeats 8000000 in
theorem run_kN (k0_h1 : ¬(k0_cond1 i = 1#1)) (k0_h2 : ¬(k0_cond2 (word T1 i) = 1#1)) (k0_h3 : ¬(k0_cond3 (word T1 i) = 1#1)) :
    BodyRun x0 x1 x2 x3 c i arg4 harg4 arg5 harg5 arg6 harg6 arg7 harg7 arg8 harg8 T0 T1 y4 y4 := by
    intro xa0 K
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : sc0.IsWhole := Memref.isWhole_whole _
    have hT0 : tb0.IsWhole := Memref.isWhole_whole _
    have hT1 : tb1.IsWhole := Memref.isWhole_whole _
    sl_exec! (disch := first | (guard_target = ¬(k0_cond1 _ = _); exact k0_h1) | (guard_target = ¬(k0_cond2 _ = _); exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; swap
      iexact HO4
      ipureintro
      exact hf4
    iexists _
    iexact HS0

end Cert.KernelIdeal.Moe

end
-- ==== Proof.Moe.Step.lean ====
/- One point of the routed experts' pipeline as a function of what the output's buffer held: the cases of the body's conditionals together. -/
module

public import proofs.«01_k».proof.Proof.Moe.Body
public import Idealize.ShloMosaic.Lib.WordCmp

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put window_put_of_disjoint)
open Idealize.ShloMosaic.Pipeline (Dat Cfg Window BodyObligation BodyObligationLoose cellOf)

open Idealize.ShloMosaic.WordCmp
variable {F : FTy → Type} [FloatOps F]

/-! ## The conditionals as comparisons -/

theorem ne_extui : ∀ b : BitVec 1, Scalar.cmpi .ne (Scalar.extui b : BitVec 32) 0#32 = b := by decide

theorem ofBool_eq_one (p : Prop) [Decidable p] : BitVec.ofBool (decide p) = 1#1 ↔ p := by
  by_cases h : p <;> simp [h]

theorem and_eq_one : ∀ a b : BitVec 1, Scalar.andi a b = 1#1 ↔ a = 1#1 ∧ b = 1#1 := by decide

theorem cond2_iff (v : BitVec 32) : k0_cond2 v = 1#1 ↔ v = 1024#32 := by
  unfold k0_cond2; dsimp only; rw [ne_extui]
  exact (iff_of_eq (congrArg (· = 1#1) (cmpi_eq_eq v 1024#32))).trans (ofBool_eq_one _)

theorem cond4_iff (v : BitVec 32) : k0_cond4 v = 1#1 ↔ 0 < v.toInt := by
  unfold k0_cond4; dsimp only; rw [ne_extui]
  exact (iff_of_eq (congrArg (· = 1#1) (cmpi_sgt_eq v 0#32))).trans (ofBool_eq_one _)

theorem cond5_iff (v : BitVec 32) : k0_cond5 v = 1#1 ↔ 512 < v.toInt := by
  unfold k0_cond5; dsimp only; rw [ne_extui]
  exact (iff_of_eq (congrArg (· = 1#1) (cmpi_sgt_eq v 512#32))).trans (ofBool_eq_one _)

theorem cond3_iff (v : BitVec 32) : k0_cond3 v = 1#1 ↔ 0 < v.toInt ∧ v.toInt < 1024 := by
  unfold k0_cond3; dsimp only; rw [ne_extui, and_eq_one]
  exact and_congr ((iff_of_eq (congrArg (· = 1#1) (cmpi_sgt_eq v 0#32))).trans (ofBool_eq_one _))
    ((iff_of_eq (congrArg (· = 1#1) (cmpi_slt_eq v 1024#32))).trans (ofBool_eq_one _))

theorem cond1_iff (i : grid0.Coords) : k0_cond1 i = 1#1 ↔ (i 1).val = 0 := by
  unfold k0_cond1; dsimp only; rw [ne_extui]
  refine (iff_of_eq (congrArg (· = 1#1) (cmpi_eq_eq (BitVec.ofNat 32 (i 1).val) 0#32))).trans ((ofBool_eq_one _).trans ?_)
  have h : (i 1).val < 14 := (i 1).isLt
  constructor
  · intro e
    have e' := congrArg BitVec.toNat e
    rw [BitVec.toNat_ofNat, Nat.mod_eq_of_lt (by omega)] at e'
    exact e'
  · intro e; rw [e]

/-! ## One point -/

variable (x0 : S1024x2048.Idx → Elt F .bf16) (x1 x2 : S1x1x2048x512.Idx → Elt F .bf16) (x3 : S1x512x2048.Idx → Elt F .f32)

/-- What a point makes of the output's block `y`, the tile having `n` used rows. -/
def stepO (i : grid0.Coords) (n : BitVec 32) (y : S1024x2048.Idx → Elt F .f32) : S1024x2048.Idx → Elt F .f32 :=
  let y0 := if k0_cond1 i = 1#1 then k0_pay1 else y
  if n = 1024#32 then full x0 x1 x2 x3 y0
  else if 0 < n.toInt ∧ n.toInt < 1024 then
    (if 512 < n.toInt then half1 x0 x1 x2 x3 (half0 x0 x1 x2 x3 y0) else half0 x0 x1 x2 x3 y0)
  else y0

/-- At a column's first point the old contents do not matter. -/
theorem stepO_first (i : grid0.Coords) (n : BitVec 32) (h : k0_cond1 i = 1#1) (y y' : S1024x2048.Idx → Elt F .f32) :
    stepO x0 x1 x2 x3 i n y = stepO x0 x1 x2 x3 i n y' := by
  unfold stepO; simp only [if_pos h]

/-- A point that stores nothing. -/
theorem stepO_idle (i : grid0.Coords) (n : BitVec 32) (h : ¬ k0_cond1 i = 1#1) (h2 : ¬ k0_cond2 n = 1#1)
    (h3 : ¬ (k0_cond3 n = 1#1 ∧ k0_cond4 n = 1#1)) (y : S1024x2048.Idx → Elt F .f32) :
    stepO x0 x1 x2 x3 i n y = y := by
  rw [cond2_iff] at h2
  rw [cond3_iff, cond4_iff] at h3
  unfold stepO; simp only [if_neg h, if_neg h2]
  rw [if_neg (fun hc => h3 ⟨hc, hc.1⟩)]

variable (c : Dev nD) (i : grid0.Coords) (arg4 : Memref sig .tc .vmem S1024x2048 .bf16) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x512x2048 .f32) (harg7 : arg7.IsWhole) (arg8 : Memref sig .tc .vmem S1024x2048 .f32) (harg8 : arg8.IsWhole) (T0 T1 : S40.Idx → Elt F .i32) (y4 : S1024x2048.Idx → Elt F .f32)

/-- The body at a point, whatever its conditionals say. -/
theorem run_all : BodyRun x0 x1 x2 x3 c i arg4 harg4 arg5 harg5 arg6 harg6 arg7 harg7 arg8 harg8 T0 T1 y4
    (stepO x0 x1 x2 x3 i (word T1 i) y4) := by
  unfold stepO
  by_cases h2 : word T1 i = 1024#32
  · have h3 : ¬ k0_cond3 (word T1 i) = 1#1 := by
      rw [cond3_iff, h2]; decide
    by_cases h1 : k0_cond1 i = 1#1
    · simp only [if_pos h1, if_pos h2]
      exact run_zF x0 x1 x2 x3 c i arg4 harg4 arg5 harg5 arg6 harg6 arg7 harg7 arg8 harg8 T0 T1 y4 h1 ((cond2_iff _).mpr h2) h3
    · simp only [if_neg h1, if_pos h2]
      exact run_kF x0 x1 x2 x3 c i arg4 harg4 arg5 harg5 arg6 harg6 arg7 harg7 arg8 harg8 T0 T1 y4 h1 ((cond2_iff _).mpr h2) h3
  · have h2' : ¬ k0_cond2 (word T1 i) = 1#1 := fun hc => h2 ((cond2_iff _).mp hc)
    by_cases h3 : 0 < (word T1 i).toInt ∧ (word T1 i).toInt < 1024
    · have h3' := (cond3_iff _).mpr h3
      have h4' := (cond4_iff _).mpr h3.1
      by_cases h5 : 512 < (word T1 i).toInt
      · by_cases h1 : k0_cond1 i = 1#1
        · simp only [if_pos h1, if_neg h2, if_pos h3, if_pos h5]
          exact run_zH2 x0 x1 x2 x3 c i arg4 harg4 arg5 harg5 arg6 harg6 arg7 harg7 arg8 harg8 T0 T1 y4 h1 h2' h3' h4' ((cond5_iff _).mpr h5)
        · simp only [if_neg h1, if_neg h2, if_pos h3, if_pos h5]
          exact run_kH2 x0 x1 x2 x3 c i arg4 harg4 arg5 harg5 arg6 harg6 arg7 harg7 arg8 harg8 T0 T1 y4 h1 h2' h3' h4' ((cond5_iff _).mpr h5)
      · have h5' : ¬ k0_cond5 (word T1 i) = 1#1 := fun hc => h5 ((cond5_iff _).mp hc)
        by_cases h1 : k0_cond1 i = 1#1
        · simp only [if_pos h1, if_neg h2, if_pos h3, if_neg h5]
          exact run_zH1 x0 x1 x2 x3 c i arg4 harg4 arg5 harg5 arg6 harg6 arg7 harg7 arg8 harg8 T0 T1 y4 h1 h2' h3' h4' h5'
        · simp only [if_neg h1, if_neg h2, if_pos h3, if_neg h5]
          exact run_kH1 x0 x1 x2 x3 c i arg4 harg4 arg5 harg5 arg6 harg6 arg7 harg7 arg8 harg8 T0 T1 y4 h1 h2' h3' h4' h5'
    · have h3' : ¬ k0_cond3 (word T1 i) = 1#1 := fun hc => h3 ((cond3_iff _).mp hc)
      by_cases h1 : k0_cond1 i = 1#1
      · simp only [if_pos h1, if_neg h2, if_neg h3]
        exact run_zN x0 x1 x2 x3 c i arg4 harg4 arg5 harg5 arg6 harg6 arg7 harg7 arg8 harg8 T0 T1 y4 h1 h2' h3'
      · simp only [if_neg h1, if_neg h2, if_neg h3]
        exact run_kN x0 x1 x2 x3 c i arg4 harg4 arg5 harg5 arg6 harg6 arg7 harg7 arg8 harg8 T0 T1 y4 h1 h2' h3'

end Cert.KernelIdeal.Moe

end
-- ==== Proof.Moe.Frame.lean ====
/- The routed experts' pipeline at any admissible tables: what each buffer holds at each point, the body's obligation and the run. -/
module

public import proofs.«01_k».proof.Proof.Moe.Step
public import Idealize.ShloMosaic.Lib.Pipeline.Frame
public import Idealize.ShloMosaic.Lib.Pipeline.Quiescent
public import Idealize.ShloMosaic.Lib.Claim

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put window_put_of_disjoint)
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables' words -/

theorem off1_val (i : grid0.Coords) (a : Fin 1) : k0_off1 i a = (i 0).val := by
  have h : (i 0).val < 40 := (i 0).isLt
  fin_cases a
  show (Scalar.indexCast (BitVec.ofNat 32 (i 0).val)).toNat = _
  have e : ∀ n : ℕ, n < 40 → (Scalar.indexCast (BitVec.ofNat 32 n)).toNat = n := by decide
  exact e _ h

/-- Position `i` of a table. -/
abbrev tix (i : grid0.Coords) : S40.Idx := fun a => ⟨k0_off1 i a, by rw [off1_val]; fin_cases a; exact (i 0).isLt⟩

theorem word_eq (T1 : S40.Idx → Elt F .i32) (i : grid0.Coords) : word T1 i = T1 (tix i) := by
  show T1 _ = T1 _
  congr 1

variable (a : (pcfg0 (F := F)).Adm)

abbrev cfgA : Pipeline.Cfg sig Λ₀ := cfg0 a
abbrev crd (t : Fin (cfgA a).N) : grid0.Coords := (cfgA a).grid.coords t

theorem atD_eq (pf : pre0.Contents (Elt F)) (i : grid0.Coords) : pf.atD 1 (k0_off1 i) = word (pf 1) i :=
  (dif_pos (show ∀ x : Fin 1, k0_off1 i x + 1 ≤ S40.size x from fun x => by rw [off1_val]; fin_cases x; exact (i 0).isLt)).trans (word_eq (pf 1) i).symm

theorem idle_bool (b : BitVec 1) (n n' : BitVec 32) (e : n = n')
    (h : (!(b == 1#1) && !(k0_cond2 n == 1#1) && !(k0_cond3 n == 1#1 && k0_cond4 n == 1#1) && !(k0_cond3 n == 1#1 && k0_cond5 n == 1#1)) = true) :
    (¬ b = 1#1) ∧ (¬ k0_cond2 n' = 1#1) ∧ ¬ (k0_cond3 n' = 1#1 ∧ k0_cond4 n' = 1#1) := by
  subst e
  simp only [Bool.and_eq_true, Bool.not_eq_true', beq_eq_false_iff_ne, ne_eq, Bool.and_eq_false_iff] at h
  obtain ⟨⟨⟨h1, h2⟩, h3⟩, -⟩ := h
  exact ⟨h1, h2, fun hc => h3.elim (fun h => h hc.1) (fun h => h hc.2)⟩

theorem crd0 (t : Fin (cfgA a).N) : (crd a t 0).val = t.val / 14 % 40 := Pipeline.Grid.coords_val (G := grid0) t 0 (S := 14) (B := 40) (by decide) rfl
theorem crd1 (t : Fin (cfgA a).N) : (crd a t 1).val = t.val % 14 := by
  have := Pipeline.Grid.coords_val (G := grid0) t 1 (S := 1) (B := 14) (by decide) rfl
  rw [Nat.div_one] at this; exact this

abbrev ms0_0 (t : Fin (cfgA a).N) : Memref sig .tc .vmem S1024x2048 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1x2048x512 .bf16 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1x2048x512 .bf16 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S1024x2048 .f32 := spec0_4.stage ((cfgA a).slots t (4 : Fin 5))
abbrev hs0_4 (t : Fin (cfgA a).N) : (ms0_4 a t).IsWhole := hstage0_4 (((cfgA a).slots t (4 : Fin 5)).cast nbuf0_4)

/-- The output's block is written back at a column's last point. -/
theorem flush4 (t : Fin (cfgA a).N) : ((cfgA a).win (4 : Fin 5)).flush t = true ↔ t.val % 14 = 13 :=
  Pipeline.Window.flush_reads (win0 a 4) rfl 0 (show 1 < grid0.bound 0 by decide) (show grid0.fixedAfter reads0_4 0 = true by decide) (Pipeline.Window.sep_of_coord (G := grid0) cc0_transform_4 0 0 (fun _ => rfl) (by decide)) (P := 14) (m := 13) (show grid0.stride 0 = 14 by decide) rfl t

theorem idle4 (t : Fin (cfgA a).N) (h : (cfgA a).idle (4 : Fin 5) ((cfgA a).grid.coords t) = true) :
    (¬ k0_cond1 (crd a t) = 1#1) ∧ (¬ k0_cond2 (word (a.1 1) (crd a t)) = 1#1)
      ∧ ¬ (k0_cond3 (word (a.1 1) (crd a t)) = 1#1 ∧ k0_cond4 (word (a.1 1) (crd a t)) = 1#1) := idle_bool _ _ _ (atD_eq a.1 (crd a t)) h

/-- Within a column the output's buffer holds what the points before left. -/
theorem fresh4 : ∀ n : ℕ, n < (cfgA a).N → n % 14 ≠ 0 → (cfgA a).fresh (4 : Fin 5) n = false
  | 0, _, h0 => absurd rfl h0
  | n + 1, hn, h0 => by
    have hn' : n < (cfgA a).N := Nat.lt_of_succ_lt hn
    rw [Pipeline.Cfg.fresh_succ (cfgA a) (4 : Fin 5) n hn', Bool.or_eq_false_iff, Bool.and_eq_false_iff]
    refine ⟨Bool.eq_false_iff.mpr fun hc => ?_, ?_⟩
    · have := (flush4 a ⟨n, hn'⟩).mp hc
      simp only at this; omega
    · by_cases hz : n % 14 = 0
      · refine Or.inl (Bool.eq_false_iff.mpr fun hc => (idle4 a ⟨n, hn'⟩ hc).1 ?_)
        rw [cond1_iff, crd1]; exact hz
      · exact Or.inr (fresh4 n hn' hz)

variable (V : (c : Dev nD) → (b : Ref sig .tc) → Buf (Elt F) ((c : Thread nD τ).loc b))

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V c (Pipeline.arrRef spec0 w))

/-- What the output's current buffer holds before position `n`. -/
def acc (c : Dev nD) : ℕ → S1024x2048.Idx → Elt F .f32
  | 0 => k0_pay1
  | n + 1 => if h : n < (cfgA a).N then
      stepO (iblk a V c (0 : Fin 5) ⟨n, h⟩) (iblk a V c (1 : Fin 5) ⟨n, h⟩) (iblk a V c (2 : Fin 5) ⟨n, h⟩) (iblk a V c (3 : Fin 5) ⟨n, h⟩)
        (crd a ⟨n, h⟩) (word (a.1 1) (crd a ⟨n, h⟩)) (acc c n)
    else acc c n

theorem acc_succ (c : Dev nD) (t : Fin (cfgA a).N) : acc a V c (t.val + 1)
    = stepO (iblk a V c (0 : Fin 5) t) (iblk a V c (1 : Fin 5) t) (iblk a V c (2 : Fin 5) t) (iblk a V c (3 : Fin 5) t)
        (crd a t) (word (a.1 1) (crd a t)) (acc a V c t.val) := by
  show (if h : t.val < (cfgA a).N then _ else _) = _
  rw [dif_pos t.isLt]

theorem acc_idle (c : Dev nD) (t : Fin (cfgA a).N) (h : (cfgA a).idle (4 : Fin 5) ((cfgA a).grid.coords t) = true) :
    acc a V c (t.val + 1) = acc a V c t.val := by
  rw [acc_succ]
  obtain ⟨h1, h2, h3⟩ := idle4 a t h
  exact stepO_idle _ _ _ _ _ _ h1 h2 h3 _

/-- The proof data of the one pipeline on core `c`. -/
def dats (_ : Fin 1) (c : Dev nD) : Dat τ (Elt F) Unit ℕ (UR sig nD τ) ℕ (cfgA a) c where
  A w := V c (Pipeline.arrRef spec0 w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => acc a V c (t.val + 1)
  Φ _ := iprop(Pipeline.ΦA spec0 c ∗ Pipeline.ΦT pre0 a.1 c)
  q _ := fullShare
  owed _ := 0

theorem after0_0 (c : Dev nD) (t : Fin (cfgA a).N) : (dats a V 0 c).after (0 : Fin 5) t = iblk a V c (0 : Fin 5) t := rfl
theorem after0_1 (c : Dev nD) (t : Fin (cfgA a).N) : (dats a V 0 c).after (1 : Fin 5) t = iblk a V c (1 : Fin 5) t := rfl
theorem after0_2 (c : Dev nD) (t : Fin (cfgA a).N) : (dats a V 0 c).after (2 : Fin 5) t = iblk a V c (2 : Fin 5) t := rfl
theorem after0_3 (c : Dev nD) (t : Fin (cfgA a).N) : (dats a V 0 c).after (3 : Fin 5) t = iblk a V c (3 : Fin 5) t := rfl
theorem after0_4 (c : Dev nD) (t : Fin (cfgA a).N) : (dats a V 0 c).after (4 : Fin 5) t = acc a V c (t.val + 1) := rfl

theorem before0_0 (c : Dev nD) (t : Fin (cfgA a).N) (d) : (dats a V 0 c).before (0 : Fin 5) t d = iblk a V c (0 : Fin 5) t :=
  ((dats a V 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a V 0 c).before (1 : Fin 5) t d = iblk a V c (1 : Fin 5) t :=
  ((dats a V 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a V 0 c).before (2 : Fin 5) t d = iblk a V c (2 : Fin 5) t :=
  ((dats a V 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a V 0 c).before (3 : Fin 5) t d = iblk a V c (3 : Fin 5) t :=
  ((dats a V 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA a).N) (d) :
    (dats a V 0 c).before (4 : Fin 5) t d = if (cfgA a).fresh (4 : Fin 5) t.val then d else acc a V c t.val := by
  rw [(dats a V 0 c).before_out_traj (4 : Fin 5) rfl (fun _ _ => rfl) (fun t ht hi _ => by
    rw [after0_4, after0_4, acc_idle a V c t hi]
    congr 1
    show t.val = t.val - 1 + 1
    omega) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]
    congr 1
    omega

/-- One point takes what the buffer held to what it holds before the next. -/
theorem step_before (c : Dev nD) (t : Fin (cfgA a).N) (d) :
    stepO (iblk a V c (0 : Fin 5) t) (iblk a V c (1 : Fin 5) t) (iblk a V c (2 : Fin 5) t) (iblk a V c (3 : Fin 5) t)
        (crd a t) (word (a.1 1) (crd a t)) ((dats a V 0 c).before (4 : Fin 5) t d) = acc a V c (t.val + 1) := by
  rw [before0_4, acc_succ]
  by_cases hz : t.val % 14 = 0
  · exact stepO_first _ _ _ _ _ _ (by rw [cond1_iff, crd1]; exact hz) _ _
  · rw [fresh4 a t.val t.isLt hz]; rfl

/-! ## The body's obligation -/

abbrev bodyAt0 (t : Fin (cfgA a).N) : Prog (TpuEff nD τ sig (Elt F) Λ₀ .tc) PUnit :=
  cc0_moe_experts (crd a t) tb0 (Memref.isWhole_whole _) tb1 (Memref.isWhole_whole _) (ms0_0 a t) (hs0_0 a t) (ms0_1 a t) (hs0_1 a t) (ms0_2 a t) (hs0_2 a t) (ms0_3 a t) (hs0_3 a t) (ms0_4 a t) (hs0_4 a t) sc0 (Memref.isWhole_whole _)

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

set_option maxHeartbeats 4000000 in
theorem sound_body (c : Dev nD) (t : Fin (cfgA a).N) :
    iprop((dats a V 0 c).Φ t.castSucc ∗ (dats a V 0 c).owesAt () t.castSucc
        ∗ (∃ d, owns (c : Thread nD τ) (ms0_0 a t) fullShare ((dats a V 0 c).before (0 : Fin 5) t d))
        ∗ (∃ d, owns (c : Thread nD τ) (ms0_1 a t) fullShare ((dats a V 0 c).before (1 : Fin 5) t d))
        ∗ (∃ d, owns (c : Thread nD τ) (ms0_2 a t) fullShare ((dats a V 0 c).before (2 : Fin 5) t d))
        ∗ (∃ d, owns (c : Thread nD τ) (ms0_3 a t) fullShare ((dats a V 0 c).before (3 : Fin 5) t d))
        ∗ (∃ d, owns (c : Thread nD τ) (ms0_4 a t) fullShare ((dats a V 0 c).before (4 : Fin 5) t d)))
      ⊢ wp frame (wpE (defs₀ (F := F)) Variants.none c none) Set.univ (bodyAt0 a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  have hlast : owns (c : Thread nD τ) (ms0_4 a t) fullShare (acc a V c (t.val + 1))
      ⊢ (match (cfgA a).idle (4 : Fin 5) ((cfgA a).grid.coords t) with
        | true =>
          match ((cfgA a).win (4 : Fin 5)).flush t with
          | false => iprop(∃ d, owns (c : Thread nD τ) (((cfgA a).win (4 : Fin 5)).stage ((cfgA a).slots t (4 : Fin 5))) fullShare ((dats a V 0 c).before (4 : Fin 5) t d))
          | true => owns (c : Thread nD τ) (((cfgA a).win (4 : Fin 5)).stage ((cfgA a).slots t (4 : Fin 5))) fullShare ((dats a V 0 c).after (4 : Fin 5) t)
        | false => owns (c : Thread nD τ) (((cfgA a).win (4 : Fin 5)).stage ((cfgA a).slots t (4 : Fin 5))) fullShare ((dats a V 0 c).after (4 : Fin 5) t) : sProp 𝕄) := by
    cases hi : (cfgA a).idle (4 : Fin 5) ((cfgA a).grid.coords t)
    · iintro H; iexact H
    · cases hf : ((cfgA a).win (4 : Fin 5)).flush t
      · have hz : t.val % 14 ≠ 0 := fun hz => (idle4 a t hi).1 (by rw [cond1_iff, crd1]; exact hz)
        have e : ∀ d, (dats a V 0 c).before (4 : Fin 5) t d = acc a V c (t.val + 1) := fun d => by
          rw [before0_4, fresh4 a t.val t.isLt hz, acc_idle a V c t hi]; rfl
        simp only [e]
        iintro H; iexists (acc a V c (t.val + 1)); iexact H
      · iintro H; iexact H
  rewrite [show (dats a V 0 c).Φ t.succ = iprop(Pipeline.ΦA spec0 c ∗ Pipeline.ΦT pre0 a.1 c) from rfl,
    show (dats a V 0 c).Φ t.castSucc = iprop(Pipeline.ΦA spec0 c ∗ Pipeline.ΦT pre0 a.1 c) from rfl,
    show (dats a V 0 c).owesAt () t.succ = (dats a V 0 c).owesAt () t.castSucc from rfl]
  unfold Pipeline.ΦA Pipeline.ΦT
  rw [prefHeld_eq, scopedRest0_eq]
  simp only [before0_0, before0_1, before0_2, before0_3, after0_0, after0_1, after0_2, after0_3]
  iintro ⟨⟨⟨⟨%a0, HS0⟩, Hr⟩, HT0, HT1⟩, Ho, ⟨%d0, H0⟩, ⟨%d1, H1⟩, ⟨%d2, H2⟩, ⟨%d3, H3⟩, ⟨%d4, H4⟩⟩
  iapply (run_all (iblk a V c (0 : Fin 5) t) (iblk a V c (1 : Fin 5) t) (iblk a V c (2 : Fin 5) t) (iblk a V c (3 : Fin 5) t) c (crd a t)
    (ms0_0 a t) (hs0_0 a t) (ms0_1 a t) (hs0_1 a t) (ms0_2 a t) (hs0_2 a t) (ms0_3 a t) (hs0_3 a t) (ms0_4 a t) (hs0_4 a t) (a.1 0) (a.1 1)
    ((dats a V 0 c).before (4 : Fin 5) t d4) a0 _)
  rw [step_before]
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 Hr HT0 HT1]
  · isplitl [HS0 Hr]
    · isplitl [HS0]
      · iexact HS0
      iexact Hr
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iapply hlast; iexact H4

theorem body_obligation (c : Dev nD) : BodyObligation (dats a V 0 c) (defs₀ (F := F)) Variants.none () Set.univ := fun t => by
  rw [bigSep_W0]
  exact sound_body a V c t

theorem share_eq (c : Dev nD) (w : Fin (cfgA a).W) : (dats a V 0 c).share w = fullShare := by unfold Dat.share; split <;> rfl

end Cert.KernelIdeal.Moe

end
-- ==== Proof.Moe.Launch.lean ====
/- The routed experts' launch: the plan admits the tables, and the program runs from any memory whose tables the plan admits. -/
module

public import proofs.«01_k».proof.Proof.Moe.Frame
public import proofs.«01_k».proof.Pre_plan
public import proofs.«01_k».proof.Proof.Gen.Pre_plan
public import Idealize.ShloMosaic.Lib.ValueIdxCore

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Idealize.ShloMosaic.Pipeline (Dat Cfg Window BodyObligation BodyObligationLoose cellOf)

variable {F : FTy → Type} [FloatOps F]

/-! ## The plan -/

/-- What the plan says of one tile: an expert's number and a count of at most 1024 rows. -/
structure Planned (te tr : S40.Idx → BitVec 32) : Prop where
  expert : ∀ j, (te j).toNat < 8
  rows : ∀ j, (tr j).toNat ≤ 1024

theorem word_range (x n : BitVec 32) (hn : n.toNat < 2 ^ 31) (h0 : IntOp.cmpi .sge x 0#32 = 1#1) : x.toNat < 2 ^ 31 := by
  rw [cmpi_sge_eq, ofBool_eq_one] at h0
  have := h0
  have e : (0#32 : BitVec 32).toInt = 0 := by decide
  rw [e] at this
  exact (toInt_nonneg_iff_lt_half x).mp this

theorem planned_of {m0 : S40960x2048.Idx → Elt F .bf16} {te tr : S40.Idx → BitVec 32} {m3 m4 : S8x2048x7168.Idx → Elt F .f32} {m5 : S8x7168x2048.Idx → Elt F .f32}
    (h : Cert.Pre_plan.fn (F := F) m0 te tr m3 m4 m5 = fun _ => 1#1) : Planned te tr := by
  have key : ∀ j, (IntOp.cmpi .sge (te j) 0#32 = 1#1 ∧ IntOp.cmpi .slt (te j) 8#32 = 1#1) ∧ IntOp.cmpi .sge (tr j) 0#32 = 1#1 ∧ IntOp.cmpi .sle (tr j) 1024#32 = 1#1 := fun j => by
    have hj : IntOp.andi (IntOp.andi (IntOp.andi (IntOp.cmpi .sge (te j) 0#32) (IntOp.cmpi .slt (te j) 8#32)) (IntOp.cmpi .sge (tr j) 0#32)) (IntOp.cmpi .sle (tr j) 1024#32) = 1#1 := congrFun h j
    obtain ⟨h1, h4⟩ := (and_eq_one _ _).mp hj
    obtain ⟨h2, h3⟩ := (and_eq_one _ _).mp h1
    obtain ⟨h5, h6⟩ := (and_eq_one _ _).mp h2
    exact ⟨⟨h5, h6⟩, h3, h4⟩
  refine ⟨fun j => ?_, fun j => ?_⟩
  · obtain ⟨⟨h1, h2⟩, -, -⟩ := key j
    have hr := word_range (te j) 0#32 (by decide) h1
    rw [cmpi_slt_eq, ofBool_eq_one] at h2
    have := h2
    rw [toInt_eq_toNat_of_lt_half hr, show (8#32 : BitVec 32).toInt = 8 by decide] at this
    omega
  · obtain ⟨-, h1, h2⟩ := key j
    have hr := word_range (tr j) 0#32 (by decide) h1
    rw [cmpi_sle_eq, ofBool_eq_one] at h2
    have := h2
    rw [toInt_eq_toNat_of_lt_half hr, show (1024#32 : BitVec 32).toInt = 1024 by decide] at this
    omega

/-! ## The blocks' positions -/

/-- The hidden columns' tile a point takes: its own, or the last where the tile of rows has none to work on. -/
def fix (n : BitVec 32) (i : grid0.Coords) : ℕ := (Scalar.select (Scalar.cmpi .sgt n 0#32) (BitVec.ofNat 32 (i 1).val) 13#32).toNat

theorem fix_lt (n : BitVec 32) (i : grid0.Coords) : fix n i < 14 := by
  have h : (i 1).val < 14 := (i 1).isLt
  unfold fix
  by_cases hc : Scalar.cmpi .sgt n 0#32 = 1#1
  · rw [show Scalar.select (Scalar.cmpi .sgt n 0#32) (BitVec.ofNat 32 (i 1).val) 13#32 = BitVec.ofNat 32 (i 1).val from select_of_eq_one hc _ _, BitVec.toNat_ofNat]
    omega
  · rw [show Scalar.select (Scalar.cmpi .sgt n 0#32) (BitVec.ofNat 32 (i 1).val) 13#32 = 13#32 from select_of_eq_zero (ValueIdx.eq_zero_of_ne_one hc) _ _]
    decide

theorem fix_pos (n : BitVec 32) (i : grid0.Coords) (hn : 0 < n.toInt) : fix n i = (i 1).val := by
  have h : (i 1).val < 14 := (i 1).isLt
  unfold fix
  have hc : Scalar.cmpi .sgt n 0#32 = 1#1 := by
    show IntOp.cmpi .sgt n 0#32 = 1#1
    rw [cmpi_sgt_eq, ofBool_eq_one]; exact hn
  rw [show Scalar.select (Scalar.cmpi .sgt n 0#32) (BitVec.ofNat 32 (i 1).val) 13#32 = BitVec.ofNat 32 (i 1).val from select_of_eq_one hc _ _, BitVec.toNat_ofNat]
  omega

theorem transform1_eq (pf : pre0.Contents (Elt F)) (i : grid0.Coords) :
    cc0_transform_1 k0_off1_inb numel1_S1 pf i = ![(word (F := F) (pf 0) i : BitVec 32).toNat, fix (word (F := F) (pf 1) i) i, 0, 0] := rfl
theorem transform2_eq (pf : pre0.Contents (Elt F)) (i : grid0.Coords) :
    cc0_transform_2 k0_off1_inb numel1_S1 pf i = ![(word (F := F) (pf 0) i : BitVec 32).toNat, fix (word (F := F) (pf 1) i) i, 0, 0] := rfl
theorem transform3_eq (pf : pre0.Contents (Elt F)) (i : grid0.Coords) :
    cc0_transform_3 k0_off1_inb numel1_S1 pf i = ![(word (F := F) (pf 0) i : BitVec 32).toNat, fix (word (F := F) (pf 1) i) i, 0] := rfl

/-- The plan's tables are ones the region takes. -/
theorem ok_of_planned (pf : pre0.Contents (Elt F)) (h : Planned (pf 0) (pf 1)) : ok0 pf := by
  have he : ∀ i, (word (F := F) (pf 0) i : BitVec 32).toNat < 8 := fun i => (congrArg BitVec.toNat (word_eq (F := F) (pf 0) i)).trans_lt (h.expert _)
  refine ⟨fun i => ?_, fun i => ?_, fun i => ?_⟩
  · refine ⟨?_, .inr (Affine.block_words_dvd (of_decide_eq_true rfl) (by decide))⟩
    rw [transform1_eq]
    have h1 := he i
    have h2 := fix_lt (word (F := F) (pf 1) i) i
    intro x; fin_cases x
    · show ((word (F := F) (pf 0) i : BitVec 32).toNat + 1) * 1 ≤ 8; omega
    · show (fix (word (F := F) (pf 1) i) i + 1) * 1 ≤ 14; omega
    · show (0 + 1) * 2048 ≤ 2048; omega
    · show (0 + 1) * 512 ≤ 512; omega
  · refine ⟨?_, .inr (Affine.block_words_dvd (of_decide_eq_true rfl) (by decide))⟩
    rw [transform2_eq]
    have h1 := he i
    have h2 := fix_lt (word (F := F) (pf 1) i) i
    intro x; fin_cases x
    · show ((word (F := F) (pf 0) i : BitVec 32).toNat + 1) * 1 ≤ 8; omega
    · show (fix (word (F := F) (pf 1) i) i + 1) * 1 ≤ 14; omega
    · show (0 + 1) * 2048 ≤ 2048; omega
    · show (0 + 1) * 512 ≤ 512; omega
  · refine ⟨?_, .inl rfl⟩
    rw [transform3_eq]
    have h1 := he i
    have h2 := fix_lt (word (F := F) (pf 1) i) i
    intro x; fin_cases x
    · show ((word (F := F) (pf 0) i : BitVec 32).toNat + 1) * 1 ≤ 8; omega
    · show (fix (word (F := F) (pf 1) i) i + 1) * 512 ≤ 7168; omega
    · show (0 + 1) * 2048 ≤ 2048; omega

/-! ## The host operations before the call -/

variable (m : (ℓ : Loc nD τ sig) → Buf (Elt F) ℓ) (ρ : Dev nD → PrngReg)

/-- What the host operations leave in each buffer. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem V_kept (c : Dev nD) (b : Ref sig .tc) (h0 : b ≠ main_v0) (h1 : b ≠ main_v1) (h2 : b ≠ main_v2) (h3 : b ≠ main_v3) (h4 : b ≠ main_v4) (h5 : b ≠ main_v5) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))

theorem V_arg0 (c : Dev nD) : V m c main_arg0 = m ((c : Thread nD τ).loc main_arg0) := V_kept m c _ (by decide) (by decide) (by decide) (by decide) (by decide) (by decide)
theorem V_arg1 (c : Dev nD) : V m c main_arg1 = m ((c : Thread nD τ).loc main_arg1) := V_kept m c _ (by decide) (by decide) (by decide) (by decide) (by decide) (by decide)
theorem V_arg2 (c : Dev nD) : V m c main_arg2 = m ((c : Thread nD τ).loc main_arg2) := V_kept m c _ (by decide) (by decide) (by decide) (by decide) (by decide) (by decide)
theorem V_arg3 (c : Dev nD) : V m c main_arg3 = m ((c : Thread nD τ).loc main_arg3) := V_kept m c _ (by decide) (by decide) (by decide) (by decide) (by decide) (by decide)
theorem V_arg4 (c : Dev nD) : V m c main_arg4 = m ((c : Thread nD τ).loc main_arg4) := V_kept m c _ (by decide) (by decide) (by decide) (by decide) (by decide) (by decide)
theorem V_arg5 (c : Dev nD) : V m c main_arg5 = m ((c : Thread nD τ).loc main_arg5) := V_kept m c _ (by decide) (by decide) (by decide) (by decide) (by decide) (by decide)

/-! ## The run -/

/-- The tables of the one device. -/
def tabs : pre0.Contents (Elt F) := fun k => m (((0 : Dev nD) : Thread nD τ).loc (pre0.ref k))

def adm (h : Planned (tabs m 0) (tabs m 1)) : (pcfg0 (F := F)).Adm := ⟨tabs m, ok_of_planned _ h⟩

variable (h : Planned (tabs m 0) (tabs m 1))

theorem V_tabs (c : Dev nD) (k : Fin 2) : V m c (pre0.ref k) = tabs m k := by
  obtain rfl : c = 0 := Subsingleton.elim _ _
  fin_cases k
  · exact V_arg1 m 0
  · exact V_arg2 m 0

set_option maxHeartbeats 800000 in
set_option backward.isDefEq.respectTransparency.types false in
theorem run_quiescent : θ_run defs (onTc (τ := τ) (main (F := F))) ⟨m, fun _ => 0, ρ⟩
    (fun r => Pipeline.FramePost (Pipeline.pin pcfgs fun _ => adm m h) (dats (adm m h) (V m)) 0 (V m) r ∧ r.2.sem = fun _ => 0) :=
  Pipeline.θ_run_frameP (Q' := _) pcfgs (fun _ => adm m h) (dats (adm m h) (V m)) (0 : Fin 1) launch0 defs₀ Variants.none m ρ main
    (hbody := fun c => (body_obligation (adm m h) (V m) c).loose) (hshare := fun c w => share_eq (adm m h) (V m) c w)
    (howed := fun _ _ => rfl) (V := V m)
    (hmain := Pipeline.hmainP_prefix pcfgs 0 defs₀ Variants.none m main hostOps0 hostOps0_sub hostOps0_fresh main_chain)
    (hA := fun _ _ => rfl) (hpf := V_tabs m) (hΦ := fun _ _ => rfl) (fun _ h => h)

theorem kept_of {r} (hr : Pipeline.FramePost (Pipeline.pin pcfgs fun _ => adm m h) (dats (adm m h) (V m)) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain ⟨ha, hb⟩ := hr c
  refine ⟨?_, ?_, ?_, ?_, ?_, ?_⟩
  · exact ((ha (0 : Fin 5)).trans ((dats (adm m h) (V m) 0 c).arrAt_in (0 : Fin 5) rfl _)).trans (V_arg0 m c)
  · exact (hb _ (Pipeline.mem_restRefs_of main_arg1 rfl (show ∀ w : Fin 5, (spec0 w).arr.view.ref ≠ main_arg1 by decide))).trans (V_arg1 m c)
  · exact (hb _ (Pipeline.mem_restRefs_of main_arg2 rfl (show ∀ w : Fin 5, (spec0 w).arr.view.ref ≠ main_arg2 by decide))).trans (V_arg2 m c)
  · exact (hb _ (Pipeline.mem_restRefs_of main_arg3 rfl (show ∀ w : Fin 5, (spec0 w).arr.view.ref ≠ main_arg3 by decide))).trans (V_arg3 m c)
  · exact (hb _ (Pipeline.mem_restRefs_of main_arg4 rfl (show ∀ w : Fin 5, (spec0 w).arr.view.ref ≠ main_arg4 by decide))).trans (V_arg4 m c)
  · exact ((ha (3 : Fin 5)).trans ((dats (adm m h) (V m) 0 c).arrAt_in (3 : Fin 5) rfl _)).trans (V_arg5 m c)

include h in
/-- The frame at any values, from any memory whose tables the plan admits. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨fun c => kept_of m h hr.1 c, hr.2⟩) (run_quiescent m ρ h)

end Cert.KernelIdeal.Moe

end
-- ==== Proof.Moe.Pay.lean ====
/- What one point adds to one entry of the output's block, over the ideal values. -/
module

public import proofs.«01_k».proof.Proof.Moe.Step
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic Idealize.ShloMosaic.VecWindow

/-- One hidden unit's share of one output entry: the gated unit times its outgoing weight. -/
def unit (x w1 w3 : Fin 2048 → EReal) (w2 : EReal) : EReal :=
  (((∑ h, x h * w1 h) * Ideal.div 1 (1 + Ideal.exp (0 - ∑ h, x h * w1 h))) * ∑ h, x h * w3 h) * w2

variable (x0 : Vec Ideal S1024x2048 .bf16) (x1 x2 : Vec Ideal S1x1x2048x512 .bf16) (x3 : Vec Ideal S1x512x2048 .f32)

/-- One hidden tile's share of the output entry at row `r`, column `d`. -/
def tileSum (r : Fin 1024) (d : Fin 2048) : EReal :=
  ∑ k : Fin 512, unit (fun h => x0 (ix2 r h)) (fun h => x1 (ix4 0 0 h k)) (fun h => x2 (ix4 0 0 h k)) (x3 (ix3 0 k d))

theorem full_apply (y : Vec Ideal S1024x2048 .f32) (r : Fin 1024) (d : Fin 2048) :
    full x0 x1 x2 x3 y (ix2 r d) = (y (ix2 r d) + tileSum x0 x1 x2 x3 r d : EReal) := by
  unfold full tileSum unit
  pointwise [k0_pay3, k0_pay2]

theorem pay5_apply (x : Vec Ideal S512x2048 .bf16) (y : Vec Ideal S512x2048 .f32) (r : Fin 512) (d : Fin 2048) :
    k0_pay5 x x1 x2 y (k0_pay4 x3) (ix2 r d)
      = (y (ix2 r d) + ∑ k : Fin 512, unit (fun h => x (ix2 r h)) (fun h => x1 (ix4 0 0 h k)) (fun h => x2 (ix4 0 0 h k)) (x3 (ix3 0 k d)) : EReal) := by
  unfold unit
  pointwise [k0_pay5, k0_pay4]

theorem pay6_apply (x : Vec Ideal S512x2048 .bf16) (y : Vec Ideal S512x2048 .f32) (r : Fin 512) (d : Fin 2048) :
    k0_pay6 x x1 x2 y (k0_pay4 x3) (ix2 r d)
      = (y (ix2 r d) + ∑ k : Fin 512, unit (fun h => x (ix2 r h)) (fun h => x1 (ix4 0 0 h k)) (fun h => x2 (ix4 0 0 h k)) (x3 (ix3 0 k d)) : EReal) := by
  unfold unit
  pointwise [k0_pay6, k0_pay4]

/-! ## The halves -/

section
variable {α : Type}

theorem window_upper (x : S1024x2048.Idx → α) (r : Fin 512) (h : Fin 2048) :
    window (s := S1024x2048) x ![0, 0] S512x2048.size inb_S1024x2048_S512x2048_0_0 (ix2 r h) = x (ix2 ⟨r.val, by omega⟩ h) := by
  unfold window; congr 1; funext a; apply Fin.ext; fin_cases a
  · show 0 + 1 * r.val = r.val; omega
  · show 0 + 1 * h.val = h.val; omega

theorem window_lower (x : S1024x2048.Idx → α) (r : Fin 512) (h : Fin 2048) :
    window (s := S1024x2048) x ![512, 0] S512x2048.size inb_S1024x2048_S512x2048_512_0 (ix2 r h) = x (ix2 ⟨512 + r.val, by omega⟩ h) := by
  unfold window; congr 1; funext a; apply Fin.ext; fin_cases a
  · show 512 + 1 * r.val = 512 + r.val; omega
  · show 0 + 1 * h.val = h.val; omega

theorem put_upper (y : S1024x2048.Idx → α) (w : S512x2048.Idx → α) (r : Fin 1024) (d : Fin 2048) :
    put (s := S1024x2048) y ![0, 0] S512x2048.size w (ix2 r d) = if h : r.val < 512 then w (ix2 ⟨r.val, h⟩ d) else y (ix2 r d) := by
  unfold put
  by_cases h : r.val < 512
  · rw [dif_pos h, dif_pos (Fin.forall_fin_two.mpr ⟨⟨Nat.zero_le _, by show r.val < 0 + 512; omega⟩, ⟨Nat.zero_le _, by show d.val < 0 + 2048; omega⟩⟩)]
    congr 1
    funext a
    apply Fin.ext
    fin_cases a
    · show r.val - 0 = r.val; omega
    · show d.val - 0 = d.val; omega
  · rw [dif_neg h, dif_neg (fun hc => h (by have : r.val < 0 + 512 := (hc 0).2; omega))]

theorem put_lower (y : S1024x2048.Idx → α) (w : S512x2048.Idx → α) (r : Fin 1024) (d : Fin 2048) :
    put (s := S1024x2048) y ![512, 0] S512x2048.size w (ix2 r d) = if h : 512 ≤ r.val then w (ix2 ⟨r.val - 512, by omega⟩ d) else y (ix2 r d) := by
  unfold put
  by_cases h : 512 ≤ r.val
  · rw [dif_pos h, dif_pos (Fin.forall_fin_two.mpr ⟨⟨h, by show r.val < 512 + 512; omega⟩, ⟨Nat.zero_le _, by show d.val < 0 + 2048; omega⟩⟩)]
    congr 1
    funext a
    apply Fin.ext
    fin_cases a
    · show r.val - 512 = r.val - 512; omega
    · show d.val - 0 = d.val; omega
  · rw [dif_neg h, dif_neg (fun hc => h (hc 0).1)]

end

theorem half0_upper (y : Vec Ideal S1024x2048 .f32) (r : Fin 1024) (d : Fin 2048) (h : r.val < 512) :
    half0 x0 x1 x2 x3 y (ix2 r d) = (y (ix2 r d) + tileSum x0 x1 x2 x3 r d : EReal) := by
  unfold half0
  refine (put_upper _ _ r d).trans ?_
  rw [dif_pos h]
  refine (pay5_apply x1 x2 x3 _ _ _ d).trans (congrArg₂ (fun a b : EReal => a + b) (window_upper y ⟨r.val, h⟩ d) ?_)
  exact Finset.sum_congr rfl fun k _ => congrArg (fun f => unit f _ _ _) (funext fun j => window_upper x0 ⟨r.val, h⟩ j)

theorem half0_lower (y : Vec Ideal S1024x2048 .f32) (r : Fin 1024) (d : Fin 2048) (h : ¬ r.val < 512) :
    half0 x0 x1 x2 x3 y (ix2 r d) = y (ix2 r d) := by
  unfold half0
  exact (put_upper _ _ r d).trans (dif_neg h)

theorem half1_lower (y : Vec Ideal S1024x2048 .f32) (r : Fin 1024) (d : Fin 2048) (h : 512 ≤ r.val) :
    half1 x0 x1 x2 x3 y (ix2 r d) = (y (ix2 r d) + tileSum x0 x1 x2 x3 r d : EReal) := by
  unfold half1
  refine (put_lower _ _ r d).trans ?_
  rw [dif_pos h]
  have e : (⟨512 + (r.val - 512), by omega⟩ : Fin 1024) = r := Fin.ext (by show 512 + (r.val - 512) = r.val; omega)
  have hl {α : Type} (x : S1024x2048.Idx → α) (j : Fin 2048) := (window_lower x ⟨r.val - 512, by omega⟩ j).trans (congrArg (fun r => x (ix2 r j)) e)
  refine (pay6_apply x1 x2 x3 _ _ _ d).trans (congrArg₂ (fun a b : EReal => a + b) (hl y d) ?_)
  exact Finset.sum_congr rfl fun k _ => congrArg (fun f => unit f _ _ _) (funext fun j => hl x0 j)

theorem half1_upper (y : Vec Ideal S1024x2048 .f32) (r : Fin 1024) (d : Fin 2048) (h : ¬ 512 ≤ r.val) :
    half1 x0 x1 x2 x3 y (ix2 r d) = y (ix2 r d) := by
  unfold half1
  exact (put_lower _ _ r d).trans (dif_neg h)

/-! ## One point at a used row -/

theorem pay1_apply (r : Fin 1024) (d : Fin 2048) : (k0_pay1 (F := Ideal)) (ix2 r d) = (0 : EReal) := by
  pointwise [k0_pay1]

theorem stepO_apply (i : grid0.Coords) (n : BitVec 32) (hn : n.toNat ≤ 1024) (y : Vec Ideal S1024x2048 .f32) (r : Fin 1024) (d : Fin 2048) (hr : r.val < n.toNat) :
    stepO x0 x1 x2 x3 i n y (ix2 r d) = ((if (i 1).val = 0 then 0 else y (ix2 r d)) + tileSum x0 x1 x2 x3 r d : EReal) := by
  have hint : n.toInt = n.toNat := by
    rw [BitVec.toInt_eq_toNat_of_lt (by omega)]
  unfold stepO
  have h0 : (if k0_cond1 i = 1#1 then k0_pay1 (F := Ideal) else y) (ix2 r d) = ((if (i 1).val = 0 then 0 else y (ix2 r d)) : EReal) := by
    by_cases hz : (i 1).val = 0
    · rw [if_pos ((cond1_iff i).mpr hz), if_pos hz]; exact pay1_apply r d
    · rw [if_neg (fun hc => hz ((cond1_iff i).mp hc)), if_neg hz]
  rw [← h0]
  by_cases h1 : n = 1024#32
  · simp only [if_pos h1]
    exact full_apply x0 x1 x2 x3 _ r d
  · have hne : n.toNat ≠ 1024 := fun hc => h1 (BitVec.eq_of_toNat_eq (by rw [hc]; rfl))
    simp only [if_neg h1]
    rw [if_pos (⟨by omega, by omega⟩ : 0 < n.toInt ∧ n.toInt < 1024)]
    by_cases h5 : 512 < n.toInt
    · rw [if_pos h5]
      by_cases hh : r.val < 512
      · rw [half1_upper x0 x1 x2 x3 _ r d (by omega)]
        exact half0_upper x0 x1 x2 x3 _ r d hh
      · refine (half1_lower x0 x1 x2 x3 _ r d (by omega)).trans ?_
        rw [half0_lower x0 x1 x2 x3 _ r d hh]
    · rw [if_neg h5]
      exact half0_upper x0 x1 x2 x3 _ r d (by omega)

end Cert.KernelIdeal.Moe

end
-- ==== Proof.Moe.Blocks.lean ====
/- The routed experts' input blocks read at an entry: which entry of which argument each is. -/
module

public import proofs.«01_k».proof.Proof.Moe.Launch
public import proofs.«01_k».proof.Proof.Moe.Pay

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA
open Idealize.ShloMosaic.Pipeline (Dat Cfg Window)

variable (m : (ℓ : Loc nD τ sig) → Buf (Elt Ideal) ℓ)

/-! ## The weights, cut into hidden tiles -/

theorem V_v2 (c : Dev nD) : V m c main_v2
    = truncf (F := Ideal) .bf16 (transpose S8x14x2048x512 [0, 2, 1, 3] (shapeCast S8x2048x14x512 (m ((c : Thread nD τ).loc main_arg3)) shapeCasts_S8x2048x7168_S8x2048x14x512) transposes_S8x2048x14x512_S8x14x2048x512_0_2_1_3) bitsLt_bf16_f32 := by
  unfold V hostOps0
  after_results <;> rfl

theorem V_v5 (c : Dev nD) : V m c main_v5
    = truncf (F := Ideal) .bf16 (transpose S8x14x2048x512 [0, 2, 1, 3] (shapeCast S8x2048x14x512 (m ((c : Thread nD τ).loc main_arg4)) shapeCasts_S8x2048x7168_S8x2048x14x512) transposes_S8x2048x14x512_S8x14x2048x512_0_2_1_3) bitsLt_bf16_f32 := by
  unfold V hostOps0
  after_results <;> rfl

theorem tiled_apply (x : Vec Ideal S8x2048x7168 .f32) (e : Fin 8) (f : Fin 14) (h : Fin 2048) (k : Fin 512) :
    truncf (F := Ideal) .bf16 (transpose S8x14x2048x512 [0, 2, 1, 3] (shapeCast S8x2048x14x512 x shapeCasts_S8x2048x7168_S8x2048x14x512) transposes_S8x2048x14x512_S8x14x2048x512_0_2_1_3) bitsLt_bf16_f32 (ix4 e f h k)
      = (x (ix3 e h ⟨f.val * 512 + k.val, by omega⟩) : EReal) := by
  pointwise []

/-! ## The blocks -/

variable (a : (pcfg0 (F := Ideal)).Adm)

theorem iblk0_apply (c : Dev nD) (t : Fin (cfgA a).N) (i : Fin 40) (hi : (crd a t 0).val = i.val) (r : Fin 1024) (h : Fin 2048) :
    iblk a (V m) c (0 : Fin 5) t (ix2 r h) = (m ((c : Thread nD τ).loc main_arg0) : Vec Ideal S40960x2048 .bf16) (ix2 ⟨i.val * 1024 + r.val, by omega⟩ h) := by
  unfold iblk
  rw [View.read_apply]
  show V m c main_arg0 _ = _
  rw [V_arg0]
  show (m ((c : Thread nD τ).loc main_arg0) : Vec Ideal S40960x2048 .bf16) _ = _
  congr 1
  funext x; apply Fin.ext; fin_cases x
  · refine (Pipeline.Window.rect_emb_val (win0 a (0 : Fin 5)) t (ix2 r h) (0 : Fin 2)).trans ?_
    show (BitVec.ofNat 32 (crd a t 0).val).toNat * 1024 + r.val = i.val * 1024 + r.val
    rw [hi, BitVec.toNat_ofNat, Nat.mod_eq_of_lt (by omega)]
  · refine (Pipeline.Window.rect_emb_val (win0 a (0 : Fin 5)) t (ix2 r h) (1 : Fin 2)).trans ?_
    show 0 * 2048 + h.val = h.val
    omega

section
variable (t : Fin (cfgA a).N) (e : Fin 8) (f : Fin 14) (he : (word (F := Ideal) (a.1 0) (crd a t) : BitVec 32).toNat = e.val)
  (hf : fix (word (F := Ideal) (a.1 1) (crd a t)) (crd a t) = f.val)
include he hf

theorem iblk1_apply (c : Dev nD) (h : Fin 2048) (k : Fin 512) :
    iblk a (V m) c (1 : Fin 5) t (ix4 0 0 h k) = (m ((c : Thread nD τ).loc main_arg3) : Vec Ideal S8x2048x7168 .f32) (ix3 e h ⟨f.val * 512 + k.val, by omega⟩) := by
  refine Eq.trans ?_ (tiled_apply (m ((c : Thread nD τ).loc main_arg3)) e f h k)
  unfold iblk
  rw [View.read_apply]
  show V m c main_v2 _ = _
  rw [V_v2]
  congr 1
  funext x; apply Fin.ext
  refine (Pipeline.Window.rect_emb_val (win0 a (1 : Fin 5)) t (ix4 0 0 h k) (x : Fin 4)).trans ?_
  show cc0_transform_1 k0_off1_inb numel1_S1 a.1 (crd a t) x * _ + _ = _
  rw [transform1_eq]
  fin_cases x
  · show (word (F := Ideal) (a.1 0) (crd a t) : BitVec 32).toNat * 1 + 0 = e.val; omega
  · show fix (word (F := Ideal) (a.1 1) (crd a t)) (crd a t) * 1 + 0 = f.val; omega
  · show 0 * 2048 + h.val = h.val; omega
  · show 0 * 512 + k.val = k.val; omega

theorem iblk2_apply (c : Dev nD) (h : Fin 2048) (k : Fin 512) :
    iblk a (V m) c (2 : Fin 5) t (ix4 0 0 h k) = (m ((c : Thread nD τ).loc main_arg4) : Vec Ideal S8x2048x7168 .f32) (ix3 e h ⟨f.val * 512 + k.val, by omega⟩) := by
  refine Eq.trans ?_ (tiled_apply (m ((c : Thread nD τ).loc main_arg4)) e f h k)
  unfold iblk
  rw [View.read_apply]
  show V m c main_v5 _ = _
  rw [V_v5]
  congr 1
  funext x; apply Fin.ext
  refine (Pipeline.Window.rect_emb_val (win0 a (2 : Fin 5)) t (ix4 0 0 h k) (x : Fin 4)).trans ?_
  show cc0_transform_2 k0_off1_inb numel1_S1 a.1 (crd a t) x * _ + _ = _
  rw [transform2_eq]
  fin_cases x
  · show (word (F := Ideal) (a.1 0) (crd a t) : BitVec 32).toNat * 1 + 0 = e.val; omega
  · show fix (word (F := Ideal) (a.1 1) (crd a t)) (crd a t) * 1 + 0 = f.val; omega
  · show 0 * 2048 + h.val = h.val; omega
  · show 0 * 512 + k.val = k.val; omega

theorem iblk3_apply (c : Dev nD) (k : Fin 512) (d : Fin 2048) :
    iblk a (V m) c (3 : Fin 5) t (ix3 0 k d) = (m ((c : Thread nD τ).loc main_arg5) : Vec Ideal S8x7168x2048 .f32) (ix3 e ⟨f.val * 512 + k.val, by omega⟩ d) := by
  unfold iblk
  rw [View.read_apply]
  show V m c main_arg5 _ = _
  rw [V_arg5]
  show (m ((c : Thread nD τ).loc main_arg5) : Vec Ideal S8x7168x2048 .f32) _ = _
  congr 1
  funext x; apply Fin.ext
  refine (Pipeline.Window.rect_emb_val (win0 a (3 : Fin 5)) t (ix3 0 k d) (x : Fin 3)).trans ?_
  show cc0_transform_3 k0_off1_inb numel1_S1 a.1 (crd a t) x * _ + _ = _
  rw [transform3_eq]
  fin_cases x
  · show (word (F := Ideal) (a.1 0) (crd a t) : BitVec 32).toNat * 1 + 0 = e.val; omega
  · show fix (word (F := Ideal) (a.1 1) (crd a t)) (crd a t) * 512 + k.val = f.val * 512 + k.val; rw [hf]
  · show 0 * 2048 + d.val = d.val; omega

end

end Cert.KernelIdeal.Moe

end
-- ==== Proof.Moe.Value.lean ====
/- The routed experts' result at a used row: the row's own expert over all the hidden units. -/
module

public import proofs.«01_k».proof.Proof.Moe.Blocks

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (a : (pcfg0 (F := Ideal)).Adm)

/-- One hidden unit's share of the entry at row `R`, column `d`, the row taken by expert `e`. -/
def share (c : Dev nD) (R : Fin 40960) (d : Fin 2048) (e : Fin 8) (q : Fin 7168) : EReal :=
  unit (fun h => (m ((c : Thread nD τ).loc main_arg0) : Vec Ideal S40960x2048 .bf16) (ix2 R h))
    (fun h => (m ((c : Thread nD τ).loc main_arg3) : Vec Ideal S8x2048x7168 .f32) (ix3 e h q))
    (fun h => (m ((c : Thread nD τ).loc main_arg4) : Vec Ideal S8x2048x7168 .f32) (ix3 e h q))
    ((m ((c : Thread nD τ).loc main_arg5) : Vec Ideal S8x7168x2048 .f32) (ix3 e q d))

/-- The same at a number, nothing past the last unit. -/
def shareN (c : Dev nD) (R : Fin 40960) (d : Fin 2048) (e : Fin 8) (q : ℕ) : EReal :=
  if h : q < 7168 then share m c R d e ⟨q, h⟩ else 0

theorem tileSum_eq (c : Dev nD) (t : Fin (cfgA a).N) (i : Fin 40) (hi : (crd a t 0).val = i.val) (e : Fin 8) (f : Fin 14)
    (he : (word (F := Ideal) (a.1 0) (crd a t) : BitVec 32).toNat = e.val) (hf : fix (word (F := Ideal) (a.1 1) (crd a t)) (crd a t) = f.val)
    (r : Fin 1024) (d : Fin 2048) :
    tileSum (iblk a (V m) c (0 : Fin 5) t) (iblk a (V m) c (1 : Fin 5) t) (iblk a (V m) c (2 : Fin 5) t) (iblk a (V m) c (3 : Fin 5) t) r d
      = ∑ k ∈ Finset.range 512, shareN m c ⟨i.val * 1024 + r.val, by omega⟩ d e (f.val * 512 + k) := by
  rw [← Fin.sum_univ_eq_sum_range (fun k => shareN m c ⟨i.val * 1024 + r.val, by omega⟩ d e (f.val * 512 + k)) 512]
  unfold tileSum
  refine Finset.sum_congr rfl fun k _ => ?_
  unfold shareN share
  rw [dif_pos (by omega)]
  have h0 := fun h => iblk0_apply m a c t i hi r h
  have h1 := fun h => iblk1_apply m a t e f he hf c h k
  have h2 := fun h => iblk2_apply m a t e f he hf c h k
  have h3 := iblk3_apply m a t e f he hf c k d
  exact congr (congr (congr (congrArg unit (funext h0)) (funext h1)) (funext h2)) h3

theorem toInt_pos (n : BitVec 32) (hn : n.toNat ≤ 1024) (hp : 0 < n.toNat) : 0 < n.toInt := by
  rw [BitVec.toInt_eq_toNat_of_lt (by omega)]; omega

/-- A column's buffer at a used row, after its first tiles. -/
theorem acc_apply (c : Dev nD) (i : Fin 40) (e : Fin 8) (he : ((a.1 0 : S40.Idx → BitVec 32) (ix1 i)).toNat = e.val)
    (hn : ((a.1 1 : S40.Idx → BitVec 32) (ix1 i)).toNat ≤ 1024) (r : Fin 1024) (hr : r.val < ((a.1 1 : S40.Idx → BitVec 32) (ix1 i)).toNat) (d : Fin 2048) :
    ∀ (s : ℕ), s < 14 → ∀ (t : Fin (cfgA a).N), t.val = i.val * 14 + s →
      acc a (V m) c (t.val + 1) (ix2 r d) = (∑ q ∈ Finset.range ((s + 1) * 512), shareN m c ⟨i.val * 1024 + r.val, by omega⟩ d e q : EReal) := by
  intro s
  induction s with
  | zero => ?_
  | succ s ih => ?_
  all_goals
    intro hs t ht
    have hc0 : (crd a t 0).val = i.val := by rw [crd0]; omega
    have hc1 := crd1 a t
    have hx : tix (crd a t) = ix1 i := by
      funext x; apply Fin.ext; show k0_off1 (crd a t) x = _; rw [off1_val, hc0]; fin_cases x; rfl
    have hw0 : word (F := Ideal) (a.1 0) (crd a t) = (a.1 0 : S40.Idx → BitVec 32) (ix1 i) := (word_eq (F := Ideal) (a.1 0) _).trans (congrArg (a.1 0 : S40.Idx → BitVec 32) hx)
    have hw1 : word (F := Ideal) (a.1 1) (crd a t) = (a.1 1 : S40.Idx → BitVec 32) (ix1 i) := (word_eq (F := Ideal) (a.1 1) _).trans (congrArg (a.1 1 : S40.Idx → BitVec 32) hx)
    have hpos : 0 < ((a.1 1 : S40.Idx → BitVec 32) (ix1 i)).toInt :=
      toInt_pos _ hn (Nat.lt_of_le_of_lt (Nat.zero_le _) hr)
    rw [acc_succ]
    refine (stepO_apply _ _ _ _ (crd a t) _ (by rw [hw1]; exact hn) _ r d (by rw [hw1]; exact hr)).trans ?_
  · rw [tileSum_eq m a c t i hc0 e ⟨0, by omega⟩ (by rw [hw0]; exact he) (by rw [hw1, fix_pos _ _ hpos, hc1]; show _ = 0; omega) r d,
      if_pos (by omega), zero_add]
    simp only [Nat.zero_mul, Nat.zero_add, Nat.one_mul]
  · rw [tileSum_eq m a c t i hc0 e ⟨s + 1, hs⟩ (by rw [hw0]; exact he) (by rw [hw1, fix_pos _ _ hpos, hc1]; show _ = s + 1; omega) r d,
      if_neg (by omega)]
    have hlt : t.val - 1 < (cfgA a).N := by have := t.isLt; omega
    have ih' := ih (by omega) ⟨t.val - 1, hlt⟩ (by show t.val - 1 = _; omega)
    have e1 : (⟨t.val - 1, hlt⟩ : Fin (cfgA a).N).val + 1 = t.val := by show t.val - 1 + 1 = _; omega
    rw [e1] at ih'
    rw [show (s + 1 + 1) * 512 = (s + 1) * 512 + 512 by omega, Finset.sum_range_add, ← ih']

theorem mem_blk4 (t : Fin (cfgA a).N) (j : S40960x2048.Idx) :
    j ∈ (((cfgA a).win (4 : Fin 5)).blk t).view.set
      ↔ ∀ x : Fin 2, (win0 a (4 : Fin 5)).index t x * S1024x2048.size x ≤ (j x).val ∧ (j x).val < (win0 a (4 : Fin 5)).index t x * S1024x2048.size x + S1024x2048.size x := by
  show j ∈ ((View.whole main_v6).slice ((win0 a (4 : Fin 5)).rect t)).set ↔ _
  rw [View.set_slice_whole, Rect.mem_set_unit]; exact Iff.rfl

/-- The result at a used row. -/
theorem out_apply (c : Dev nD) (i : Fin 40) (e : Fin 8) (he : ((a.1 0 : S40.Idx → BitVec 32) (ix1 i)).toNat = e.val)
    (hn : ((a.1 1 : S40.Idx → BitVec 32) (ix1 i)).toNat ≤ 1024) (r : Fin 1024) (hr : r.val < ((a.1 1 : S40.Idx → BitVec 32) (ix1 i)).toNat) (d : Fin 2048) :
    ((dats a (V m) 0 c).arrAt (4 : Fin 5) (cfgA a).N : Vec Ideal S40960x2048 .f32) (ix2 ⟨i.val * 1024 + r.val, by omega⟩ d)
      = (∑ q : Fin 7168, share m c ⟨i.val * 1024 + r.val, by omega⟩ d e q : EReal) := by
  have hN : (cfgA a).N = 560 := N_0
  have hsum : (∑ q : Fin 7168, share m c ⟨i.val * 1024 + r.val, by omega⟩ d e q : EReal)
      = ∑ q ∈ Finset.range ((13 + 1) * 512), shareN m c ⟨i.val * 1024 + r.val, by omega⟩ d e q := by
    rw [show (13 + 1) * 512 = 7168 from rfl, ← Fin.sum_univ_eq_sum_range]
    exact Finset.sum_congr rfl fun q _ => by unfold shareN; rw [dif_pos q.isLt]
  rw [hsum]
  refine (dats a (V m) 0 c).arrAt_forall_of_flushed (4 : Fin 5)
    (fun (j : S40960x2048.Idx) (v : EReal) => j = ix2 ⟨i.val * 1024 + r.val, by omega⟩ d → v = ∑ q ∈ Finset.range ((13 + 1) * 512), shareN m c ⟨i.val * 1024 + r.val, by omega⟩ d e q)
    (fun t hf y hy => ?_) (cfgA a).N ⟨i.val * 14 + 13, by omega⟩ (ix2 ⟨i.val * 1024 + r.val, by omega⟩ d) (by show i.val * 14 + 13 < _; omega) ?_ ?_ rfl
  · have hf' := (flush4 a t).mp hf
    have hlt := t.isLt
    obtain ⟨y0, y1, rfl⟩ : ∃ (y0 : Fin 1024) (y1 : Fin 2048), y = ix2 y0 y1 := ⟨y 0, y 1, eq_ix2 y⟩
    have h0 : (BitVec.ofNat 32 (crd a t 0).val).toNat * 1024 + y0.val = i.val * 1024 + r.val :=
      (Pipeline.Window.rect_emb_val (win0 a (4 : Fin 5)) t (ix2 y0 y1) (0 : Fin 2)).symm.trans (congrArg (fun j : S40960x2048.Idx => (j 0).val) hy)
    have h1 : 0 * 2048 + y1.val = d.val :=
      (Pipeline.Window.rect_emb_val (win0 a (4 : Fin 5)) t (ix2 y0 y1) (1 : Fin 2)).symm.trans (congrArg (fun j : S40960x2048.Idx => (j 1).val) hy)
    have hc : (crd a t 0).val < 40 := (crd a t 0).isLt
    rw [BitVec.toNat_ofNat, Nat.mod_eq_of_lt (by omega)] at h0
    have hc0 := crd0 a t
    have e0 : y0 = r := Fin.ext (by omega)
    have e1 : y1 = d := Fin.ext (by omega)
    subst e0; subst e1
    exact acc_apply m a c i e he hn y0 hr y1 13 (by omega) t (by omega)
  · rw [flush4]; show (i.val * 14 + 13) % 14 = 13; omega
  · rw [mem_blk4]
    have hc0 := crd0 a ⟨i.val * 14 + 13, by omega⟩
    refine Fin.forall_fin_two.mpr ⟨?_, ?_⟩
    · show (BitVec.ofNat 32 (crd a ⟨i.val * 14 + 13, by omega⟩ 0).val).toNat * 1024 ≤ i.val * 1024 + r.val ∧ i.val * 1024 + r.val < (BitVec.ofNat 32 (crd a ⟨i.val * 14 + 13, by omega⟩ 0).val).toNat * 1024 + 1024
      rw [hc0, BitVec.toNat_ofNat]
      show (i.val * 14 + 13) / 14 % 40 % 2 ^ 32 * 1024 ≤ _ ∧ _ < (i.val * 14 + 13) / 14 % 40 % 2 ^ 32 * 1024 + 1024
      omega
    · show 0 * 2048 ≤ d.val ∧ d.val < 0 * 2048 + 2048
      omega

end Cert.KernelIdeal.Moe

end
-- ==== Proof.Moe.Ref.lean ====
/- The reference's routed experts read at an entry. -/
module

public import proofs.«01_k».proof.Proof.Gen.ReferenceIdeal
public import proofs.«01_k».proof.Proof.Gen.ReferenceIdeal.Run
public import proofs.«01_k».proof.Proof.Moe.Pay
public import Idealize.ShloMosaic.Lib.Pointwise

@[expose] public section

set_option maxRecDepth 16384
set_option Elab.async false

noncomputable section

namespace Cert.ReferenceIdeal.Moe

open Cert.ReferenceIdeal Cert.ReferenceIdeal.Gen
open Cert.KernelIdeal.Moe (unit)
open Idealize.ShloMosaic

variable (x : FVec Ideal S40960x2048 .bf16) (te : S40.Idx → BitVec 32) (w1 w3 : FVec Ideal S8x2048x7168 .f32) (w2 : FVec Ideal S8x7168x2048 .f32)

/-- The reference's result as one expression of its arguments. -/
def result : FVec Ideal S40960x2048 .f32 :=
  Host.reduceAdd (F := Ideal) (select (broadcastInDim S8x40960x2048 ![0, 1, 2] bcast_S8x40960x1_S8x40960x2048_0_1_2 (broadcastInDim S8x40960x1 ![0, 1] bcast_S8x40960_S8x40960x1_0_1 (cmpi .eq (broadcastInDim S8x40960 ![0, 1] bcast_S1x40960_S8x40960_0_1 (broadcastInDim S1x40960 ![1] bcast_S40960_S1x40960_1 (shapeCast _ (broadcastInDim S40x1024 ![0, 1] bcast_S40x1_S40x1024_0_1 (broadcastInDim S40x1 ![0] bcast_S40_S40x1_0 te)) shapeCasts_S40x1024_S40960))) (broadcastInDim S8x40960 ![0, 1] bcast_S8x1_S8x40960_0_1 (broadcastInDim S8x1 ![0] bcast_S8_S8x1_0 (iotaInDim S8 32 0)))))) (Host.dotGeneral (F := Ideal) dot_S8x40960x7168_S8x7168x2048_S8x40960x2048_2_1_1_2_0_0 none (mulf (mulf (transpose S8x40960x7168 [0, 2, 1] (Host.dotGeneral (F := Ideal) dot_S8x2048x7168_S40960x2048_S8x7168x40960_1_1_02_0_n_n none w1 (extf .f32 x bitsLt_bf16_f32)) transposes_S8x7168x40960_S8x40960x7168_0_2_1) (Host.divf (broadcastInDim S8x40960x7168 ![] bcast_S_S8x40960x7168 (constant S_ .f32 0x3F800000#32)) (addf (broadcastInDim S8x40960x7168 ![] bcast_S_S8x40960x7168 (constant S_ .f32 0x3F800000#32)) (Host.exp (Host.negf (transpose S8x40960x7168 [0, 2, 1] (Host.dotGeneral (F := Ideal) dot_S8x2048x7168_S40960x2048_S8x7168x40960_1_1_02_0_n_n none w1 (extf .f32 x bitsLt_bf16_f32)) transposes_S8x7168x40960_S8x40960x7168_0_2_1)))))) (transpose S8x40960x7168 [0, 2, 1] (Host.dotGeneral (F := Ideal) dot_S8x2048x7168_S40960x2048_S8x7168x40960_1_1_02_0_n_n none w3 (extf .f32 x bitsLt_bf16_f32)) transposes_S8x7168x40960_S8x40960x7168_0_2_1)) w2) (broadcastInDim S8x40960x2048 ![] bcast_S_S8x40960x2048 (id (constant S_ .f32 0x00000000#32)))) (constant S_ .f32 0x00000000#32) reducesTo_S8x40960x2048_S40960x2048_d0 h_S_

/-- An entry of the result: the row's own expert over all the hidden units. -/
theorem result_apply (R : Fin 40960) (d : Fin 2048) (e : Fin 8) (he : (te (ix1 ⟨R.val / 1024, by omega⟩)).toNat = e.val) :
    result x te w1 w3 w2 (ix2 R d)
      = (∑ q : Fin 7168, unit (fun h => x (ix2 R h)) (fun h => w1 (ix3 e h q)) (fun h => w3 (ix3 e h q)) (w2 (ix3 e q d)) : EReal) := by
  unfold unit
  pointwise [result]
  have hb : ∀ j : Fin 8, IntOp.cmpi CmpIPredicate.eq (te (ix1 ⟨R.val / 1024, by omega⟩)) (BitVec.ofNat 32 j.val) = if j = e then 1#1 else 0#1 := fun j => by
    have hj : (te (ix1 ⟨R.val / 1024, by omega⟩)) = BitVec.ofNat 32 j.val ↔ j = e := by
      rw [← BitVec.toNat_inj, he, BitVec.toNat_ofNat, Nat.mod_eq_of_lt (by omega)]
      exact ⟨fun h => Fin.ext h.symm, fun h => by rw [h]⟩
    by_cases h : j = e
    · rw [if_pos h, hj.mpr h]
      unfold IntOp.cmpi; simp
    · rw [if_neg h]
      have hne := fun hc => h (hj.mp hc)
      unfold IntOp.cmpi
      rw [show (te (ix1 ⟨R.val / 1024, by omega⟩) == BitVec.ofNat 32 j.val) = false from beq_eq_false_iff_ne.mpr hne]
      rfl
  rw [Finset.sum_eq_single e]
  · rw [hb, if_pos rfl]
    rw [WordCmp.select_of_eq_one rfl]
    refine Finset.sum_congr rfl fun q _ => ?_
    simp only [zero_sub, mul_comm]
  · intro j _ hj
    rw [hb, if_neg hj, WordCmp.select_of_eq_zero rfl]
    show id (constant (F := Ideal) S_ FTy.f32 0#32) ix0 = (0 : EReal)
    pointwise [id]
  · intro h; exact absurd (Finset.mem_univ e) h

end Cert.ReferenceIdeal.Moe

end
-- ==== Proof.Moe.Claim.lean ====
/- The routed experts against the reference, at the used rows. -/
module

public import proofs.«01_k».proof.Defs
public import proofs.«01_k».proof.Proof.Gen.On_routed
public import proofs.«01_k».proof.Proof.Moe.Value
public import proofs.«01_k».proof.Proof.Moe.Ref

@[expose] public section

set_option maxRecDepth 16384
set_option Elab.async false

noncomputable section

namespace Cert.Proof

open Idealize.ShloMosaic Idealize.ShloMosaic.TcCoe Idealize.SL.Sem
open Cert.KernelIdeal.Moe

/-- A selected entry's row is one of its tile's used rows. -/
theorem used_of_routed (x : FVec Ideal Cert.On_routed.S40960x2048 .bf16) (te tr : Cert.On_routed.S40.Idx → BitVec 32)
    (w1 w3 : FVec Ideal Cert.On_routed.S8x2048x7168 .f32) (w2 : FVec Ideal Cert.On_routed.S8x7168x2048 .f32) (R : Fin 40960) (d : Fin 2048)
    (hn : (tr (ix1 ⟨R.val / 1024, by omega⟩)).toNat ≤ 1024)
    (h : Cert.On_routed.fn (F := Ideal) x te tr w1 w3 w2 (ix2 R d) = 1#1) : R.val % 1024 < (tr (ix1 ⟨R.val / 1024, by omega⟩)).toNat := by
  pointwise [Cert.On_routed.fn] at h
  rw [WordCmp.cmpi_slt_eq, WordCmp.ofBool_eq_one_iff, decide_eq_true_eq] at h
  have h' := h
  rw [BitVec.toInt_eq_toNat_of_lt (by rw [BitVec.toNat_ofNat]; omega), BitVec.toInt_eq_toNat_of_lt (by omega), BitVec.toNat_ofNat] at h'
  omega

theorem algebraic : Cert.algebraic_KernelIdeal_ReferenceIdeal_on_routed := by
  intro m g m' g' hp hargs
  have h := planned_of (hp 0)
  refine ⟨fun c => Cert.ReferenceIdeal.Moe.result (m ((c.tc : Thread _ _).loc Cert.KernelIdeal.main_arg0)) (m ((c.tc : Thread _ _).loc Cert.KernelIdeal.main_arg1)) (m ((c.tc : Thread _ _).loc Cert.KernelIdeal.main_arg3)) (m ((c.tc : Thread _ _).loc Cert.KernelIdeal.main_arg4)) (m ((c.tc : Thread _ _).loc Cert.KernelIdeal.main_arg5)),
    (θ_run Cert.KernelIdeal.defs _ _).mono (fun r hr c => ⟨fun i hi => ?_, kept_of m h hr.1 c⟩) (run_quiescent m g h),
    (θ_run Cert.ReferenceIdeal.defs _ _).mono (fun r hr c => ⟨fun i hi => ?_, (hr c).2⟩) (Cert.ReferenceIdeal.Value.run (F := Ideal) m' g')⟩
  · obtain rfl : c = 0 := Subsingleton.elim _ _
    obtain ⟨R, d, rfl⟩ : ∃ (R : Fin 40960) (d : Fin 2048), i = ix2 R d := ⟨i 0, i 1, eq_ix2 i⟩
    have hn := h.rows (ix1 ⟨R.val / 1024, by omega⟩)
    have he := h.expert (ix1 ⟨R.val / 1024, by omega⟩)
    have hu := used_of_routed _ _ _ _ _ _ R d hn hi
    have hv := out_apply m (adm m h) 0 ⟨R.val / 1024, by omega⟩ ⟨_, he⟩ rfl hn ⟨R.val % 1024, by omega⟩ hu d
    have eR : (⟨R.val / 1024 * 1024 + R.val % 1024, by omega⟩ : Fin 40960) = R := Fin.ext (by show R.val / 1024 * 1024 + R.val % 1024 = _; omega)
    simp only [eR] at hv
    refine ((congrFun ((hr.1 0).1 (4 : Fin 5)) (ix2 R d)).trans hv).trans ?_
    exact (Cert.ReferenceIdeal.Moe.result_apply _ _ _ _ _ R d ⟨_, he⟩ rfl).symm
  · obtain ⟨e0, e1, e2, e3, e4, e5⟩ := hargs c
    refine (congrFun (hr c).1 i).trans ?_
    exact congrFun (congr (congr (congr (congr (congrArg Cert.ReferenceIdeal.Moe.result e0) e1) e3) e4) e5) i

end Cert.Proof

end
-- ==== Proof.Moe.Same.lean ====
/- The experts' program read over words and read over extended reals has one text: one run serves both frames. -/
module

public import proofs.«01_k».proof.Defs
public import proofs.«01_k».proof.Proof.Gen.Kernel
public import proofs.«01_k».proof.Proof.Moe.Launch

@[expose] public section

namespace Cert.Proof

open Idealize.ShloMosaic Idealize.ShloMosaic.TcCoe Idealize.SL.Sem

variable {F : FTy → Type} [FloatOps F]

/-- The two body tables agree, label by label. -/
theorem defs₀_same : Cert.Kernel.defs₀ (F := F) = Cert.KernelIdeal.defs₀ (F := F) := by
  unfold Cert.Kernel.defs₀ Cert.KernelIdeal.defs₀
  refine congrArg Defs.onTc (funext fun l => funext fun p => ?_)
  match l, p with
  | 0, (t, s) => rfl

/-- So do the tables with the pipeline. -/
theorem defs_same : Cert.Kernel.defs (F := F) = Cert.KernelIdeal.defs (F := F) :=
  congrArg (Pipeline.defs Cert.KernelIdeal.pcfgs) defs₀_same

/-- And the two main programs. -/
theorem main_same : Cert.Kernel.main (F := F) = Cert.KernelIdeal.main (F := F) := rfl

/-- The plan read over words is the plan of the run's tables. -/
theorem planned_words (m : (ℓ : Loc Cert.KernelIdeal.nD Cert.KernelIdeal.τ Cert.KernelIdeal.sig) → Buf (Elt Bits) ℓ) (hp : Cert.Pre_Kernel m) :
    Cert.KernelIdeal.Moe.Planned (Cert.KernelIdeal.Moe.tabs m 0) (Cert.KernelIdeal.Moe.tabs m 1) :=
  Cert.KernelIdeal.Moe.planned_of (hp 0)

/-- The frame over words, from the run at any values. -/
theorem frame_kernel : Cert.quiescent_Kernel := fun m ρ hp => by
  rw [defs_same, main_same]
  have h := Cert.KernelIdeal.Moe.frame (F := Bits) m ρ (planned_words m hp)
  exact h

end Cert.Proof

end
-- ==== Proof.Ffn.Step.lean ====
/- The dense SwiGLU: what one point leaves in each output's buffer, as the body's own arithmetic over its blocks. -/
module

public import proofs.«01_k».proof.Proof.Gen.Kernel2Ideal.Value

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The first hidden tile: the residual and the tile's share. -/
theorem out_A (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)
    (hc0 : cond0_0 i) (hc1 : ¬cond0_1 i) (x0 : Vec F S512x2048 .bf16) (x1 : Vec F S2048x512 .bf16) (x2 : Vec F S2048x512 .bf16) (x3 : Vec F S512x2048 .bf16) (x4 : Vec F S512x2048 .f32) (x5 : Vec F S1x2048 .f32) :
    out0_A_6 c i arg2 harg2 arg3 harg3 arg4 harg4 arg5 harg5 arg6 harg6 arg7 harg7 arg8 harg8 arg9 harg9 hc0 hc1 x0 x1 x2 x3 x4 x5 = k0_pay1 x0 x1 x2 x4 x3 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, View.ld_unit_zero (S := S512x2048) hz, View.ld_unit_zero (S := S2048x512) hz, View.ld_unit_zero (S := S1x2048) hz]

/-- A middle tile: what was there and the tile's share. -/
theorem out_B (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)
    (hc0 : ¬cond0_0 i) (hc1 : ¬cond0_1 i) (x0 : Vec F S512x2048 .bf16) (x1 : Vec F S2048x512 .bf16) (x2 : Vec F S2048x512 .bf16) (x3 : Vec F S512x2048 .bf16) (x4 : Vec F S512x2048 .f32) (x5 : Vec F S1x2048 .f32) (xo : Vec F S512x2048 .f32) :
    out0_B_6 c i arg2 harg2 arg3 harg3 arg4 harg4 arg5 harg5 arg6 harg6 arg7 harg7 arg8 harg8 arg9 harg9 hc0 hc1 x0 x1 x2 x3 x4 x5 xo = k0_pay1 x0 x1 x2 xo x3 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo)]
  unfold kernelRun0_B
  dsimp only
  rw [View.canon_unit_zero (S := S512x2048) hz]
  simp only [View.readAt_eq_ld, harg2.read_unread, harg3.read_unread, harg4.read_unread, harg5.read_unread, harg6.read_unread, harg7.read_unread, harg8.read_unread, View.ld_unit_zero (S := S512x2048) hz, View.ld_unit_zero (S := S2048x512) hz, View.ld_unit_zero (S := S1x2048) hz]

/-- The last tile, the same. -/
theorem out_C (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)
    (hc0 : ¬cond0_0 i) (hc1 : cond0_1 i) (x0 : Vec F S512x2048 .bf16) (x1 : Vec F S2048x512 .bf16) (x2 : Vec F S2048x512 .bf16) (x3 : Vec F S512x2048 .bf16) (x4 : Vec F S512x2048 .f32) (x5 : Vec F S1x2048 .f32) (xo : Vec F S512x2048 .f32) :
    out0_C_6 c i arg2 harg2 arg3 harg3 arg4 harg4 arg5 harg5 arg6 harg6 arg7 harg7 arg8 harg8 arg9 harg9 hc0 hc1 x0 x1 x2 x3 x4 x5 xo = k0_pay1 x0 x1 x2 xo x3 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo)]
  unfold kernelRun0_C
  dsimp only
  sl_unfold_words
  rw [View.canon_unit_zero (S := S512x2048) hz]
  simp only [View.readAt_eq_ld, harg2.read_unread, harg3.read_unread, harg4.read_unread, harg5.read_unread, harg6.read_unread, harg7.read_unread, harg8.read_unread, View.ld_unit_zero (S := S512x2048) hz, View.ld_unit_zero (S := S2048x512) hz, View.ld_unit_zero (S := S1x2048) hz]

/-- The last tile, the norm of what it leaves. -/
theorem norm_C (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)
    (hc0 : ¬cond0_0 i) (hc1 : cond0_1 i) (x0 : Vec F S512x2048 .bf16) (x1 : Vec F S2048x512 .bf16) (x2 : Vec F S2048x512 .bf16) (x3 : Vec F S512x2048 .bf16) (x4 : Vec F S512x2048 .f32) (x5 : Vec F S1x2048 .f32) (xo : Vec F S512x2048 .f32) :
    out0_C_7 c i arg2 harg2 arg3 harg3 arg4 harg4 arg5 harg5 arg6 harg6 arg7 harg7 arg8 harg8 arg9 harg9 hc0 hc1 x0 x1 x2 x3 x4 x5 xo = k0_pay2 (k0_pay1 x0 x1 x2 xo x3) x5 := by
  unfold out0_C_7
  rw [View.read_writes_eq_canon _ _ _ (cover0_C_7 c i arg2 harg2 arg3 harg3 arg4 harg4 arg5 harg5 arg6 harg6 arg7 harg7 arg8 harg8 arg9 harg9 hc0 hc1 x0 x1 x2 x3 x4 x5 xo)]
  unfold kernelRun0_C
  dsimp only
  sl_unfold_words
  rw [View.canon_unit_zero (S := S512x2048) hz]
  rw [View.readCov_unit_zero (S := S512x2048) _ hz]
  simp only [View.readAt_eq_ld, harg2.read_unread, harg3.read_unread, harg4.read_unread, harg5.read_unread, harg6.read_unread, harg7.read_unread, harg8.read_unread, View.ld_unit_zero (S := S512x2048) hz, View.ld_unit_zero (S := S2048x512) hz, View.ld_unit_zero (S := S1x2048) hz]

end Cert.Kernel2Ideal.Ffn

end
-- ==== Proof.Ffn.Pay.lean ====
/- The dense SwiGLU: the body's arithmetic at one entry, over the ideal values. -/
module

public import proofs.«01_k».proof.Proof.Gen.Kernel2Ideal.Skeleton
public import Idealize.ShloMosaic.Lib.Pointwise

@[expose] public section

set_option maxRecDepth 16384

noncomputable section

namespace Cert.Kernel2Ideal.Ffn

open Cert.Kernel2Ideal Cert.Kernel2Ideal.Gen
open Idealize.ShloMosaic

/-- One hidden unit's share of one output entry: the gated unit times its outgoing weight. -/
def unit (x w1 w3 : Fin 2048 → EReal) (w2 : EReal) : EReal :=
  (((∑ h, x h * w1 h) * Ideal.div 1 (1 + Ideal.exp (0 - ∑ h, x h * w1 h))) * ∑ h, x h * w3 h) * w2

theorem pay1_apply (x0 : Vec Ideal S512x2048 .bf16) (x1 x2 : Vec Ideal S2048x512 .bf16) (y : Vec Ideal S512x2048 .f32) (x3 : Vec Ideal S512x2048 .bf16) (r : Fin 512) (d : Fin 2048) :
    k0_pay1 x0 x1 x2 y x3 (ix2 r d)
      = (y (ix2 r d) + ∑ k : Fin 512, unit (fun h => x0 (ix2 r h)) (fun h => x1 (ix2 h k)) (fun h => x2 (ix2 h k)) (x3 (ix2 k d)) : EReal) := by
  unfold unit
  pointwise [k0_pay1]

/-- One entry of a row's norm: the row over the root of its mean square, times the gain. -/
def rowNorm (y : Fin 2048 → EReal) (g : EReal) (d : Fin 2048) : EReal :=
  y d * Ideal.rsqrt (Ideal.div (∑ x, y x * y x) (Ideal.ofBits FTy.f32 1157627904#32) + Ideal.ofBits FTy.f32 897988541#32) * g

theorem pay2_apply (y : Vec Ideal S512x2048 .f32) (g : Vec Ideal S1x2048 .f32) (r : Fin 512) (d : Fin 2048) :
    k0_pay2 y g (ix2 r d) = rowNorm (fun x => y (ix2 r x)) (g (ix2 0 d)) d := by
  unfold rowNorm
  pointwise [k0_pay2]

end Cert.Kernel2Ideal.Ffn

end
-- ==== Proof.Ffn.Value.lean ====
/- The dense SwiGLU's two results at an entry. -/
module

public import proofs.«01_k».proof.Proof.Ffn.Step
public import proofs.«01_k».proof.Proof.Ffn.Pay

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ)

/-! ## What the region finds -/

theorem V_v0 (c : Dev nD) : V m c main_v0 = truncf (F := Ideal) .bf16 (m ((c : Thread nD τ).loc main_arg1) : FVec Ideal S2048x5632 .f32) bitsLt_bf16_f32 := by
  unfold V hostOps0
  after_results <;> rfl

theorem V_v1 (c : Dev nD) : V m c main_v1 = truncf (F := Ideal) .bf16 (m ((c : Thread nD τ).loc main_arg2) : FVec Ideal S2048x5632 .f32) bitsLt_bf16_f32 := by
  unfold V hostOps0
  after_results <;> rfl

theorem V_v2 (c : Dev nD) : V m c main_v2 = truncf (F := Ideal) .bf16 (m ((c : Thread nD τ).loc main_arg3) : FVec Ideal S5632x2048 .f32) bitsLt_bf16_f32 := by
  unfold V hostOps0
  after_results <;> rfl

theorem V_v3 (c : Dev nD) : V m c main_v3 = shapeCast S1x2048 (m ((c : Thread nD τ).loc main_arg5) : Vec Ideal S2048 .f32) shapeCasts_S2048_S1x2048 := by
  unfold V hostOps0
  after_results <;> rfl

theorem cast2_apply (x : Vec Ideal S2048x5632 .f32) (h : Fin 2048) (q : Fin 5632) : truncf (F := Ideal) .bf16 x bitsLt_bf16_f32 (ix2 h q) = (x (ix2 h q) : EReal) := by
  pointwise []

theorem cast3_apply (x : Vec Ideal S5632x2048 .f32) (q : Fin 5632) (d : Fin 2048) : truncf (F := Ideal) .bf16 x bitsLt_bf16_f32 (ix2 q d) = (x (ix2 q d) : EReal) := by
  pointwise []

theorem gain_apply (x : Vec Ideal S2048 .f32) (d : Fin 2048) : shapeCast S1x2048 x shapeCasts_S2048_S1x2048 (ix2 0 d) = x (ix1 d) := by
  pointwise []

/-! ## The grid's coordinates -/

theorem crd0 : ∀ t : Fin cfg0.N, (grid0.coords t 0).val = t.val / 11 := by decide +kernel
theorem crd1 : ∀ t : Fin cfg0.N, (grid0.coords t 1).val = t.val % 11 := by decide +kernel

/-! ## The blocks -/

section
variable (c : Dev nD) (t : Fin cfg0.N) (i : Fin 32) (s : Fin 11) (ht : t.val = i.val * 11 + s.val)
include ht

theorem blk0 (r : Fin 512) (h : Fin 2048) : iblk m c 0 t (ix2 r h) = (m ((c : Thread nD τ).loc main_arg0) : Vec Ideal S16384x2048 .bf16) (ix2 ⟨i.val * 512 + r.val, by omega⟩ h) := by
  have e0 := crd0 t
  unfold iblk
  rw [View.read_apply]
  show V m c main_arg0 _ = _
  rw [V_main_arg0]
  show (m ((c : Thread nD τ).loc main_arg0) : Vec Ideal S16384x2048 .bf16) _ = _
  congr 1
  funext x; apply Fin.ext; fin_cases x
  · refine (Pipeline.Window.rect_emb_val (win0 0) t (ix2 r h) (0 : Fin 2)).trans ?_
    show (BitVec.ofNat 32 (grid0.coords t 0).val).toNat * 512 + r.val = i.val * 512 + r.val
    rw [e0, BitVec.toNat_ofNat]; omega
  · refine (Pipeline.Window.rect_emb_val (win0 0) t (ix2 r h) (1 : Fin 2)).trans ?_
    show 0 * 2048 + h.val = h.val
    omega

theorem blk1 (h : Fin 2048) (k : Fin 512) : iblk m c 1 t (ix2 h k) = (m ((c : Thread nD τ).loc main_arg1) : Vec Ideal S2048x5632 .f32) (ix2 h ⟨s.val * 512 + k.val, by omega⟩) := by
  have e1 := crd1 t
  refine Eq.trans ?_ (cast2_apply (m ((c : Thread nD τ).loc main_arg1)) h ⟨s.val * 512 + k.val, by omega⟩)
  unfold iblk
  rw [View.read_apply]
  show V m c main_v0 _ = _
  rw [V_v0]
  congr 1
  funext x; apply Fin.ext; fin_cases x
  · refine (Pipeline.Window.rect_emb_val (win0 1) t (ix2 h k) (0 : Fin 2)).trans ?_
    show 0 * 2048 + h.val = h.val
    omega
  · refine (Pipeline.Window.rect_emb_val (win0 1) t (ix2 h k) (1 : Fin 2)).trans ?_
    show (BitVec.ofNat 32 (grid0.coords t 1).val).toNat * 512 + k.val = s.val * 512 + k.val
    rw [e1, BitVec.toNat_ofNat]; omega

theorem blk2 (h : Fin 2048) (k : Fin 512) : iblk m c 2 t (ix2 h k) = (m ((c : Thread nD τ).loc main_arg2) : Vec Ideal S2048x5632 .f32) (ix2 h ⟨s.val * 512 + k.val, by omega⟩) := by
  have e1 := crd1 t
  refine Eq.trans ?_ (cast2_apply (m ((c : Thread nD τ).loc main_arg2)) h ⟨s.val * 512 + k.val, by omega⟩)
  unfold iblk
  rw [View.read_apply]
  show V m c main_v1 _ = _
  rw [V_v1]
  congr 1
  funext x; apply Fin.ext; fin_cases x
  · refine (Pipeline.Window.rect_emb_val (win0 2) t (ix2 h k) (0 : Fin 2)).trans ?_
    show 0 * 2048 + h.val = h.val
    omega
  · refine (Pipeline.Window.rect_emb_val (win0 2) t (ix2 h k) (1 : Fin 2)).trans ?_
    show (BitVec.ofNat 32 (grid0.coords t 1).val).toNat * 512 + k.val = s.val * 512 + k.val
    rw [e1, BitVec.toNat_ofNat]; omega

theorem blk3 (k : Fin 512) (d : Fin 2048) : iblk m c 3 t (ix2 k d) = (m ((c : Thread nD τ).loc main_arg3) : Vec Ideal S5632x2048 .f32) (ix2 ⟨s.val * 512 + k.val, by omega⟩ d) := by
  have e1 := crd1 t
  refine Eq.trans ?_ (cast3_apply (m ((c : Thread nD τ).loc main_arg3)) ⟨s.val * 512 + k.val, by omega⟩ d)
  unfold iblk
  rw [View.read_apply]
  show V m c main_v2 _ = _
  rw [V_v2]
  congr 1
  funext x; apply Fin.ext; fin_cases x
  · refine (Pipeline.Window.rect_emb_val (win0 3) t (ix2 k d) (0 : Fin 2)).trans ?_
    show (BitVec.ofNat 32 (grid0.coords t 1).val).toNat * 512 + k.val = s.val * 512 + k.val
    rw [e1, BitVec.toNat_ofNat]; omega
  · refine (Pipeline.Window.rect_emb_val (win0 3) t (ix2 k d) (1 : Fin 2)).trans ?_
    show 0 * 2048 + d.val = d.val
    omega

theorem blk4 (r : Fin 512) (d : Fin 2048) : iblk m c 4 t (ix2 r d) = (m ((c : Thread nD τ).loc main_arg4) : Vec Ideal S16384x2048 .f32) (ix2 ⟨i.val * 512 + r.val, by omega⟩ d) := by
  have e0 := crd0 t
  unfold iblk
  rw [View.read_apply]
  show V m c main_arg4 _ = _
  rw [V_main_arg4]
  show (m ((c : Thread nD τ).loc main_arg4) : Vec Ideal S16384x2048 .f32) _ = _
  congr 1
  funext x; apply Fin.ext; fin_cases x
  · refine (Pipeline.Window.rect_emb_val (win0 4) t (ix2 r d) (0 : Fin 2)).trans ?_
    show (BitVec.ofNat 32 (grid0.coords t 0).val).toNat * 512 + r.val = i.val * 512 + r.val
    rw [e0, BitVec.toNat_ofNat]; omega
  · refine (Pipeline.Window.rect_emb_val (win0 4) t (ix2 r d) (1 : Fin 2)).trans ?_
    show 0 * 2048 + d.val = d.val
    omega

end

theorem blk5 (c : Dev nD) (t : Fin cfg0.N) (d : Fin 2048) : iblk m c 5 t (ix2 0 d) = (m ((c : Thread nD τ).loc main_arg5) : Vec Ideal S2048 .f32) (ix1 d) := by
  refine Eq.trans ?_ (gain_apply (m ((c : Thread nD τ).loc main_arg5)) d)
  unfold iblk
  rw [View.read_apply]
  show V m c main_v3 _ = _
  rw [V_v3]
  congr 1
  funext x; apply Fin.ext; fin_cases x
  · refine (Pipeline.Window.rect_emb_val (win0 5) t (ix2 0 d) (0 : Fin 2)).trans ?_
    show 0 * 1 + 0 = 0
    omega
  · refine (Pipeline.Window.rect_emb_val (win0 5) t (ix2 0 d) (1 : Fin 2)).trans ?_
    show 0 * 2048 + d.val = d.val
    omega

/-! ## The accumulation -/

/-- One hidden unit's share of the entry at row `R`, column `d`. -/
def share (c : Dev nD) (R : Fin 16384) (d : Fin 2048) (q : Fin 5632) : EReal :=
  unit (fun h => (m ((c : Thread nD τ).loc main_arg0) : Vec Ideal S16384x2048 .bf16) (ix2 R h))
    (fun h => (m ((c : Thread nD τ).loc main_arg1) : Vec Ideal S2048x5632 .f32) (ix2 h q))
    (fun h => (m ((c : Thread nD τ).loc main_arg2) : Vec Ideal S2048x5632 .f32) (ix2 h q))
    ((m ((c : Thread nD τ).loc main_arg3) : Vec Ideal S5632x2048 .f32) (ix2 q d))

/-- The same at a number, nothing past the last unit. -/
def shareN (c : Dev nD) (R : Fin 16384) (d : Fin 2048) (q : ℕ) : EReal :=
  if h : q < 5632 then share m c R d ⟨q, h⟩ else 0

/-- The residual at an entry. -/
def resid (c : Dev nD) (R : Fin 16384) (d : Fin 2048) : EReal := (m ((c : Thread nD τ).loc main_arg4) : Vec Ideal S16384x2048 .f32) (ix2 R d)

/-- The residual and the first `n` units' shares. -/
def part (c : Dev nD) (R : Fin 16384) (d : Fin 2048) (n : ℕ) : EReal :=
  resid m c R d + ∑ q ∈ Finset.range n, shareN m c R d q

theorem point_apply (c : Dev nD) (t : Fin cfg0.N) (i : Fin 32) (s : Fin 11) (ht : t.val = i.val * 11 + s.val) (y : Vec Ideal S512x2048 .f32) (r : Fin 512) (d : Fin 2048) :
    k0_pay1 (F := Ideal) (iblk m c 0 t) (iblk m c 1 t) (iblk m c 2 t) y (iblk m c 3 t) (ix2 r d)
      = (y (ix2 r d) + ∑ k ∈ Finset.range 512, shareN m c ⟨i.val * 512 + r.val, by omega⟩ d (s.val * 512 + k) : EReal) := by
  refine (pay1_apply _ _ _ _ _ r d).trans (congrArg (fun b : EReal => y (ix2 r d) + b) ?_)
  rw [← Fin.sum_univ_eq_sum_range (fun k => shareN m c ⟨i.val * 512 + r.val, by omega⟩ d (s.val * 512 + k)) 512]
  refine Finset.sum_congr rfl fun k _ => ?_
  unfold shareN share
  rw [dif_pos (by omega)]
  exact congr (congr (congr (congrArg unit (funext fun h => blk0 m c t i s ht r h)) (funext fun h => blk1 m c t i s ht h k)) (funext fun h => blk2 m c t i s ht h k)) (blk3 m c t i s ht k d)

theorem part_succ (c : Dev nD) (R : Fin 16384) (d : Fin 2048) (s : ℕ) :
    part m c R d ((s + 1) * 512) = part m c R d (s * 512) + ∑ k ∈ Finset.range 512, shareN m c R d (s * 512 + k) := by
  unfold part
  rw [show (s + 1) * 512 = s * 512 + 512 by omega, Finset.sum_range_add, add_assoc]

/-- The first output's buffer after a row block's first tiles. -/
theorem acc_apply (c : Dev nD) (i : Fin 32) (r : Fin 512) (d : Fin 2048) :
    ∀ (s : ℕ) (hs : s < 11) (t : Fin cfg0.N), t.val = i.val * 11 + s →
      (outsAt0 m c t.val t.isLt).1 (ix2 r d) = part m c ⟨i.val * 512 + r.val, by omega⟩ d ((s + 1) * 512) := by
  intro s
  induction s with
  | zero =>
    intro hs t ht
    rw [outsAt0_A m c t (by omega) (by omega), out_A]
    refine (point_apply m c t i ⟨0, hs⟩ ht _ r d).trans ?_
    rw [part_succ]
    refine congrArg₂ (fun a b : EReal => a + b) ((blk4 m c t i ⟨0, hs⟩ ht r d).trans ?_) rfl
    unfold part
    rw [Nat.zero_mul, Finset.range_zero, Finset.sum_empty, add_zero]
    rfl
  | succ s ih =>
    intro hs t ht
    have hlt := t.isLt
    have ih' := ih (by omega) ⟨t.val - 1, by omega⟩ (by show t.val - 1 = _; omega)
    rw [part_succ, ← ih']
    by_cases h : t.val % 11 = 10
    · rw [outsAt0_C m c t (by omega) h, out_C]
      exact point_apply m c t i ⟨s + 1, hs⟩ ht _ r d
    · rw [outsAt0_B m c t (by omega) h, out_B]
      exact point_apply m c t i ⟨s + 1, hs⟩ ht _ r d

/-- The first result at an entry. -/
def first (c : Dev nD) (R : Fin 16384) (d : Fin 2048) : EReal :=
  resid m c R d + ∑ q : Fin 5632, share m c R d q

theorem part_last (c : Dev nD) (R : Fin 16384) (d : Fin 2048) : part m c R d ((10 + 1) * 512) = first m c R d := by
  unfold part first
  rw [show (10 + 1) * 512 = 5632 from rfl, ← Fin.sum_univ_eq_sum_range]
  exact congrArg (fun b : EReal => resid m c R d + b) (Finset.sum_congr rfl fun q _ => by unfold shareN; rw [dif_pos q.isLt])

/-- The second output's buffer after a row block's last tile. -/
theorem last_apply (c : Dev nD) (i : Fin 32) (r : Fin 512) (d : Fin 2048) (t : Fin cfg0.N) (ht : t.val = i.val * 11 + 10) :
    (outsAt0 m c t.val t.isLt).2 (ix2 r d)
      = rowNorm (fun x => first m c ⟨i.val * 512 + r.val, by omega⟩ x) ((m ((c : Thread nD τ).loc main_arg5) : Vec Ideal S2048 .f32) (ix1 d)) d := by
  have hy := fun x => (acc_apply m c i r x 10 (by omega) t ht).trans (part_last m c _ x)
  rw [outsAt0_C m c t (by omega) (by omega)] at hy ⊢
  rw [norm_C]
  rw [out_C] at hy
  refine (pay2_apply _ _ r d).trans ?_
  exact congrArg₂ (fun y g => rowNorm y g d) (funext hy) (blk5 m c t d)

/-! ## The two arrays -/

theorem mem_blk6 (t : Fin cfg0.N) (j : S16384x2048.Idx) :
    j ∈ ((cfg0.win 6).blk t).view.set
      ↔ ∀ x : Fin 2, (win0 6).index t x * S512x2048.size x ≤ (j x).val ∧ (j x).val < (win0 6).index t x * S512x2048.size x + S512x2048.size x := by
  show j ∈ ((View.whole main_v4_0).slice ((win0 6).rect t)).set ↔ _
  rw [View.set_slice_whole, Rect.mem_set_unit]; exact Iff.rfl

theorem mem_blk7 (t : Fin cfg0.N) (j : S16384x2048.Idx) :
    j ∈ ((cfg0.win 7).blk t).view.set
      ↔ ∀ x : Fin 2, (win0 7).index t x * S512x2048.size x ≤ (j x).val ∧ (j x).val < (win0 7).index t x * S512x2048.size x + S512x2048.size x := by
  show j ∈ ((View.whole main_v4_1).slice ((win0 7).rect t)).set ↔ _
  rw [View.set_slice_whole, Rect.mem_set_unit]; exact Iff.rfl

theorem out6_apply (c : Dev nD) (R : Fin 16384) (d : Fin 2048) :
    ((dats m 0 c).arrAt 6 cfg0.N : Vec Ideal S16384x2048 .f32) (ix2 R d) = first m c R d := by
  have hN : cfg0.N = 352 := N_0
  have hN' : grid0.N = 352 := N_0
  refine (dats m 0 c).arrAt_forall_of_flushed 6
    (fun (j : S16384x2048.Idx) (v : EReal) => j = ix2 R d → v = first m c R d)
    (fun t hf y hy => ?_) cfg0.N ⟨R.val / 512 * 11 + 10, by omega⟩ (ix2 R d) (by show R.val / 512 * 11 + 10 < _; omega) ?_ ?_ rfl
  · have hf' := (flush0_6 t).mp hf
    have hlt := t.isLt
    obtain ⟨y0, y1, rfl⟩ : ∃ (y0 : Fin 512) (y1 : Fin 2048), y = ix2 y0 y1 := ⟨y 0, y 1, eq_ix2 y⟩
    have h0 : (BitVec.ofNat 32 (grid0.coords t 0).val).toNat * 512 + y0.val = R.val :=
      (Pipeline.Window.rect_emb_val (win0 6) t (ix2 y0 y1) (0 : Fin 2)).symm.trans (congrArg (fun j : S16384x2048.Idx => (j 0).val) hy)
    have h1 : 0 * 2048 + y1.val = d.val :=
      (Pipeline.Window.rect_emb_val (win0 6) t (ix2 y0 y1) (1 : Fin 2)).symm.trans (congrArg (fun j : S16384x2048.Idx => (j 1).val) hy)
    rw [crd0, BitVec.toNat_ofNat, Nat.mod_eq_of_lt (by omega)] at h0
    have e1 : y1 = d := Fin.ext (by omega)
    subst e1
    have eR : (⟨t.val / 11 * 512 + y0.val, h0 ▸ R.isLt⟩ : Fin 16384) = R := Fin.ext h0
    have hv := (acc_apply m c ⟨t.val / 11, by omega⟩ y0 y1 10 (by omega) t (by show t.val = t.val / 11 * 11 + 10; omega)).trans (part_last m c _ y1)
    rw [Value.flushed6]
    exact hv.trans (congrArg (fun R => first m c R y1) eR)
  · rw [flush0_6]; show (R.val / 512 * 11 + 10) % 11 = 10; omega
  · rw [mem_blk6]
    refine Fin.forall_fin_two.mpr ⟨?_, ?_⟩
    · show (BitVec.ofNat 32 (grid0.coords ⟨R.val / 512 * 11 + 10, by omega⟩ 0).val).toNat * 512 ≤ R.val ∧ R.val < (BitVec.ofNat 32 (grid0.coords ⟨R.val / 512 * 11 + 10, by omega⟩ 0).val).toNat * 512 + 512
      rw [crd0, BitVec.toNat_ofNat]
      show (R.val / 512 * 11 + 10) / 11 % 2 ^ 32 * 512 ≤ _ ∧ _ < (R.val / 512 * 11 + 10) / 11 % 2 ^ 32 * 512 + 512
      omega
    · show 0 * 2048 ≤ d.val ∧ d.val < 0 * 2048 + 2048
      omega

theorem out7_apply (c : Dev nD) (R : Fin 16384) (d : Fin 2048) :
    ((dats m 0 c).arrAt 7 cfg0.N : Vec Ideal S16384x2048 .bf16) (ix2 R d)
      = rowNorm (fun x => first m c R x) ((m ((c : Thread nD τ).loc main_arg5) : Vec Ideal S2048 .f32) (ix1 d)) d := by
  have hN : cfg0.N = 352 := N_0
  have hN' : grid0.N = 352 := N_0
  refine (dats m 0 c).arrAt_forall_of_flushed 7
    (fun (j : S16384x2048.Idx) (v : EReal) => j = ix2 R d → v = rowNorm (fun x => first m c R x) ((m ((c : Thread nD τ).loc main_arg5) : Vec Ideal S2048 .f32) (ix1 d)) d)
    (fun t hf y hy => ?_) cfg0.N ⟨R.val / 512 * 11 + 10, by omega⟩ (ix2 R d) (by show R.val / 512 * 11 + 10 < _; omega) ?_ ?_ rfl
  · have hf' := (flush0_7 t).mp hf
    have hlt := t.isLt
    obtain ⟨y0, y1, rfl⟩ : ∃ (y0 : Fin 512) (y1 : Fin 2048), y = ix2 y0 y1 := ⟨y 0, y 1, eq_ix2 y⟩
    have h0 : (BitVec.ofNat 32 (grid0.coords t 0).val).toNat * 512 + y0.val = R.val :=
      (Pipeline.Window.rect_emb_val (win0 7) t (ix2 y0 y1) (0 : Fin 2)).symm.trans (congrArg (fun j : S16384x2048.Idx => (j 0).val) hy)
    have h1 : 0 * 2048 + y1.val = d.val :=
      (Pipeline.Window.rect_emb_val (win0 7) t (ix2 y0 y1) (1 : Fin 2)).symm.trans (congrArg (fun j : S16384x2048.Idx => (j 1).val) hy)
    rw [crd0, BitVec.toNat_ofNat, Nat.mod_eq_of_lt (by omega)] at h0
    have e1 : y1 = d := Fin.ext (by omega)
    subst e1
    have eR : (⟨t.val / 11 * 512 + y0.val, h0 ▸ R.isLt⟩ : Fin 16384) = R := Fin.ext h0
    have hv := last_apply m c ⟨t.val / 11, by omega⟩ y0 y1 t (by show t.val = t.val / 11 * 11 + 10; omega)
    rw [Value.flushed7]
    exact hv.trans (congrArg (fun R => rowNorm (fun x => first m c R x) _ y1) eR)
  · rw [flush0_7]; show (R.val / 512 * 11 + 10) % 11 = 10; omega
  · rw [mem_blk7]
    refine Fin.forall_fin_two.mpr ⟨?_, ?_⟩
    · show (BitVec.ofNat 32 (grid0.coords ⟨R.val / 512 * 11 + 10, by omega⟩ 0).val).toNat * 512 ≤ R.val ∧ R.val < (BitVec.ofNat 32 (grid0.coords ⟨R.val / 512 * 11 + 10, by omega⟩ 0).val).toNat * 512 + 512
      rw [crd0, BitVec.toNat_ofNat]
      show (R.val / 512 * 11 + 10) / 11 % 2 ^ 32 * 512 ≤ _ ∧ _ < (R.val / 512 * 11 + 10) / 11 % 2 ^ 32 * 512 + 512
      omega
    · show 0 * 2048 ≤ d.val ∧ d.val < 0 * 2048 + 2048
      omega

end Cert.Kernel2Ideal.Ffn

end
-- ==== Proof.Ffn.Ref.lean ====
/- The reference's dense SwiGLU and its norm read at an entry. -/
module

public import proofs.«01_k».proof.Proof.Gen.Reference2Ideal
public import proofs.«01_k».proof.Proof.Gen.Reference2Ideal.Run
public import proofs.«01_k».proof.Proof.Ffn.Pay
public import Idealize.ShloMosaic.Lib.Pointwise

@[expose] public section

set_option maxRecDepth 16384

noncomputable section

namespace Cert.Reference2Ideal.Ffn

open Cert.Reference2Ideal Cert.Reference2Ideal.Gen
open Cert.Kernel2Ideal.Ffn (unit rowNorm)
open Idealize.ShloMosaic

variable (h : FVec Ideal S16384x2048 .bf16) (w1 w3 : FVec Ideal S2048x5632 .f32) (w2 : FVec Ideal S5632x2048 .f32) (x : FVec Ideal S16384x2048 .f32)

/-- The reference's first result as one expression of its arguments. -/
def first : FVec Ideal S16384x2048 .f32 :=
  addf x (Host.dotGeneral (F := Ideal) dot_S16384x5632_S5632x2048_S16384x2048_1_0_0_1_n_n none (mulf (mulf (Host.dotGeneral (F := Ideal) dot_S16384x2048_S2048x5632_S16384x5632_1_0_0_1_n_n none (extf .f32 h bitsLt_bf16_f32) w1) (Host.divf (broadcastInDim S16384x5632 ![] bcast_S_S16384x5632 (constant (F := Ideal) S_ .f32 0x3F800000#32)) (addf (broadcastInDim S16384x5632 ![] bcast_S_S16384x5632 (constant (F := Ideal) S_ .f32 0x3F800000#32)) (Host.exp (Host.negf (Host.dotGeneral (F := Ideal) dot_S16384x2048_S2048x5632_S16384x5632_1_0_0_1_n_n none (extf .f32 h bitsLt_bf16_f32) w1)))))) (Host.dotGeneral (F := Ideal) dot_S16384x2048_S2048x5632_S16384x5632_1_0_0_1_n_n none (extf .f32 h bitsLt_bf16_f32) w3)) w2)

/-- Its second result as one expression of its first and the gain. -/
def second (y : FVec Ideal S16384x2048 .f32) (g : FVec Ideal S2048 .f32) : FVec Ideal S16384x2048 .bf16 :=
  truncf .bf16 (mulf (mulf y (broadcastInDim S16384x2048 ![0, 1] bcast_S16384x1_S16384x2048_0_1 (Host.rsqrt (addf (Host.divf (broadcastInDim S16384x1 ![0] bcast_S16384_S16384x1_0 (Host.reduceAdd (F := Ideal) (mulf y y) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 g))) bitsLt_bf16_f32

theorem first_apply (R : Fin 16384) (d : Fin 2048) :
    first h w1 w3 w2 x (ix2 R d)
      = (x (ix2 R d) + ∑ q : Fin 5632, unit (fun k => h (ix2 R k)) (fun k => w1 (ix2 k q)) (fun k => w3 (ix2 k q)) (w2 (ix2 q d)) : EReal) := by
  unfold unit
  pointwise [first]
  simp only [zero_sub]

theorem second_apply (y : FVec Ideal S16384x2048 .f32) (g : FVec Ideal S2048 .f32) (R : Fin 16384) (d : Fin 2048) :
    second y g (ix2 R d) = rowNorm (fun k => y (ix2 R k)) (g (ix1 d)) d := by
  unfold rowNorm
  pointwise [second]

end Cert.Reference2Ideal.Ffn

end
-- ==== Proof.Ffn.Claim.lean ====
/- The dense SwiGLU against the reference. -/
module

public import proofs.«01_k».proof.Defs
public import proofs.«01_k».proof.Proof.Ffn.Value
public import proofs.«01_k».proof.Proof.Ffn.Ref

@[expose] public section

set_option maxRecDepth 16384

noncomputable section

namespace Cert.Proof

open Idealize.ShloMosaic Idealize.ShloMosaic.TcCoe Idealize.SL.Sem

theorem algebraic2 : Cert.algebraic_Kernel2Ideal_Reference2Ideal := by
  intro m g m' g' hp hargs
  refine ⟨fun c => Cert.Reference2Ideal.Ffn.first (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)),
    fun c => Cert.Reference2Ideal.Ffn.second (Cert.Reference2Ideal.Ffn.first (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4))) (m ((c.tc : Thread _ _).loc Cert.Kernel2Ideal.main_arg5)),
    (θ_run Cert.Kernel2Ideal.defs _ _).mono (fun r hr c => ⟨?_, ?_, (hr c).2.2⟩) (Cert.Kernel2Ideal.Value.run_blocks (F := Ideal) m g),
    (θ_run Cert.Reference2Ideal.defs _ _).mono (fun r hr c => ⟨?_, ?_, (hr c).2.2⟩) (Cert.Reference2Ideal.Value.run (F := Ideal) m' g')⟩
  · refine (hr c).1.trans (funext fun j => ?_)
    obtain ⟨R, d, rfl⟩ : ∃ (R : Fin 16384) (d : Fin 2048), j = ix2 R d := ⟨j 0, j 1, eq_ix2 j⟩
    exact (Cert.Kernel2Ideal.Ffn.out6_apply m c R d).trans (Cert.Reference2Ideal.Ffn.first_apply _ _ _ _ _ R d).symm
  · refine (hr c).2.1.trans (funext fun j => ?_)
    obtain ⟨R, d, rfl⟩ : ∃ (R : Fin 16384) (d : Fin 2048), j = ix2 R d := ⟨j 0, j 1, eq_ix2 j⟩
    refine (Cert.Kernel2Ideal.Ffn.out7_apply m c R d).trans (Eq.trans ?_ (Cert.Reference2Ideal.Ffn.second_apply _ _ R d).symm)
    exact congrArg (fun y => Cert.Kernel2Ideal.Ffn.rowNorm y _ d) (funext fun k => (Cert.Reference2Ideal.Ffn.first_apply _ _ _ _ _ R k).symm)
  · obtain ⟨e0, e1, e2, e3, e4, e5⟩ := hargs c
    have e := congr (congr (congr (congr (congrArg Cert.Reference2Ideal.Ffn.first e0) e1) e2) e3) e4
    exact (hr c).1.trans e
  · obtain ⟨e0, e1, e2, e3, e4, e5⟩ := hargs c
    have e := congr (congrArg Cert.Reference2Ideal.Ffn.second (congr (congr (congr (congr (congrArg Cert.Reference2Ideal.Ffn.first e0) e1) e2) e3) e4)) e5
    exact (hr c).2.1.trans e

end Cert.Proof

end
-- ==== Proof.Glu.Value.lean ====
/- The gated projection of the convolutional block: the result at an entry. -/
module

public import proofs.«01_k».proof.Proof.Gen.Kernel3Ideal.Value
public import Idealize.ShloMosaic.Lib.Pointwise

@[expose] public section

set_option maxRecDepth 16384

noncomputable section

namespace Cert.Kernel3Ideal.Glu

open Cert.Kernel3Ideal Cert.Kernel3Ideal.Gen
open Idealize.ShloMosaic Idealize.ShloMosaic.TcCoe Idealize.ShloMosaic.Tactic
open Idealize.SL Idealize.SL.RA
open Idealize.ShloMosaic.Pipeline (Dat Cfg Window)

/-- One entry: the value column's product and bias, times the sigmoid of the gate column's. -/
def entry (h wa wb : Fin 2048 → EReal) (ba bb : EReal) : EReal :=
  ((∑ k, h k * wa k) + ba) * Ideal.div 1 (1 + Ideal.exp (0 - ((∑ k, h k * wb k) + bb)))

theorem pay1_apply (x0 : Vec Ideal S1024x2048 .bf16) (x1 : Vec Ideal S2048x512 .bf16) (x3 : Vec Ideal S1x512 .f32) (x2 : Vec Ideal S2048x512 .bf16) (x4 : Vec Ideal S1x512 .f32) (r : Fin 1024) (d : Fin 512) :
    k0_pay1 x0 x1 x3 x2 x4 (ix2 r d)
      = entry (fun k => x0 (ix2 r k)) (fun k => x1 (ix2 k d)) (fun k => x2 (ix2 k d)) (x3 (ix2 0 d)) (x4 (ix2 0 d)) := by
  unfold entry
  pointwise [k0_pay1]

theorem hz : (![0, 0] : Fin 2 → Nat) = fun _ => 0 := funext fun a => by fin_cases a <;> rfl

theorem out_eq (x0 : Vec Ideal S1024x2048 .bf16) (x1 x2 : Vec Ideal S2048x512 .bf16) (x3 x4 : Vec Ideal S1x512 .f32) :
    out0_5 x0 x1 x2 x3 x4 = k0_pay1 x0 x1 x3 x2 x4 := by
  unfold out0_5
  rw [View.canon_unit_zero (S := S1024x512) hz]
  simp only [View.ld_unit_zero (S := S1024x2048) hz, View.ld_unit_zero (S := S2048x512) hz, View.ld_unit_zero (S := S1x512) hz]

variable (m : (ℓ : Loc nD τ sig) → Buf (Elt Ideal) ℓ)

/-! ## What the region finds -/

theorem V_v0 (c : Dev nD) : V m c main_v0 = truncf (F := Ideal) .bf16 (m ((c : Thread nD τ).loc main_arg1) : FVec Ideal S2048x4096 .f32) bitsLt_bf16_f32 := by
  unfold V hostOps0
  after_results <;> rfl

theorem V_v1 (c : Dev nD) : V m c main_v1 = shapeCast S1x4096 (m ((c : Thread nD τ).loc main_arg2) : Vec Ideal S4096 .f32) shapeCasts_S4096_S1x4096 := by
  unfold V hostOps0
  after_results <;> rfl

theorem cast_apply (x : Vec Ideal S2048x4096 .f32) (h : Fin 2048) (q : Fin 4096) : truncf (F := Ideal) .bf16 x bitsLt_bf16_f32 (ix2 h q) = (x (ix2 h q) : EReal) := by
  pointwise []

theorem bias_apply (x : Vec Ideal S4096 .f32) (d : Fin 4096) : shapeCast S1x4096 x shapeCasts_S4096_S1x4096 (ix2 0 d) = x (ix1 d) := by
  pointwise []

/-! ## The blocks -/

theorem lt_N (t : Fin cfg0.N) : t.val < 64 := by
  have h : cfg0.N = 64 := N_0
  have := t.isLt
  omega

theorem idx0 : ∀ t : Fin cfg0.N, (win0 0).index t 0 = t.val / 4 ∧ (win0 0).index t 1 = 0 :=
  (by decide +kernel : ∀ t : Fin grid0.N, (win0 0).index t 0 = t.val / 4 ∧ (win0 0).index t 1 = 0)

theorem idx1 : ∀ t : Fin cfg0.N, (win0 1).index t 0 = 0 ∧ (win0 1).index t 1 = t.val % 4 :=
  (by decide +kernel : ∀ t : Fin grid0.N, (win0 1).index t 0 = 0 ∧ (win0 1).index t 1 = t.val % 4)

theorem idx2 : ∀ t : Fin cfg0.N, (win0 2).index t 0 = 0 ∧ (win0 2).index t 1 = t.val % 4 + 4 :=
  (by decide +kernel : ∀ t : Fin grid0.N, (win0 2).index t 0 = 0 ∧ (win0 2).index t 1 = t.val % 4 + 4)

theorem idx3 : ∀ t : Fin cfg0.N, (win0 3).index t 0 = 0 ∧ (win0 3).index t 1 = t.val % 4 :=
  (by decide +kernel : ∀ t : Fin grid0.N, (win0 3).index t 0 = 0 ∧ (win0 3).index t 1 = t.val % 4)

theorem idx4 : ∀ t : Fin cfg0.N, (win0 4).index t 0 = 0 ∧ (win0 4).index t 1 = t.val % 4 + 4 :=
  (by decide +kernel : ∀ t : Fin grid0.N, (win0 4).index t 0 = 0 ∧ (win0 4).index t 1 = t.val % 4 + 4)

theorem idx5 : ∀ t : Fin cfg0.N, (win0 5).index t 0 = t.val / 4 ∧ (win0 5).index t 1 = t.val % 4 :=
  (by decide +kernel : ∀ t : Fin grid0.N, (win0 5).index t 0 = t.val / 4 ∧ (win0 5).index t 1 = t.val % 4)

theorem blk0 (c : Dev nD) (t : Fin cfg0.N) (r : Fin 1024) (k : Fin 2048) : iblk m c 0 t (ix2 r k) = (m ((c : Thread nD τ).loc main_arg0) : Vec Ideal S16384x2048 .bf16) (ix2 ⟨t.val / 4 * 1024 + r.val, by have := lt_N t; omega⟩ k) := by
  have hN : cfg0.N = 64 := N_0
  have hlt := t.isLt
  obtain ⟨e0, e1⟩ := idx0 t
  unfold iblk
  rw [View.read_apply]
  show V m c main_arg0 _ = _
  rw [V_main_arg0]
  show (m ((c : Thread nD τ).loc main_arg0) : Vec Ideal S16384x2048 .bf16) _ = _
  congr 1
  funext x; apply Fin.ext; fin_cases x
  · refine (Pipeline.Window.rect_emb_val (win0 0) t (ix2 r k) (0 : Fin 2)).trans ?_
    show (win0 0).index t 0 * 1024 + r.val = t.val / 4 * 1024 + r.val
    rw [e0]
  · refine (Pipeline.Window.rect_emb_val (win0 0) t (ix2 r k) (1 : Fin 2)).trans ?_
    show (win0 0).index t 1 * 2048 + k.val = k.val
    rw [e1]; omega

theorem blk1 (c : Dev nD) (t : Fin cfg0.N) (k : Fin 2048) (d : Fin 512) : iblk m c 1 t (ix2 k d) = (m ((c : Thread nD τ).loc main_arg1) : Vec Ideal S2048x4096 .f32) (ix2 k ⟨t.val % 4 * 512 + d.val, by omega⟩) := by
  have hN : cfg0.N = 64 := N_0
  have hlt := t.isLt
  obtain ⟨e0, e1⟩ := idx1 t
  refine Eq.trans ?_ (cast_apply (m ((c : Thread nD τ).loc main_arg1)) k ⟨t.val % 4 * 512 + d.val, by omega⟩)
  unfold iblk
  rw [View.read_apply]
  show V m c main_v0 _ = _
  rw [V_v0]
  congr 1
  funext x; apply Fin.ext; fin_cases x
  · refine (Pipeline.Window.rect_emb_val (win0 1) t (ix2 k d) (0 : Fin 2)).trans ?_
    show (win0 1).index t 0 * 2048 + k.val = k.val
    rw [e0]; omega
  · refine (Pipeline.Window.rect_emb_val (win0 1) t (ix2 k d) (1 : Fin 2)).trans ?_
    show (win0 1).index t 1 * 512 + d.val = t.val % 4 * 512 + d.val
    rw [e1]

theorem blk2 (c : Dev nD) (t : Fin cfg0.N) (k : Fin 2048) (d : Fin 512) : iblk m c 2 t (ix2 k d) = (m ((c : Thread nD τ).loc main_arg1) : Vec Ideal S2048x4096 .f32) (ix2 k ⟨(t.val % 4 + 4) * 512 + d.val, by omega⟩) := by
  have hN : cfg0.N = 64 := N_0
  have hlt := t.isLt
  obtain ⟨e0, e1⟩ := idx2 t
  refine Eq.trans ?_ (cast_apply (m ((c : Thread nD τ).loc main_arg1)) k ⟨(t.val % 4 + 4) * 512 + d.val, by omega⟩)
  unfold iblk
  rw [View.read_apply]
  show V m c main_v0 _ = _
  rw [V_v0]
  congr 1
  funext x; apply Fin.ext; fin_cases x
  · refine (Pipeline.Window.rect_emb_val (win0 2) t (ix2 k d) (0 : Fin 2)).trans ?_
    show (win0 2).index t 0 * 2048 + k.val = k.val
    rw [e0]; omega
  · refine (Pipeline.Window.rect_emb_val (win0 2) t (ix2 k d) (1 : Fin 2)).trans ?_
    show (win0 2).index t 1 * 512 + d.val = (t.val % 4 + 4) * 512 + d.val
    rw [e1]

theorem blk3 (c : Dev nD) (t : Fin cfg0.N) (d : Fin 512) : iblk m c 3 t (ix2 0 d) = (m ((c : Thread nD τ).loc main_arg2) : Vec Ideal S4096 .f32) (ix1 ⟨t.val % 4 * 512 + d.val, by omega⟩) := by
  have hN : cfg0.N = 64 := N_0
  have hlt := t.isLt
  obtain ⟨e0, e1⟩ := idx3 t
  refine Eq.trans ?_ (bias_apply (m ((c : Thread nD τ).loc main_arg2)) ⟨t.val % 4 * 512 + d.val, by omega⟩)
  unfold iblk
  rw [View.read_apply]
  show V m c main_v1 _ = _
  rw [V_v1]
  congr 1
  funext x; apply Fin.ext; fin_cases x
  · refine (Pipeline.Window.rect_emb_val (win0 3) t (ix2 0 d) (0 : Fin 2)).trans ?_
    show (win0 3).index t 0 * 1 + 0 = 0
    rw [e0]
  · refine (Pipeline.Window.rect_emb_val (win0 3) t (ix2 0 d) (1 : Fin 2)).trans ?_
    show (win0 3).index t 1 * 512 + d.val = t.val % 4 * 512 + d.val
    rw [e1]

theorem blk4 (c : Dev nD) (t : Fin cfg0.N) (d : Fin 512) : iblk m c 4 t (ix2 0 d) = (m ((c : Thread nD τ).loc main_arg2) : Vec Ideal S4096 .f32) (ix1 ⟨(t.val % 4 + 4) * 512 + d.val, by omega⟩) := by
  have hN : cfg0.N = 64 := N_0
  have hlt := t.isLt
  obtain ⟨e0, e1⟩ := idx4 t
  refine Eq.trans ?_ (bias_apply (m ((c : Thread nD τ).loc main_arg2)) ⟨(t.val % 4 + 4) * 512 + d.val, by omega⟩)
  unfold iblk
  rw [View.read_apply]
  show V m c main_v1 _ = _
  rw [V_v1]
  congr 1
  funext x; apply Fin.ext; fin_cases x
  · refine (Pipeline.Window.rect_emb_val (win0 4) t (ix2 0 d) (0 : Fin 2)).trans ?_
    show (win0 4).index t 0 * 1 + 0 = 0
    rw [e0]
  · refine (Pipeline.Window.rect_emb_val (win0 4) t (ix2 0 d) (1 : Fin 2)).trans ?_
    show (win0 4).index t 1 * 512 + d.val = (t.val % 4 + 4) * 512 + d.val
    rw [e1]

/-- The result at an entry, from the arguments. -/
def result (c : Dev nD) (R : Fin 16384) (d : Fin 2048) : EReal :=
  entry (fun k => (m ((c : Thread nD τ).loc main_arg0) : Vec Ideal S16384x2048 .bf16) (ix2 R k))
    (fun k => (m ((c : Thread nD τ).loc main_arg1) : Vec Ideal S2048x4096 .f32) (ix2 k ⟨d.val, by omega⟩)) (fun k => (m ((c : Thread nD τ).loc main_arg1) : Vec Ideal S2048x4096 .f32) (ix2 k ⟨2048 + d.val, by omega⟩))
    ((m ((c : Thread nD τ).loc main_arg2) : Vec Ideal S4096 .f32) (ix1 ⟨d.val, by omega⟩)) ((m ((c : Thread nD τ).loc main_arg2) : Vec Ideal S4096 .f32) (ix1 ⟨2048 + d.val, by omega⟩))

theorem point_apply (c : Dev nD) (t : Fin cfg0.N) (r : Fin 1024) (d : Fin 512) :
    out0_5 (F := Ideal) (iblk m c 0 t) (iblk m c 1 t) (iblk m c 2 t) (iblk m c 3 t) (iblk m c 4 t) (ix2 r d)
      = result m c ⟨t.val / 4 * 1024 + r.val, by have hN : cfg0.N = 64 := N_0; have := t.isLt; omega⟩ ⟨t.val % 4 * 512 + d.val, by omega⟩ := by
  rw [out_eq]
  refine (pay1_apply _ _ _ _ _ r d).trans ?_
  unfold result
  have e : (⟨2048 + (t.val % 4 * 512 + d.val), by omega⟩ : Fin 4096) = ⟨(t.val % 4 + 4) * 512 + d.val, by omega⟩ :=
    Fin.ext (by show 2048 + (t.val % 4 * 512 + d.val) = (t.val % 4 + 4) * 512 + d.val; omega)
  rw [e]
  exact congr (congr (congr (congr (congrArg entry (funext fun k => blk0 m c t r k)) (funext fun k => blk1 m c t k d)) (funext fun k => blk2 m c t k d)) (blk3 m c t d)) (blk4 m c t d)

/-! ## The array -/

theorem mem_blk5 (t : Fin cfg0.N) (j : S16384x2048.Idx) :
    j ∈ ((cfg0.win 5).blk t).view.set
      ↔ ∀ x : Fin 2, (win0 5).index t x * S1024x512.size x ≤ (j x).val ∧ (j x).val < (win0 5).index t x * S1024x512.size x + S1024x512.size x := by
  show j ∈ ((View.whole main_v2).slice ((win0 5).rect t)).set ↔ _
  rw [View.set_slice_whole, Rect.mem_set_unit]; exact Iff.rfl

theorem out5_apply (c : Dev nD) (R : Fin 16384) (d : Fin 2048) :
    ((dats m 0 c).arrAt 5 cfg0.N : Vec Ideal S16384x2048 .f32) (ix2 R d) = result m c R d := by
  have hN : cfg0.N = 64 := N_0
  have hN' : grid0.N = 64 := N_0
  refine (dats m 0 c).arrAt_forall_of_flushed 5
    (fun (j : S16384x2048.Idx) (v : EReal) => j = ix2 R d → v = result m c R d)
    (fun t hf y hy => ?_) cfg0.N ⟨R.val / 1024 * 4 + d.val / 512, by omega⟩ (ix2 R d) (by show R.val / 1024 * 4 + d.val / 512 < _; omega) (flush0_5 _) ?_ rfl
  · have hlt := t.isLt
    obtain ⟨e0, e1⟩ := idx5 t
    obtain ⟨y0, y1, rfl⟩ : ∃ (y0 : Fin 1024) (y1 : Fin 512), y = ix2 y0 y1 := ⟨y 0, y 1, eq_ix2 y⟩
    have h0 : (win0 5).index t 0 * 1024 + y0.val = R.val :=
      (Pipeline.Window.rect_emb_val (win0 5) t (ix2 y0 y1) (0 : Fin 2)).symm.trans (congrArg (fun j : S16384x2048.Idx => (j 0).val) hy)
    have h1 : (win0 5).index t 1 * 512 + y1.val = d.val :=
      (Pipeline.Window.rect_emb_val (win0 5) t (ix2 y0 y1) (1 : Fin 2)).symm.trans (congrArg (fun j : S16384x2048.Idx => (j 1).val) hy)
    rw [e0] at h0
    rw [e1] at h1
    have eR : (⟨t.val / 4 * 1024 + y0.val, h0 ▸ R.isLt⟩ : Fin 16384) = R := Fin.ext h0
    have ed : (⟨t.val % 4 * 512 + y1.val, h1 ▸ d.isLt⟩ : Fin 2048) = d := Fin.ext h1
    rw [Value.flushed5]
    have hv := point_apply m c t y0 y1
    rw [eR, ed] at hv
    rw [cast_eq]
    exact hv
  · obtain ⟨e0, e1⟩ := idx5 ⟨R.val / 1024 * 4 + d.val / 512, by omega⟩
    rw [mem_blk5]
    refine Fin.forall_fin_two.mpr ⟨?_, ?_⟩
    · show (win0 5).index _ 0 * 1024 ≤ R.val ∧ R.val < (win0 5).index _ 0 * 1024 + 1024
      rw [e0]
      show (R.val / 1024 * 4 + d.val / 512) / 4 * 1024 ≤ R.val ∧ R.val < (R.val / 1024 * 4 + d.val / 512) / 4 * 1024 + 1024
      omega
    · show (win0 5).index _ 1 * 512 ≤ d.val ∧ d.val < (win0 5).index _ 1 * 512 + 512
      rw [e1]
      show (R.val / 1024 * 4 + d.val / 512) % 4 * 512 ≤ d.val ∧ d.val < (R.val / 1024 * 4 + d.val / 512) % 4 * 512 + 512
      omega

end Cert.Kernel3Ideal.Glu

end
-- ==== Proof.Glu.Ref.lean ====
/- The reference's gated projection read at an entry. -/
module

public import proofs.«01_k».proof.Proof.Gen.Reference3Ideal
public import proofs.«01_k».proof.Proof.Gen.Reference3Ideal.Run
public import proofs.«01_k».proof.Proof.Glu.Value
public import Idealize.ShloMosaic.Lib.Pointwise

@[expose] public section

set_option maxRecDepth 16384

noncomputable section

namespace Cert.Reference3Ideal.Glu

open Cert.Reference3Ideal Cert.Reference3Ideal.Gen
open Cert.Kernel3Ideal.Glu (entry)
open Idealize.ShloMosaic

variable (h : FVec Ideal S16384x2048 .bf16) (w : FVec Ideal S2048x4096 .f32) (b : FVec Ideal S4096 .f32)

/-- The reference's result as one expression of its arguments. -/
def result : FVec Ideal S16384x2048 .f32 :=
  mulf (extractStridedSlice S16384x2048 ![0, 0] (addf (Host.dotGeneral (F := Ideal) dot_S16384x2048_S2048x4096_S16384x4096_1_0_0_1_n_n none (extf .f32 h bitsLt_bf16_f32) w) (broadcastInDim S16384x4096 ![0, 1] bcast_S1x4096_S16384x4096_0_1 (broadcastInDim S1x4096 ![1] bcast_S4096_S1x4096_1 b))) slices_S16384x4096_S16384x2048_0_0) (Host.divf (broadcastInDim S16384x2048 ![] bcast_S_S16384x2048 (constant (F := Ideal) S_ .f32 0x3F800000#32)) (addf (broadcastInDim S16384x2048 ![] bcast_S_S16384x2048 (constant (F := Ideal) S_ .f32 0x3F800000#32)) (Host.exp (Host.negf (extractStridedSlice S16384x2048 ![0, 2048] (addf (Host.dotGeneral (F := Ideal) dot_S16384x2048_S2048x4096_S16384x4096_1_0_0_1_n_n none (extf .f32 h bitsLt_bf16_f32) w) (broadcastInDim S16384x4096 ![0, 1] bcast_S1x4096_S16384x4096_0_1 (broadcastInDim S1x4096 ![1] bcast_S4096_S1x4096_1 b))) slices_S16384x4096_S16384x2048_0_2048)))))

theorem result_apply (R : Fin 16384) (d : Fin 2048) :
    result h w b (ix2 R d)
      = entry (fun k => h (ix2 R k)) (fun k => w (ix2 k ⟨d.val, by omega⟩)) (fun k => w (ix2 k ⟨2048 + d.val, by omega⟩)) (b (ix1 ⟨d.val, by omega⟩)) (b (ix1 ⟨2048 + d.val, by omega⟩)) := by
  unfold entry
  pointwise [result]
  simp only [zero_sub]

end Cert.Reference3Ideal.Glu

end
-- ==== Proof.Glu.Claim.lean ====
/- The gated projection against the reference. -/
module

public import proofs.«01_k».proof.Defs
public import proofs.«01_k».proof.Proof.Glu.Value
public import proofs.«01_k».proof.Proof.Glu.Ref

@[expose] public section

set_option maxRecDepth 16384

noncomputable section

namespace Cert.Proof

open Idealize.ShloMosaic Idealize.ShloMosaic.TcCoe Idealize.SL.Sem

theorem algebraic3 : Cert.algebraic_Kernel3Ideal_Reference3Ideal := by
  intro m g m' g' hp hargs
  refine ⟨fun c => Cert.Reference3Ideal.Glu.result (m ((c.tc : Thread _ _).loc Cert.Kernel3Ideal.main_arg0)) (m ((c.tc : Thread _ _).loc Cert.Kernel3Ideal.main_arg1)) (m ((c.tc : Thread _ _).loc Cert.Kernel3Ideal.main_arg2)),
    (θ_run Cert.Kernel3Ideal.defs _ _).mono (fun r hr c => ⟨?_, (hr c).2⟩) (Cert.Kernel3Ideal.Value.run_blocks (F := Ideal) m g),
    (θ_run Cert.Reference3Ideal.defs _ _).mono (fun r hr c => ⟨?_, (hr c).2⟩) (Cert.Reference3Ideal.Value.run (F := Ideal) m' g')⟩
  · refine (hr c).1.trans (funext fun j => ?_)
    obtain ⟨R, d, rfl⟩ : ∃ (R : Fin 16384) (d : Fin 2048), j = ix2 R d := ⟨j 0, j 1, eq_ix2 j⟩
    exact (Cert.Kernel3Ideal.Glu.out5_apply m c R d).trans (Cert.Reference3Ideal.Glu.result_apply _ _ _ R d).symm
  · obtain ⟨e0, e1, e2⟩ := hargs c
    have e := congr (congr (congrArg Cert.Reference3Ideal.Glu.result e0) e1) e2
    exact (hr c).1.trans e

end Cert.Proof

end
-- ==== Proof.InProj.Value.lean ====
/- The input projection of the time mix: the result at an entry. -/
module

public import proofs.«01_k».proof.Proof.Gen.Kernel4Ideal.Value
public import Idealize.ShloMosaic.Lib.Pointwise

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA
open Idealize.ShloMosaic.Pipeline (Dat Cfg Window)

theorem pay1_apply (x0 : Vec Ideal S1024x2048 .bf16) (x1 : Vec Ideal S2048x1664 .bf16) (r : Fin 1024) (d : Fin 1664) :
    k0_pay1 x0 x1 (ix2 r d) = (∑ k : Fin 2048, x0 (ix2 r k) * x1 (ix2 k d) : EReal) := by
  pointwise [k0_pay1]

theorem hz : (![0, 0] : Fin 2 → Nat) = fun _ => 0 := funext fun a => by fin_cases a <;> rfl

theorem out_eq (x0 : Vec Ideal S1024x2048 .bf16) (x1 : Vec Ideal S2048x1664 .bf16) : out0_2 x0 x1 = k0_pay1 x0 x1 := by
  unfold out0_2
  rw [View.canon_unit_zero (S := S1024x1664) hz]
  simp only [View.ld_unit_zero (S := S1024x2048) hz, View.ld_unit_zero (S := S2048x1664) hz]

variable (m : (ℓ : Loc nD τ sig) → Buf (Elt Ideal) ℓ)

/-! ## What the region finds -/

theorem V_v1 (c : Dev nD) : V m c main_v1 = truncf (F := Ideal) .bf16 (extractStridedSlice S2048x3328 ![0, 0] (m ((c : Thread nD τ).loc main_arg1) : FVec Ideal S2048x4416 .f32) slices_S2048x4416_S2048x3328_0_0) bitsLt_bf16_f32 := by
  unfold V hostOps0
  after_results <;> rfl

theorem cast_apply (x : Vec Ideal S2048x4416 .f32) (h : Fin 2048) (q : Fin 3328) :
    truncf (F := Ideal) .bf16 (extractStridedSlice S2048x3328 ![0, 0] x slices_S2048x4416_S2048x3328_0_0 : FVec Ideal S2048x3328 .f32) bitsLt_bf16_f32 (ix2 h q) = (x (ix2 h ⟨q.val, by omega⟩) : EReal) := by
  pointwise []

/-! ## The blocks -/

theorem lt_N (t : Fin cfg0.N) : t.val < 32 := by
  have h : cfg0.N = 32 := N_0
  have := t.isLt
  omega

theorem idx0 : ∀ t : Fin cfg0.N, (win0 0).index t 0 = t.val / 2 ∧ (win0 0).index t 1 = 0 :=
  (by decide +kernel : ∀ t : Fin grid0.N, (win0 0).index t 0 = t.val / 2 ∧ (win0 0).index t 1 = 0)

theorem idx1 : ∀ t : Fin cfg0.N, (win0 1).index t 0 = 0 ∧ (win0 1).index t 1 = t.val % 2 :=
  (by decide +kernel : ∀ t : Fin grid0.N, (win0 1).index t 0 = 0 ∧ (win0 1).index t 1 = t.val % 2)

theorem idx2 : ∀ t : Fin cfg0.N, (win0 2).index t 0 = t.val / 2 ∧ (win0 2).index t 1 = t.val % 2 :=
  (by decide +kernel : ∀ t : Fin grid0.N, (win0 2).index t 0 = t.val / 2 ∧ (win0 2).index t 1 = t.val % 2)

theorem blk0 (c : Dev nD) (t : Fin cfg0.N) (r : Fin 1024) (k : Fin 2048) : iblk m c 0 t (ix2 r k) = (m ((c : Thread nD τ).loc main_arg0) : Vec Ideal S16384x2048 .bf16) (ix2 ⟨t.val / 2 * 1024 + r.val, by have := lt_N t; omega⟩ k) := by
  have hN : cfg0.N = 32 := N_0
  have hlt := t.isLt
  obtain ⟨e0, e1⟩ := idx0 t
  unfold iblk
  rw [View.read_apply]
  show V m c main_arg0 _ = _
  rw [V_main_arg0]
  show (m ((c : Thread nD τ).loc main_arg0) : Vec Ideal S16384x2048 .bf16) _ = _
  congr 1
  funext x; apply Fin.ext; fin_cases x
  · refine (Pipeline.Window.rect_emb_val (win0 0) t (ix2 r k) (0 : Fin 2)).trans ?_
    show (win0 0).index t 0 * 1024 + r.val = t.val / 2 * 1024 + r.val
    rw [e0]
  · refine (Pipeline.Window.rect_emb_val (win0 0) t (ix2 r k) (1 : Fin 2)).trans ?_
    show (win0 0).index t 1 * 2048 + k.val = k.val
    rw [e1]; omega

theorem blk1 (c : Dev nD) (t : Fin cfg0.N) (k : Fin 2048) (d : Fin 1664) : iblk m c 1 t (ix2 k d) = (m ((c : Thread nD τ).loc main_arg1) : Vec Ideal S2048x4416 .f32) (ix2 k ⟨t.val % 2 * 1664 + d.val, by omega⟩) := by
  have hN : cfg0.N = 32 := N_0
  have hlt := t.isLt
  obtain ⟨e0, e1⟩ := idx1 t
  refine Eq.trans ?_ (cast_apply (m ((c : Thread nD τ).loc main_arg1)) k ⟨t.val % 2 * 1664 + d.val, by omega⟩)
  unfold iblk
  rw [View.read_apply]
  show V m c main_v1 _ = _
  rw [V_v1]
  congr 1
  funext x; apply Fin.ext; fin_cases x
  · refine (Pipeline.Window.rect_emb_val (win0 1) t (ix2 k d) (0 : Fin 2)).trans ?_
    show (win0 1).index t 0 * 2048 + k.val = k.val
    rw [e0]; omega
  · refine (Pipeline.Window.rect_emb_val (win0 1) t (ix2 k d) (1 : Fin 2)).trans ?_
    show (win0 1).index t 1 * 1664 + d.val = t.val % 2 * 1664 + d.val
    rw [e1]

/-- A product's entry. -/
def entry (h w : Fin 2048 → EReal) : EReal := ∑ k, h k * w k

/-- The result at an entry, from the arguments. -/
def result (c : Dev nD) (R : Fin 16384) (d : Fin 3328) : EReal :=
  entry (fun k => (m ((c : Thread nD τ).loc main_arg0) : Vec Ideal S16384x2048 .bf16) (ix2 R k)) (fun k => (m ((c : Thread nD τ).loc main_arg1) : Vec Ideal S2048x4416 .f32) (ix2 k ⟨d.val, by omega⟩))

theorem point_apply (c : Dev nD) (t : Fin cfg0.N) (r : Fin 1024) (d : Fin 1664) :
    out0_2 (F := Ideal) (iblk m c 0 t) (iblk m c 1 t) (ix2 r d)
      = result m c ⟨t.val / 2 * 1024 + r.val, by have hN : cfg0.N = 32 := N_0; have := t.isLt; omega⟩ ⟨t.val % 2 * 1664 + d.val, by omega⟩ := by
  rw [out_eq]
  refine Eq.trans (b := entry (fun k => iblk m c 0 t (ix2 r k)) (fun k => iblk m c 1 t (ix2 k d))) (pay1_apply _ _ r d) ?_
  exact congr (congrArg entry (funext fun k => blk0 m c t r k)) (funext fun k => blk1 m c t k d)

/-! ## The array -/

theorem mem_blk2 (t : Fin cfg0.N) (j : S16384x3328.Idx) :
    j ∈ ((cfg0.win 2).blk t).view.set
      ↔ ∀ x : Fin 2, (win0 2).index t x * S1024x1664.size x ≤ (j x).val ∧ (j x).val < (win0 2).index t x * S1024x1664.size x + S1024x1664.size x := by
  show j ∈ ((View.whole main_v2).slice ((win0 2).rect t)).set ↔ _
  rw [View.set_slice_whole, Rect.mem_set_unit]; exact Iff.rfl

theorem out2_apply (c : Dev nD) (R : Fin 16384) (d : Fin 3328) :
    ((dats m 0 c).arrAt 2 cfg0.N : Vec Ideal S16384x3328 .f32) (ix2 R d) = result m c R d := by
  have hN : cfg0.N = 32 := N_0
  have hN' : grid0.N = 32 := N_0
  refine (dats m 0 c).arrAt_forall_of_flushed 2
    (fun (j : S16384x3328.Idx) (v : EReal) => j = ix2 R d → v = result m c R d)
    (fun t hf y hy => ?_) cfg0.N ⟨R.val / 1024 * 2 + d.val / 1664, by omega⟩ (ix2 R d) (by show R.val / 1024 * 2 + d.val / 1664 < _; omega) (flush0_2 _) ?_ rfl
  · have hlt := t.isLt
    obtain ⟨e0, e1⟩ := idx2 t
    obtain ⟨y0, y1, rfl⟩ : ∃ (y0 : Fin 1024) (y1 : Fin 1664), y = ix2 y0 y1 := ⟨y 0, y 1, eq_ix2 y⟩
    have h0 : (win0 2).index t 0 * 1024 + y0.val = R.val :=
      (Pipeline.Window.rect_emb_val (win0 2) t (ix2 y0 y1) (0 : Fin 2)).symm.trans (congrArg (fun j : S16384x3328.Idx => (j 0).val) hy)
    have h1 : (win0 2).index t 1 * 1664 + y1.val = d.val :=
      (Pipeline.Window.rect_emb_val (win0 2) t (ix2 y0 y1) (1 : Fin 2)).symm.trans (congrArg (fun j : S16384x3328.Idx => (j 1).val) hy)
    rw [e0] at h0
    rw [e1] at h1
    have eR : (⟨t.val / 2 * 1024 + y0.val, h0 ▸ R.isLt⟩ : Fin 16384) = R := Fin.ext h0
    have ed : (⟨t.val % 2 * 1664 + y1.val, h1 ▸ d.isLt⟩ : Fin 3328) = d := Fin.ext h1
    rw [Value.flushed2]
    have hv := point_apply m c t y0 y1
    rw [eR, ed] at hv
    rw [cast_eq]
    exact hv
  · obtain ⟨e0, e1⟩ := idx2 ⟨R.val / 1024 * 2 + d.val / 1664, by omega⟩
    rw [mem_blk2]
    refine Fin.forall_fin_two.mpr ⟨?_, ?_⟩
    · show (win0 2).index _ 0 * 1024 ≤ R.val ∧ R.val < (win0 2).index _ 0 * 1024 + 1024
      rw [e0]
      show (R.val / 1024 * 2 + d.val / 1664) / 2 * 1024 ≤ R.val ∧ R.val < (R.val / 1024 * 2 + d.val / 1664) / 2 * 1024 + 1024
      omega
    · show (win0 2).index _ 1 * 1664 ≤ d.val ∧ d.val < (win0 2).index _ 1 * 1664 + 1664
      rw [e1]
      show (R.val / 1024 * 2 + d.val / 1664) % 2 * 1664 ≤ d.val ∧ d.val < (R.val / 1024 * 2 + d.val / 1664) % 2 * 1664 + 1664
      omega

end Cert.Kernel4Ideal.InProj

end
-- ==== Proof.InProj.Ref.lean ====
/- The reference's input projection read at an entry. -/
module

public import proofs.«01_k».proof.Proof.Gen.Reference4Ideal
public import proofs.«01_k».proof.Proof.Gen.Reference4Ideal.Run
public import proofs.«01_k».proof.Proof.InProj.Value
public import Idealize.ShloMosaic.Lib.Pointwise

@[expose] public section

set_option maxRecDepth 16384

noncomputable section

namespace Cert.Reference4Ideal.InProj

open Cert.Reference4Ideal Cert.Reference4Ideal.Gen
open Cert.Kernel4Ideal.InProj (entry)
open Idealize.ShloMosaic

variable (h : FVec Ideal S16384x2048 .bf16) (w : FVec Ideal S2048x4416 .f32)

/-- The reference's result as one expression of its arguments. -/
def result : FVec Ideal S16384x3328 .f32 :=
  extractStridedSlice S16384x3328 ![0, 0] (Host.dotGeneral (F := Ideal) dot_S16384x2048_S2048x4416_S16384x4416_1_0_0_1_n_n none (extf .f32 h bitsLt_bf16_f32) w) slices_S16384x4416_S16384x3328_0_0

theorem result_apply (R : Fin 16384) (d : Fin 3328) :
    result h w (ix2 R d) = entry (fun k => h (ix2 R k)) (fun k => w (ix2 k ⟨d.val, by omega⟩)) := by
  unfold entry
  pointwise [result]

end Cert.Reference4Ideal.InProj

end
-- ==== Proof.InProj.Claim.lean ====
/- The input projection against the reference. -/
module

public import proofs.«01_k».proof.Defs
public import proofs.«01_k».proof.Proof.InProj.Value
public import proofs.«01_k».proof.Proof.InProj.Ref

@[expose] public section

set_option maxRecDepth 16384

noncomputable section

namespace Cert.Proof

open Idealize.ShloMosaic Idealize.ShloMosaic.TcCoe Idealize.SL.Sem

theorem algebraic4 : Cert.algebraic_Kernel4Ideal_Reference4Ideal := by
  intro m g m' g' hp hargs
  refine ⟨fun c => Cert.Reference4Ideal.InProj.result (m ((c.tc : Thread _ _).loc Cert.Kernel4Ideal.main_arg0)) (m ((c.tc : Thread _ _).loc Cert.Kernel4Ideal.main_arg1)),
    (θ_run Cert.Kernel4Ideal.defs _ _).mono (fun r hr c => ⟨?_, (hr c).2⟩) (Cert.Kernel4Ideal.Value.run_blocks (F := Ideal) m g),
    (θ_run Cert.Reference4Ideal.defs _ _).mono (fun r hr c => ⟨?_, (hr c).2⟩) (Cert.Reference4Ideal.Value.run (F := Ideal) m' g')⟩
  · refine (hr c).1.trans (funext fun j => ?_)
    obtain ⟨R, d, rfl⟩ : ∃ (R : Fin 16384) (d : Fin 3328), j = ix2 R d := ⟨j 0, j 1, eq_ix2 j⟩
    exact (Cert.Kernel4Ideal.InProj.out2_apply m c R d).trans (Cert.Reference4Ideal.InProj.result_apply _ _ R d).symm
  · obtain ⟨e0, e1⟩ := hargs c
    have e := congr (congrArg Cert.Reference4Ideal.InProj.result e0) e1
    exact (hr c).1.trans e

end Cert.Proof

end
-- ==== Proof.MixOut.Value.lean ====
/- The mixers' output projection, its residual and the norm after it: the two results at an entry. -/
module

public import proofs.«01_k».proof.Proof.Gen.Kernel5Ideal.Value
public import proofs.«01_k».proof.Proof.Ffn.Pay
public import Idealize.ShloMosaic.Lib.Pointwise

@[expose] public section

set_option maxRecDepth 16384

noncomputable section

namespace Cert.Kernel5Ideal.MixOut

open Cert.Kernel5Ideal Cert.Kernel5Ideal.Gen
open Idealize.ShloMosaic Idealize.ShloMosaic.TcCoe Idealize.ShloMosaic.Tactic
open Idealize.SL Idealize.SL.RA
open Idealize.ShloMosaic.Pipeline (Dat Cfg Window)

open Cert.Kernel2Ideal.Ffn (rowNorm)

/-- One entry: the residual, and the two halves' products. -/
def entry (x : EReal) (ya yb wa wb : Fin 1024 → EReal) : EReal :=
  x + ((∑ k, ya k * wa k) + ∑ k, yb k * wb k)

theorem pay1_apply (x0 : Vec Ideal S512x1024 .bf16) (wa : Vec Ideal S1024x2048 .bf16) (x1 : Vec Ideal S512x1024 .bf16) (wb : Vec Ideal S1024x2048 .bf16) (x : Vec Ideal S512x2048 .f32) (r : Fin 512) (d : Fin 2048) :
    k0_pay1 x0 wa x1 wb x (ix2 r d)
      = entry (x (ix2 r d)) (fun k => x0 (ix2 r k)) (fun k => x1 (ix2 r k)) (fun k => wa (ix2 k d)) (fun k => wb (ix2 k d)) := by
  unfold entry
  pointwise [k0_pay1]

theorem pay2_apply (x0 : Vec Ideal S512x1024 .bf16) (wa : Vec Ideal S1024x2048 .bf16) (x1 : Vec Ideal S512x1024 .bf16) (wb : Vec Ideal S1024x2048 .bf16) (x : Vec Ideal S512x2048 .f32) (g : Vec Ideal S1x2048 .f32) (r : Fin 512) (d : Fin 2048) :
    k0_pay2 x0 wa x1 wb x g (ix2 r d)
      = rowNorm (fun q => k0_pay1 x0 wa x1 wb x (ix2 r q)) (g (ix2 0 d)) d := by
  unfold rowNorm
  pointwise [k0_pay2, k0_pay1]

theorem hz : (![0, 0] : Fin 2 → Nat) = fun _ => 0 := funext fun a => by fin_cases a <;> rfl

/-- The weights' upper half, as a load of the whole block. -/
theorem top_apply (x2 : Vec Ideal S2048x2048 .bf16) (k : Fin 1024) (d : Fin 2048) :
    View.ld x2 r0_1 (ix2 k d) = x2 (ix2 ⟨k.val, by omega⟩ d) :=
  congrArg x2 (funext fun a => by fin_cases a <;> apply Fin.ext <;> simp [r0_1])

/-- And the lower half. -/
theorem low_apply (x2 : Vec Ideal S2048x2048 .bf16) (k : Fin 1024) (d : Fin 2048) :
    View.ld x2 r0_2 (ix2 k d) = x2 (ix2 ⟨1024 + k.val, by omega⟩ d) :=
  congrArg x2 (funext fun a => by fin_cases a <;> apply Fin.ext <;> simp [r0_2])

theorem out_eq (x0 x1 : Vec Ideal S512x1024 .bf16) (x2 : Vec Ideal S2048x2048 .bf16) (x3 : Vec Ideal S512x2048 .f32) (x4 : Vec Ideal S1x2048 .f32) :
    out0_5 x0 x1 x2 x3 x4 = k0_pay1 x0 (View.ld x2 r0_1) x1 (View.ld x2 r0_2) x3 := by
  unfold out0_5
  rw [View.canon_unit_zero (S := S512x2048) hz]
  simp only [View.ld_unit_zero (S := S512x1024) hz, View.ld_unit_zero (S := S512x2048) hz]

theorem norm_eq (x0 x1 : Vec Ideal S512x1024 .bf16) (x2 : Vec Ideal S2048x2048 .bf16) (x3 : Vec Ideal S512x2048 .f32) (x4 : Vec Ideal S1x2048 .f32) :
    out0_6 x0 x1 x2 x3 x4 = k0_pay2 x0 (View.ld x2 r0_1) x1 (View.ld x2 r0_2) x3 x4 := by
  unfold out0_6
  rw [View.canon_unit_zero (S := S512x2048) hz]
  simp only [View.ld_unit_zero (S := S512x1024) hz, View.ld_unit_zero (S := S512x2048) hz, View.ld_unit_zero (S := S1x2048) hz]

variable (m : (ℓ : Loc nD τ sig) → Buf (Elt Ideal) ℓ)

/-! ## What the region finds -/

theorem V_v0 (c : Dev nD) : V m c main_v0 = truncf (F := Ideal) .bf16 (m ((c : Thread nD τ).loc main_arg2) : FVec Ideal S2048x2048 .f32) bitsLt_bf16_f32 := by
  unfold V hostOps0
  after_results <;> rfl

theorem V_v1 (c : Dev nD) : V m c main_v1 = shapeCast S1x2048 (m ((c : Thread nD τ).loc main_arg4) : Vec Ideal S2048 .f32) shapeCasts_S2048_S1x2048 := by
  unfold V hostOps0
  after_results <;> rfl

theorem cast_apply (x : Vec Ideal S2048x2048 .f32) (h : Fin 2048) (q : Fin 2048) : truncf (F := Ideal) .bf16 x bitsLt_bf16_f32 (ix2 h q) = (x (ix2 h q) : EReal) := by
  pointwise []

theorem gain_apply (x : Vec Ideal S2048 .f32) (d : Fin 2048) : shapeCast S1x2048 x shapeCasts_S2048_S1x2048 (ix2 0 d) = x (ix1 d) := by
  pointwise []

/-! ## The blocks -/

theorem lt_N (t : Fin cfg0.N) : t.val < 32 := by
  have h : cfg0.N = 32 := N_0
  have := t.isLt
  omega

theorem idx0 : ∀ t : Fin cfg0.N, (win0 0).index t 0 = t.val ∧ (win0 0).index t 1 = 0 :=
  (by decide +kernel : ∀ t : Fin grid0.N, (win0 0).index t 0 = t.val ∧ (win0 0).index t 1 = 0)

theorem idx1 : ∀ t : Fin cfg0.N, (win0 1).index t 0 = t.val ∧ (win0 1).index t 1 = 0 :=
  (by decide +kernel : ∀ t : Fin grid0.N, (win0 1).index t 0 = t.val ∧ (win0 1).index t 1 = 0)

theorem idx3 : ∀ t : Fin cfg0.N, (win0 3).index t 0 = t.val ∧ (win0 3).index t 1 = 0 :=
  (by decide +kernel : ∀ t : Fin grid0.N, (win0 3).index t 0 = t.val ∧ (win0 3).index t 1 = 0)

theorem idx5 : ∀ t : Fin cfg0.N, (win0 5).index t 0 = t.val ∧ (win0 5).index t 1 = 0 :=
  (by decide +kernel : ∀ t : Fin grid0.N, (win0 5).index t 0 = t.val ∧ (win0 5).index t 1 = 0)

theorem idx6 : ∀ t : Fin cfg0.N, (win0 6).index t 0 = t.val ∧ (win0 6).index t 1 = 0 :=
  (by decide +kernel : ∀ t : Fin grid0.N, (win0 6).index t 0 = t.val ∧ (win0 6).index t 1 = 0)

theorem idx2 : ∀ t : Fin cfg0.N, (win0 2).index t 0 = 0 ∧ (win0 2).index t 1 = 0 :=
  (by decide +kernel : ∀ t : Fin grid0.N, (win0 2).index t 0 = 0 ∧ (win0 2).index t 1 = 0)

theorem idx4 : ∀ t : Fin cfg0.N, (win0 4).index t 0 = 0 ∧ (win0 4).index t 1 = 0 :=
  (by decide +kernel : ∀ t : Fin grid0.N, (win0 4).index t 0 = 0 ∧ (win0 4).index t 1 = 0)

theorem blk0 (c : Dev nD) (t : Fin cfg0.N) (r : Fin 512) (k : Fin 1024) : iblk m c 0 t (ix2 r k) = (m ((c : Thread nD τ).loc main_arg0) : Vec Ideal S16384x1024 .bf16) (ix2 ⟨t.val * 512 + r.val, by have := lt_N t; omega⟩ k) := by
  have hN : cfg0.N = 32 := N_0
  have hlt := t.isLt
  obtain ⟨e0, e1⟩ := idx0 t
  unfold iblk
  rw [View.read_apply]
  show V m c main_arg0 _ = _
  rw [V_main_arg0]
  show (m ((c : Thread nD τ).loc main_arg0) : Vec Ideal S16384x1024 .bf16) _ = _
  congr 1
  funext x; apply Fin.ext; fin_cases x
  · refine (Pipeline.Window.rect_emb_val (win0 0) t (ix2 r k) (0 : Fin 2)).trans ?_
    show (win0 0).index t 0 * 512 + r.val = t.val * 512 + r.val
    rw [e0]
  · refine (Pipeline.Window.rect_emb_val (win0 0) t (ix2 r k) (1 : Fin 2)).trans ?_
    show (win0 0).index t 1 * 1024 + k.val = k.val
    rw [e1]; omega

theorem blk1 (c : Dev nD) (t : Fin cfg0.N) (r : Fin 512) (k : Fin 1024) : iblk m c 1 t (ix2 r k) = (m ((c : Thread nD τ).loc main_arg1) : Vec Ideal S16384x1024 .bf16) (ix2 ⟨t.val * 512 + r.val, by have := lt_N t; omega⟩ k) := by
  have hN : cfg0.N = 32 := N_0
  have hlt := t.isLt
  obtain ⟨e0, e1⟩ := idx1 t
  unfold iblk
  rw [View.read_apply]
  show V m c main_arg1 _ = _
  rw [V_main_arg1]
  show (m ((c : Thread nD τ).loc main_arg1) : Vec Ideal S16384x1024 .bf16) _ = _
  congr 1
  funext x; apply Fin.ext; fin_cases x
  · refine (Pipeline.Window.rect_emb_val (win0 1) t (ix2 r k) (0 : Fin 2)).trans ?_
    show (win0 1).index t 0 * 512 + r.val = t.val * 512 + r.val
    rw [e0]
  · refine (Pipeline.Window.rect_emb_val (win0 1) t (ix2 r k) (1 : Fin 2)).trans ?_
    show (win0 1).index t 1 * 1024 + k.val = k.val
    rw [e1]; omega

theorem blk2 (c : Dev nD) (t : Fin cfg0.N) (k d : Fin 2048) : iblk m c 2 t (ix2 k d) = (m ((c : Thread nD τ).loc main_arg2) : Vec Ideal S2048x2048 .f32) (ix2 k d) := by
  have hN : cfg0.N = 32 := N_0
  have hlt := t.isLt
  obtain ⟨e0, e1⟩ := idx2 t
  refine Eq.trans ?_ (cast_apply (m ((c : Thread nD τ).loc main_arg2)) k d)
  unfold iblk
  rw [View.read_apply]
  show V m c main_v0 _ = _
  rw [V_v0]
  congr 1
  funext x; apply Fin.ext; fin_cases x
  · refine (Pipeline.Window.rect_emb_val (win0 2) t (ix2 k d) (0 : Fin 2)).trans ?_
    show (win0 2).index t 0 * 2048 + k.val = k.val
    rw [e0]; omega
  · refine (Pipeline.Window.rect_emb_val (win0 2) t (ix2 k d) (1 : Fin 2)).trans ?_
    show (win0 2).index t 1 * 2048 + d.val = d.val
    rw [e1]; omega

theorem blk3 (c : Dev nD) (t : Fin cfg0.N) (r : Fin 512) (d : Fin 2048) : iblk m c 3 t (ix2 r d) = (m ((c : Thread nD τ).loc main_arg3) : Vec Ideal S16384x2048 .f32) (ix2 ⟨t.val * 512 + r.val, by have := lt_N t; omega⟩ d) := by
  have hN : cfg0.N = 32 := N_0
  have hlt := t.isLt
  obtain ⟨e0, e1⟩ := idx3 t
  unfold iblk
  rw [View.read_apply]
  show V m c main_arg3 _ = _
  rw [V_main_arg3]
  show (m ((c : Thread nD τ).loc main_arg3) : Vec Ideal S16384x2048 .f32) _ = _
  congr 1
  funext x; apply Fin.ext; fin_cases x
  · refine (Pipeline.Window.rect_emb_val (win0 3) t (ix2 r d) (0 : Fin 2)).trans ?_
    show (win0 3).index t 0 * 512 + r.val = t.val * 512 + r.val
    rw [e0]
  · refine (Pipeline.Window.rect_emb_val (win0 3) t (ix2 r d) (1 : Fin 2)).trans ?_
    show (win0 3).index t 1 * 2048 + d.val = d.val
    rw [e1]; omega

theorem blk4 (c : Dev nD) (t : Fin cfg0.N) (d : Fin 2048) : iblk m c 4 t (ix2 0 d) = (m ((c : Thread nD τ).loc main_arg4) : Vec Ideal S2048 .f32) (ix1 d) := by
  have hN : cfg0.N = 32 := N_0
  have hlt := t.isLt
  obtain ⟨e0, e1⟩ := idx4 t
  refine Eq.trans ?_ (gain_apply (m ((c : Thread nD τ).loc main_arg4)) d)
  unfold iblk
  rw [View.read_apply]
  show V m c main_v1 _ = _
  rw [V_v1]
  congr 1
  funext x; apply Fin.ext; fin_cases x
  · refine (Pipeline.Window.rect_emb_val (win0 4) t (ix2 0 d) (0 : Fin 2)).trans ?_
    show (win0 4).index t 0 * 1 + 0 = 0
    rw [e0]
  · refine (Pipeline.Window.rect_emb_val (win0 4) t (ix2 0 d) (1 : Fin 2)).trans ?_
    show (win0 4).index t 1 * 2048 + d.val = d.val
    rw [e1]; omega

/-- The first result at an entry, from the arguments. -/
def first (c : Dev nD) (R : Fin 16384) (d : Fin 2048) : EReal :=
  entry ((m ((c : Thread nD τ).loc main_arg3) : Vec Ideal S16384x2048 .f32) (ix2 R d))
    (fun k => (m ((c : Thread nD τ).loc main_arg0) : Vec Ideal S16384x1024 .bf16) (ix2 R k)) (fun k => (m ((c : Thread nD τ).loc main_arg1) : Vec Ideal S16384x1024 .bf16) (ix2 R k))
    (fun k => (m ((c : Thread nD τ).loc main_arg2) : Vec Ideal S2048x2048 .f32) (ix2 ⟨k.val, by omega⟩ d)) (fun k => (m ((c : Thread nD τ).loc main_arg2) : Vec Ideal S2048x2048 .f32) (ix2 ⟨1024 + k.val, by omega⟩ d))

/-- The second. -/
def second (c : Dev nD) (R : Fin 16384) (d : Fin 2048) : EReal :=
  rowNorm (fun x => first m c R x) ((m ((c : Thread nD τ).loc main_arg4) : Vec Ideal S2048 .f32) (ix1 d)) d

theorem pay_point (c : Dev nD) (t : Fin cfg0.N) (r : Fin 512) (d : Fin 2048) :
    k0_pay1 (F := Ideal) (iblk m c 0 t) (View.ld (iblk m c 2 t) r0_1) (iblk m c 1 t) (View.ld (iblk m c 2 t) r0_2) (iblk m c 3 t) (ix2 r d)
      = first m c ⟨t.val * 512 + r.val, by have := lt_N t; omega⟩ d := by
  refine (pay1_apply _ _ _ _ _ r d).trans ?_
  unfold first
  exact congr (congr (congr (congr (congrArg entry (blk3 m c t r d)) (funext fun k => blk0 m c t r k)) (funext fun k => blk1 m c t r k))
    (funext fun k => (top_apply _ k d).trans (blk2 m c t ⟨k.val, by omega⟩ d))) (funext fun k => (low_apply _ k d).trans (blk2 m c t ⟨1024 + k.val, by omega⟩ d))

theorem first_point (c : Dev nD) (t : Fin cfg0.N) (r : Fin 512) (d : Fin 2048) :
    out0_5 (F := Ideal) (iblk m c 0 t) (iblk m c 1 t) (iblk m c 2 t) (iblk m c 3 t) (iblk m c 4 t) (ix2 r d) = first m c ⟨t.val * 512 + r.val, by have := lt_N t; omega⟩ d := by
  rw [out_eq]
  exact pay_point m c t r d

theorem second_point (c : Dev nD) (t : Fin cfg0.N) (r : Fin 512) (d : Fin 2048) :
    out0_6 (F := Ideal) (iblk m c 0 t) (iblk m c 1 t) (iblk m c 2 t) (iblk m c 3 t) (iblk m c 4 t) (ix2 r d) = second m c ⟨t.val * 512 + r.val, by have := lt_N t; omega⟩ d := by
  rw [norm_eq]
  refine (pay2_apply _ _ _ _ _ _ r d).trans ?_
  exact congrArg₂ (fun y g => rowNorm y g d) (funext fun q => pay_point m c t r q) (blk4 m c t d)

/-! ## The two arrays -/

theorem mem_blk5 (t : Fin cfg0.N) (j : S16384x2048.Idx) :
    j ∈ ((cfg0.win 5).blk t).view.set
      ↔ ∀ x : Fin 2, (win0 5).index t x * S512x2048.size x ≤ (j x).val ∧ (j x).val < (win0 5).index t x * S512x2048.size x + S512x2048.size x := by
  show j ∈ ((View.whole main_v2_0).slice ((win0 5).rect t)).set ↔ _
  rw [View.set_slice_whole, Rect.mem_set_unit]; exact Iff.rfl

theorem out5_apply (c : Dev nD) (R : Fin 16384) (d : Fin 2048) :
    ((dats m 0 c).arrAt 5 cfg0.N : Vec Ideal S16384x2048 .f32) (ix2 R d) = first m c R d := by
  have hN : cfg0.N = 32 := N_0
  have hN' : grid0.N = 32 := N_0
  refine (dats m 0 c).arrAt_forall_of_flushed 5
    (fun (j : S16384x2048.Idx) (v : EReal) => j = ix2 R d → v = first m c R d)
    (fun t hf y hy => ?_) cfg0.N ⟨R.val / 512, by omega⟩ (ix2 R d) (by show R.val / 512 < _; omega) (flush0_5 _) ?_ rfl
  · have hlt := t.isLt
    obtain ⟨e0, e1⟩ := idx5 t
    obtain ⟨y0, y1, rfl⟩ : ∃ (y0 : Fin 512) (y1 : Fin 2048), y = ix2 y0 y1 := ⟨y 0, y 1, eq_ix2 y⟩
    have h0 : (win0 5).index t 0 * 512 + y0.val = R.val :=
      (Pipeline.Window.rect_emb_val (win0 5) t (ix2 y0 y1) (0 : Fin 2)).symm.trans (congrArg (fun j : S16384x2048.Idx => (j 0).val) hy)
    have h1 : (win0 5).index t 1 * 2048 + y1.val = d.val :=
      (Pipeline.Window.rect_emb_val (win0 5) t (ix2 y0 y1) (1 : Fin 2)).symm.trans (congrArg (fun j : S16384x2048.Idx => (j 1).val) hy)
    rw [e0] at h0
    rw [e1] at h1
    have eR : (⟨t.val * 512 + y0.val, h0 ▸ R.isLt⟩ : Fin 16384) = R := Fin.ext h0
    have ed : y1 = d := Fin.ext (by omega)
    subst ed
    rw [Value.flushed5]
    have hv := first_point m c t y0 y1
    rw [eR] at hv
    rw [cast_eq]
    exact hv
  · obtain ⟨e0, e1⟩ := idx5 ⟨R.val / 512, by omega⟩
    rw [mem_blk5]
    refine Fin.forall_fin_two.mpr ⟨?_, ?_⟩
    · show (win0 5).index _ 0 * 512 ≤ R.val ∧ R.val < (win0 5).index _ 0 * 512 + 512
      rw [e0]
      show (R.val / 512) * 512 ≤ R.val ∧ R.val < (R.val / 512) * 512 + 512
      omega
    · show (win0 5).index _ 1 * 2048 ≤ d.val ∧ d.val < (win0 5).index _ 1 * 2048 + 2048
      rw [e1]
      show 0 * 2048 ≤ d.val ∧ d.val < 0 * 2048 + 2048
      omega

theorem mem_blk6 (t : Fin cfg0.N) (j : S16384x2048.Idx) :
    j ∈ ((cfg0.win 6).blk t).view.set
      ↔ ∀ x : Fin 2, (win0 6).index t x * S512x2048.size x ≤ (j x).val ∧ (j x).val < (win0 6).index t x * S512x2048.size x + S512x2048.size x := by
  show j ∈ ((View.whole main_v2_1).slice ((win0 6).rect t)).set ↔ _
  rw [View.set_slice_whole, Rect.mem_set_unit]; exact Iff.rfl

theorem out6_apply (c : Dev nD) (R : Fin 16384) (d : Fin 2048) :
    ((dats m 0 c).arrAt 6 cfg0.N : Vec Ideal S16384x2048 .bf16) (ix2 R d) = second m c R d := by
  have hN : cfg0.N = 32 := N_0
  have hN' : grid0.N = 32 := N_0
  refine (dats m 0 c).arrAt_forall_of_flushed 6
    (fun (j : S16384x2048.Idx) (v : EReal) => j = ix2 R d → v = second m c R d)
    (fun t hf y hy => ?_) cfg0.N ⟨R.val / 512, by omega⟩ (ix2 R d) (by show R.val / 512 < _; omega) (flush0_6 _) ?_ rfl
  · have hlt := t.isLt
    obtain ⟨e0, e1⟩ := idx6 t
    obtain ⟨y0, y1, rfl⟩ : ∃ (y0 : Fin 512) (y1 : Fin 2048), y = ix2 y0 y1 := ⟨y 0, y 1, eq_ix2 y⟩
    have h0 : (win0 6).index t 0 * 512 + y0.val = R.val :=
      (Pipeline.Window.rect_emb_val (win0 6) t (ix2 y0 y1) (0 : Fin 2)).symm.trans (congrArg (fun j : S16384x2048.Idx => (j 0).val) hy)
    have h1 : (win0 6).index t 1 * 2048 + y1.val = d.val :=
      (Pipeline.Window.rect_emb_val (win0 6) t (ix2 y0 y1) (1 : Fin 2)).symm.trans (congrArg (fun j : S16384x2048.Idx => (j 1).val) hy)
    rw [e0] at h0
    rw [e1] at h1
    have eR : (⟨t.val * 512 + y0.val, h0 ▸ R.isLt⟩ : Fin 16384) = R := Fin.ext h0
    have ed : y1 = d := Fin.ext (by omega)
    subst ed
    rw [Value.flushed6]
    have hv := second_point m c t y0 y1
    rw [eR] at hv
    rw [cast_eq]
    exact hv
  · obtain ⟨e0, e1⟩ := idx6 ⟨R.val / 512, by omega⟩
    rw [mem_blk6]
    refine Fin.forall_fin_two.mpr ⟨?_, ?_⟩
    · show (win0 6).index _ 0 * 512 ≤ R.val ∧ R.val < (win0 6).index _ 0 * 512 + 512
      rw [e0]
      show (R.val / 512) * 512 ≤ R.val ∧ R.val < (R.val / 512) * 512 + 512
      omega
    · show (win0 6).index _ 1 * 2048 ≤ d.val ∧ d.val < (win0 6).index _ 1 * 2048 + 2048
      rw [e1]
      show 0 * 2048 ≤ d.val ∧ d.val < 0 * 2048 + 2048
      omega

end Cert.Kernel5Ideal.MixOut

end
-- ==== Proof.MixOut.Ref.lean ====
/- The reference's output projection and its norm read at an entry. -/
module

public import proofs.«01_k».proof.Proof.Gen.Reference5Ideal
public import proofs.«01_k».proof.Proof.Gen.Reference5Ideal.Run
public import proofs.«01_k».proof.Proof.MixOut.Value
public import Idealize.ShloMosaic.Lib.Pointwise

@[expose] public section

set_option maxRecDepth 16384

noncomputable section

namespace Cert.Reference5Ideal.MixOut

open Cert.Reference5Ideal Cert.Reference5Ideal.Gen
open Cert.Kernel5Ideal.MixOut (entry)
open Cert.Kernel2Ideal.Ffn (rowNorm)
open Idealize.ShloMosaic

variable (ya yb : FVec Ideal S16384x1024 .bf16) (w : FVec Ideal S2048x2048 .f32) (x : FVec Ideal S16384x2048 .f32)

/-- The two mixers' rows side by side. -/
def joined : FVec Ideal S16384x2048 .bf16 :=
  concatenate S16384x2048 1 [⟨S16384x1024, ya⟩, ⟨S16384x1024, yb⟩] concatenates_S16384x1024_S16384x1024_S16384x2048_d1

/-- The reference's first result as one expression of its arguments. -/
def first : FVec Ideal S16384x2048 .f32 :=
  addf x (Host.dotGeneral (F := Ideal) dot_S16384x2048_S2048x2048_S16384x2048_1_0_0_1_n_n none (extf .f32 (joined ya yb) bitsLt_bf16_f32) w)

/-- Its second result as one expression of its first and the gain. -/
def second (y : FVec Ideal S16384x2048 .f32) (g : FVec Ideal S2048 .f32) : FVec Ideal S16384x2048 .bf16 :=
  truncf .bf16 (mulf (mulf y (broadcastInDim S16384x2048 ![0, 1] bcast_S16384x1_S16384x2048_0_1 (Host.rsqrt (addf (Host.divf (broadcastInDim S16384x1 ![0] bcast_S16384_S16384x1_0 (Host.reduceAdd (F := Ideal) (mulf y y) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 g))) bitsLt_bf16_f32

theorem joined_left (R : Fin 16384) (k : Fin 1024) : joined ya yb (ix2 R ⟨k.val, by omega⟩) = ya (ix2 R k) := by
  pointwise [joined]

theorem joined_right (R : Fin 16384) (k : Fin 1024) : joined ya yb (ix2 R ⟨1024 + k.val, by omega⟩) = yb (ix2 R k) := by
  pointwise [joined]

theorem first_apply (R : Fin 16384) (d : Fin 2048) :
    first ya yb w x (ix2 R d)
      = entry (x (ix2 R d)) (fun k => ya (ix2 R k)) (fun k => yb (ix2 R k)) (fun k => w (ix2 ⟨k.val, by omega⟩ d)) (fun k => w (ix2 ⟨1024 + k.val, by omega⟩ d)) := by
  have e : first ya yb w x (ix2 R d) = (x (ix2 R d) + ∑ q : Fin 2048, joined ya yb (ix2 R q) * w (ix2 q d) : EReal) := by
    pointwise [first]
  rw [e]
  unfold entry
  refine congrArg (fun b : EReal => x (ix2 R d) + b) ?_
  refine (Fin.sum_univ_add (a := 1024) (b := 1024) (fun q : Fin (1024 + 1024) => (joined ya yb (ix2 R q) * w (ix2 q d) : EReal))).trans ?_
  refine congrArg₂ (fun a b : EReal => a + b) (Finset.sum_congr rfl fun k _ => ?_) (Finset.sum_congr rfl fun k _ => ?_)
  · exact congrArg (fun a : EReal => a * w (ix2 ⟨k.val, by omega⟩ d)) (joined_left ya yb R k)
  · exact congrArg (fun a : EReal => a * w (ix2 ⟨1024 + k.val, by omega⟩ d)) (joined_right ya yb R k)

theorem second_apply (y : FVec Ideal S16384x2048 .f32) (g : FVec Ideal S2048 .f32) (R : Fin 16384) (d : Fin 2048) :
    second y g (ix2 R d) = rowNorm (fun k => y (ix2 R k)) (g (ix1 d)) d := by
  unfold rowNorm
  pointwise [second]

end Cert.Reference5Ideal.MixOut

end
-- ==== Proof.MixOut.Claim.lean ====
/- The output projection and the norm after it against the reference. -/
module

public import proofs.«01_k».proof.Defs
public import proofs.«01_k».proof.Proof.MixOut.Value
public import proofs.«01_k».proof.Proof.MixOut.Ref

@[expose] public section

set_option maxRecDepth 16384

noncomputable section

namespace Cert.Proof

open Idealize.ShloMosaic Idealize.ShloMosaic.TcCoe Idealize.SL.Sem

theorem algebraic5 : Cert.algebraic_Kernel5Ideal_Reference5Ideal := by
  intro m g m' g' hp hargs
  refine ⟨fun c => Cert.Reference5Ideal.MixOut.first (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)),
    fun c => Cert.Reference5Ideal.MixOut.second (Cert.Reference5Ideal.MixOut.first (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3))) (m ((c.tc : Thread _ _).loc Cert.Kernel5Ideal.main_arg4)),
    (θ_run Cert.Kernel5Ideal.defs _ _).mono (fun r hr c => ⟨?_, ?_, (hr c).2.2⟩) (Cert.Kernel5Ideal.Value.run_blocks (F := Ideal) m g),
    (θ_run Cert.Reference5Ideal.defs _ _).mono (fun r hr c => ⟨?_, ?_, (hr c).2.2⟩) (Cert.Reference5Ideal.Value.run (F := Ideal) m' g')⟩
  · refine (hr c).1.trans (funext fun j => ?_)
    obtain ⟨R, d, rfl⟩ : ∃ (R : Fin 16384) (d : Fin 2048), j = ix2 R d := ⟨j 0, j 1, eq_ix2 j⟩
    exact (Cert.Kernel5Ideal.MixOut.out5_apply m c R d).trans (Cert.Reference5Ideal.MixOut.first_apply _ _ _ _ R d).symm
  · refine (hr c).2.1.trans (funext fun j => ?_)
    obtain ⟨R, d, rfl⟩ : ∃ (R : Fin 16384) (d : Fin 2048), j = ix2 R d := ⟨j 0, j 1, eq_ix2 j⟩
    refine (Cert.Kernel5Ideal.MixOut.out6_apply m c R d).trans (Eq.trans ?_ (Cert.Reference5Ideal.MixOut.second_apply _ _ R d).symm)
    exact congrArg (fun y => Cert.Kernel2Ideal.Ffn.rowNorm y _ d) (funext fun k => (Cert.Reference5Ideal.MixOut.first_apply _ _ _ _ R k).symm)
  · obtain ⟨e0, e1, e2, e3, e4⟩ := hargs c
    have e := congr (congr (congr (congrArg Cert.Reference5Ideal.MixOut.first e0) e1) e2) e3
    exact (hr c).1.trans e
  · obtain ⟨e0, e1, e2, e3, e4⟩ := hargs c
    have e := congr (congrArg Cert.Reference5Ideal.MixOut.second (congr (congr (congr (congrArg Cert.Reference5Ideal.MixOut.first e0) e1) e2) e3)) e4
    exact (hr c).2.1.trans e

end Cert.Proof

end
-- ==== Proof.ConvOut.Body.lean ====
/- The convolution's output projection and the norm after it: the kernel body run once, and what it leaves in each output's buffer. -/
module

public import proofs.«01_k».proof.Proof.Gen.Kernel6Ideal
public import proofs.«01_k».proof.Proof.Gen.Kernel6Ideal.Skeleton
public import proofs.«01_k».proof.Proof.Gen.Kernel6Ideal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Lib.VecWindow
public import Idealize.ShloMosaic.Lib.Pipeline.Value
public import Idealize.ShloMosaic.Lib.Pointwise

@[expose] public section

set_option maxRecDepth 16384
set_option Elab.async false

noncomputable section

namespace Cert.Kernel6Ideal.ConvOut

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one run computes -/

/-- The upper half of a block's rows. -/
abbrev top (x : Vec F S512x2048 .f32) : Vec F S256x2048 .f32 :=
  View.ld x (Rect.unit (s := S512x2048) ![0, 0] S256x2048.size inb_S512x2048_S256x2048_0_0)
/-- And the lower half. -/
abbrev low (x : Vec F S512x2048 .f32) : Vec F S256x2048 .f32 :=
  View.ld x (Rect.unit (s := S512x2048) ![256, 0] S256x2048.size inb_S512x2048_S256x2048_256_0)

variable (x0 : Vec F S512x2048 .bf16) (x1 : Vec F S2048x2048 .bf16) (x2 : Vec F S1x2048 .f32) (x3 : Vec F S512x2048 .f32) (x4 : Vec F S1x2048 .f32) (x5 : Vec F S2048x128 .f32)

/-- The stream after the residual, upper half of the rows. -/
def resTop : Vec F S256x2048 .f32 :=
  k0_pay2 (top x3) (top (k0_pay1 x0 x1)) x2
/-- And the lower half. -/
def resLow : Vec F S256x2048 .f32 :=
  k0_pay21 (low x3) (low (k0_pay1 x0 x1)) x2
/-- Its norm, upper half. -/
def normTop : Vec F S256x2048 .f32 :=
  k0_pay3 (top x3) (top (k0_pay1 x0 x1)) x2 x4
/-- And the lower half. -/
def normLow : Vec F S256x2048 .f32 :=
  k0_pay24 (resLow x0 x1 x2 x3) (k0_pay22 x4) (k0_pay23 (low x3) (low (k0_pay1 x0 x1)) x2)

/-- What the run leaves in the first output's buffer: the two halves one under the other. -/
def out6 : Vec F S512x2048 .f32 := fun y =>
  if h : (y 0).val < 256 then resTop x0 x1 x2 x3 (ix2 ⟨(y 0).val, h⟩ (y 1))
  else resLow x0 x1 x2 x3 (ix2 ⟨(y 0).val - 256, by have : (y 0).val < 512 := (y 0).isLt; omega⟩ (y 1))

/-- In the second's: each row of the two halves of the norm cut into sixteen rows of 128. -/
def cut (p q : Vec F S256x2048 .f32) : Vec F S8192x128 .f32 := fun y =>
  have h0 : (y 0).val < 8192 := (y 0).isLt
  have h1 : (y 1).val < 128 := (y 1).isLt
  if h : (y 0).val < 4096 then p (ix2 ⟨(y 0).val / 16, by omega⟩ ⟨(y 0).val % 16 * 128 + (y 1).val, by omega⟩)
  else q (ix2 ⟨((y 0).val - 4096) / 16, by omega⟩ ⟨((y 0).val - 4096) % 16 * 128 + (y 1).val, by omega⟩)

/-- And in the third's. -/
def out8 : Vec F S512x128 .f32 := fun y =>
  if h : (y 0).val < 256 then k0_pay20 (normTop x0 x1 x2 x3 x4) x5 (ix2 ⟨(y 0).val, h⟩ (y 1))
  else k0_pay41 (normLow x0 x1 x2 x3 x4) x5 (ix2 ⟨(y 0).val - 256, by have : (y 0).val < 512 := (y 0).isLt; omega⟩ (y 1))

/-! ## Reading the stores back -/

theorem hz : (![0, 0] : Fin 2 → Nat) = fun _ => 0 := funext fun a => by fin_cases a <;> rfl

/-- A load of a whole block. -/
theorem load_all {a b : ℕ} {e : EltTy} (v : View sig .tc .vmem ⟨2, ![a, b]⟩ e) (f : v.ty.Contents (Elt F))
    (h : ∀ x : Fin 2, (![0, 0] : Fin 2 → ℕ) x + (⟨2, ![a, b]⟩ : Shape).size x ≤ (⟨2, ![a, b]⟩ : Shape).size x) :
    View.readAt (Elt F) v (Rect.unit (s := ⟨2, ![a, b]⟩) ![0, 0] (⟨2, ![a, b]⟩ : Shape).size h).toLoadRect f = v.read (Elt F) f :=
  View.ld_unit_zero (S := ⟨2, ![a, b]⟩) hz h (v.read (Elt F) f)

/-- A load of the upper half after a store of the whole block. -/
theorem top_after (v : View sig .tc .vmem S512x2048 .f32) (P : Vec F S512x2048 .f32) :
    v.readCov [⟨Rect.unit (s := S512x2048) ![0, 0] S512x2048.size inb_S512x2048_S512x2048_0_0, P⟩]
      (Rect.unit (s := S512x2048) ![0, 0] S256x2048.size inb_S512x2048_S256x2048_0_0).toLoadRect = top P := by
  rw [View.readCov_eq_canon', View.canon_unit_zero (S := S512x2048) hz]
  rfl

/-- A load of the lower half after stores of the whole block and then of the upper half. -/
theorem low_after (v : View sig .tc .vmem S512x2048 .f32) (P : Vec F S512x2048 .f32) (Q : Vec F S256x2048 .f32) :
    v.readCov [⟨Rect.unit (s := S512x2048) ![0, 0] S256x2048.size inb_S512x2048_S256x2048_0_0, Q⟩, ⟨Rect.unit (s := S512x2048) ![0, 0] S512x2048.size inb_S512x2048_S512x2048_0_0, P⟩]
      (Rect.unit (s := S512x2048) ![256, 0] S256x2048.size inb_S512x2048_S256x2048_256_0).toLoadRect = low P := by
  rw [View.readCov_cons_of_disjoint, View.readCov_eq_canon', View.canon_unit_zero (S := S512x2048) hz]
  · rfl
  refine Finset.disjoint_left.mpr fun y h h' => ?_
  have h1 := (Rect.mem_set_unit (inb := inb_S512x2048_S256x2048_0_0)).mp h (0 : Fin 2)
  have h2 := (Rect.mem_set_unit (inb := inb_S512x2048_S256x2048_256_0)).mp h' (0 : Fin 2)
  exact absurd (h1.2.trans_le h2.1) (lt_irrefl _)

/-- Two stores of 256 rows each, read back. -/
theorem halves_after {n : ℕ} {e : EltTy} (v : View sig .tc .vmem ⟨2, ![512, n]⟩ e) (f : v.ty.Contents (Elt F)) (p q : Vec F ⟨2, ![256, n]⟩ e)
    (L : List (View.Piece (Elt F) ⟨2, ![512, n]⟩ e)) (hp : ∀ a : Fin 2, (![0, 0] : Fin 2 → ℕ) a + (⟨2, ![256, n]⟩ : Shape).size a ≤ (⟨2, ![512, n]⟩ : Shape).size a)
    (hq : ∀ a : Fin 2, (![256, 0] : Fin 2 → ℕ) a + (⟨2, ![256, n]⟩ : Shape).size a ≤ (⟨2, ![512, n]⟩ : Shape).size a) :
    v.read (Elt F) (v.writes (Elt F) f (⟨Rect.unit (s := ⟨2, ![512, n]⟩) ![256, 0] (⟨2, ![256, n]⟩ : Shape).size hq, q⟩ :: ⟨Rect.unit (s := ⟨2, ![512, n]⟩) ![0, 0] (⟨2, ![256, n]⟩ : Shape).size hp, p⟩ :: L))
      = fun y => if h : (y 0).val < 256 then p (ix2 ⟨(y 0).val, h⟩ (y 1))
          else q (ix2 ⟨(y 0).val - 256, by have : (y 0).val < 512 := (y 0).isLt; omega⟩ (y 1)) := by
  funext y
  have hy : (y 0).val < 512 := (y 0).isLt
  by_cases h : (y 0).val < 256
  · rw [dif_pos h, View.read_writes_cons_miss_of_axis v f _ _ y (0 : Fin 2) 256 256 rfl rfl rfl (Or.inl h)]
    exact View.read_writes_cons_hit_of_coords v f (Rect.unit (s := ⟨2, ![512, n]⟩) ![0, 0] (⟨2, ![256, n]⟩ : Shape).size hp) p L (ix2 (⟨(y 0).val, h⟩ : Fin 256) (y 1 : Fin n)) y
      (Fin.forall_fin_two.mpr ⟨by show (y 0).val = 0 + 1 * (y 0).val; omega, by show (y 1).val = 0 + 1 * (y 1).val; omega⟩)
  · rw [dif_neg h]
    exact View.read_writes_cons_hit_of_coords v f (Rect.unit (s := ⟨2, ![512, n]⟩) ![256, 0] (⟨2, ![256, n]⟩ : Shape).size hq) q _ (ix2 (⟨(y 0).val - 256, by omega⟩ : Fin 256) (y 1 : Fin n)) y
      (Fin.forall_fin_two.mpr ⟨by show (y 0).val = 256 + 1 * ((y 0).val - 256); omega, by show (y 1).val = 0 + 1 * (y 1).val; omega⟩)

/-! ## The strided stores read back -/

theorem tile_inb {b : ℕ} (hb : b ≤ 4096) (j : Fin 16) : ∀ a : Fin 2, S256x128.size a = 0 ∨ (![b + j.val, 0] : Fin 2 → ℕ) a + (![16, 1] : Fin 2 → ℕ) a * (S256x128.size a - 1) < S8192x128.size a :=
  Fin.forall_fin_two.mpr ⟨Or.inr (by show b + j.val + 16 * (256 - 1) < 8192; omega), Or.inr (by show 0 + 1 * (128 - 1) < 128; omega)⟩

theorem tile_slice (j : Fin 16) : S256x2048.Slices ![0, j.val * 128] S256x128 :=
  ⟨rfl, Fin.forall_fin_two.mpr ⟨by show 0 + 256 ≤ 256; omega, by show j.val * 128 + 128 ≤ 2048; omega⟩⟩

/-- Columns `128 j` to `128 j + 127` of 256 rows, stored as every sixteenth row from row `b + j`. -/
def tile (b : ℕ) (hb : b ≤ 4096) (p : Vec F S256x2048 .f32) (j : Fin 16) : View.Piece (Elt F) S8192x128 .f32 :=
  ⟨⟨(⟨![b + j.val, 0], S256x128.size, ![16, 1], tile_inb hb j⟩ : LoadRect S8192x128), spos_16_1⟩, extractStridedSlice S256x128 ![0, j.val * 128] p (tile_slice j)⟩

/-- The sixteen columns of 128, last first. -/
abbrev js : List (Fin 16) := [15, 14, 13, 12, 11, 10, 9, 8, 7, 6, 5, 4, 3, 2, 1, 0]

theorem mem_js : ∀ j : Fin 16, j ∈ js := by decide

/-- The stores of the two halves, last first. -/
def tiles (p q : Vec F S256x2048 .f32) : List (View.Piece (Elt F) S8192x128 .f32) :=
  js.map (tile 4096 le_rfl q) ++ js.map (tile 0 (by omega) p)

/-- What one such store holds at an index of its own. -/
theorem tile_apply (b : ℕ) (hb : b ≤ 4096) (p : Vec F S256x2048 .f32) (j : Fin 16) (r : Fin 256) (l : Fin 128) :
    (tile b hb p j).2 (ix2 r l) = p (ix2 r ⟨j.val * 128 + l.val, by omega⟩) := by
  show extractStridedSlice S256x128 ![0, j.val * 128] p (tile_slice j) (ix2 r l) = _
  exact extractStridedSlice_apply ![0, j.val * 128] p (tile_slice j) (ix2 r l) (ix2 r ⟨j.val * 128 + l.val, by omega⟩) (Fin.forall_fin_two.mpr ⟨by show r.val = 0 + r.val; omega, rfl⟩)

theorem cut_top (p q : Vec F S256x2048 .f32) (y : S8192x128.Idx) (r : Fin 256) (k : Fin 2048) (h : (y 0).val < 4096)
    (hr : r.val = (y 0).val / 16) (hk : k.val = (y 0).val % 16 * 128 + (y 1).val) : cut p q y = p (ix2 r k) := by
  unfold cut
  rw [dif_pos h]
  exact congrArg p (congrArg₂ ix2 (Fin.ext hr.symm) (Fin.ext hk.symm))

theorem cut_low (p q : Vec F S256x2048 .f32) (y : S8192x128.Idx) (r : Fin 256) (k : Fin 2048) (h : 4096 ≤ (y 0).val)
    (hr : r.val = ((y 0).val - 4096) / 16) (hk : k.val = ((y 0).val - 4096) % 16 * 128 + (y 1).val) : cut p q y = q (ix2 r k) := by
  unfold cut
  rw [dif_neg (by omega)]
  exact congrArg q (congrArg₂ ix2 (Fin.ext hr.symm) (Fin.ext hk.symm))

/-- Each store agrees with the cut of the two halves. -/
theorem tile_cut (p q : Vec F S256x2048 .f32) : ∀ t ∈ tiles p q, ∀ x : t.1.shape.Idx, t.2 x = cut p q (t.1.emb x) := by
  intro t ht x
  rcases List.mem_append.mp ht with h | h
  · obtain ⟨j, -, rfl⟩ := List.mem_map.mp h
    obtain ⟨r, l, rfl⟩ : ∃ (r : Fin 256) (l : Fin 128), x = ix2 r l := ⟨x 0, x 1, eq_ix2 x⟩
    have e0 : ((tile 4096 le_rfl q j).1.emb (ix2 r l) 0).val = 4096 + j.val + 16 * r.val := rfl
    have e1 : ((tile 4096 le_rfl q j).1.emb (ix2 r l) 1).val = 0 + 1 * l.val := rfl
    refine (tile_apply _ _ _ j r l).trans (cut_low p q _ r ⟨j.val * 128 + l.val, by omega⟩ ?_ ?_ ?_).symm
    · rw [e0]; omega
    · rw [e0]; omega
    · rw [e0, e1]; show j.val * 128 + l.val = _; omega
  · obtain ⟨j, -, rfl⟩ := List.mem_map.mp h
    obtain ⟨r, l, rfl⟩ : ∃ (r : Fin 256) (l : Fin 128), x = ix2 r l := ⟨x 0, x 1, eq_ix2 x⟩
    have e0 : ((tile 0 (by omega) p j).1.emb (ix2 r l) 0).val = 0 + j.val + 16 * r.val := rfl
    have e1 : ((tile 0 (by omega) p j).1.emb (ix2 r l) 1).val = 0 + 1 * l.val := rfl
    refine (tile_apply _ _ _ j r l).trans (cut_top p q _ r ⟨j.val * 128 + l.val, by omega⟩ ?_ ?_ ?_).symm
    · rw [e0]; omega
    · rw [e0]; omega
    · rw [e0, e1]; show j.val * 128 + l.val = _; omega

/-- One store's rectangle holds a row of its own. -/
theorem mem_tile (b : ℕ) (hb : b ≤ 4096) (p : Vec F S256x2048 .f32) (y : S8192x128.Idx) (h : b ≤ (y 0).val) (h' : (y 0).val < b + 4096) :
    y ∈ (tile b hb p ⟨((y 0).val - b) % 16, Nat.mod_lt _ (by omega)⟩).1.set := by
  have h1 : (y 1).val < 128 := (y 1).isLt
  refine (LoadRect.mem_set _).mpr (Fin.forall_fin_two.mpr ⟨⟨((y 0).val - b) / 16, ?_, ?_⟩, ⟨(y 1).val, h1, ?_⟩⟩)
  · show _ < 256; omega
  · show (y 0).val = b + ((y 0).val - b) % 16 + 16 * (((y 0).val - b) / 16); omega
  · show (y 1).val = 0 + 1 * (y 1).val; omega

/-- All the stores read back. -/
theorem tiles_after (v : View sig .tc .vmem S8192x128 .f32) (f : v.ty.Contents (Elt F)) (p q : Vec F S256x2048 .f32) :
    v.read (Elt F) (v.writes (Elt F) f (tiles p q)) = cut p q := by
  funext y
  refine View.read_writes_apply_of_pieces v f (cut p q) (tiles p q) (tile_cut p q) y ?_
  have hy : (y 0).val < 8192 := (y 0).isLt
  by_cases h : (y 0).val < 4096
  · exact ⟨_, List.mem_append_right _ (List.mem_map.mpr ⟨_, mem_js _, rfl⟩), mem_tile 0 (by omega) p y (Nat.zero_le _) (by omega)⟩
  · exact ⟨_, List.mem_append_left _ (List.mem_map.mpr ⟨_, mem_js _, rfl⟩), mem_tile 4096 le_rfl q y (by omega) (by omega)⟩

variable (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S2048x128 .f32) (harg6 : arg6.IsWhole) (arg7 : Memref sig .tc .vmem S512x2048 .f32) (harg7 : arg7.IsWhole) (arg8 : Memref sig .tc .vmem S8192x128 .f32) (harg8 : arg8.IsWhole) (arg9 : Memref sig .tc .vmem S512x128 .f32) (harg9 : arg9.IsWhole)

set_option maxHeartbeats 4000000 in
theorem run (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3) ∗ owns (c : Thread nD τ) arg8 fullShare (cut (normTop x0 x1 x2 x3 x4) (normLow x0 x1 x2 x3 x4)) ∗ owns (c : Thread nD τ) arg9 fullShare (out8 x0 x1 x2 x3 x4 x5)) -∗ K ⟨⟩))
      ⊢ wp frame (wpE (defs₀ (F := F)) Variants.none c none) E (cc0_conv_out i arg1 harg1 arg2 harg2 arg3 harg3 arg4 harg4 arg5 harg5 arg6 harg6 arg7 harg7 arg8 harg8 arg9 harg9) K := by
  simp only [cc0_conv_out_eq_skeleton]; unfold cc0_conv_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec!
  sl_step
  have h6 : run.sl.v6 c arg1 arg2 arg7 f0 f1 = top (k0_pay1 (arg1.view.read (Elt F) f0) (arg2.view.read (Elt F) f1)) := by
    unfold run.sl.v6 run.sl.H6_1
    rw [top_after, load_all, load_all]
  have h77 : run.sl.v77 c arg1 arg2 arg3 arg4 arg7 f0 f1 f2 f3 = low (k0_pay1 (arg1.view.read (Elt F) f0) (arg2.view.read (Elt F) f1)) := by
    unfold run.sl.v77 run.sl.H6_2 run.sl.H6_1
    rw [low_after, load_all, load_all]
  have hr : run.sl.r c arg1 arg2 arg3 arg4 arg5 arg7 f0 f1 f2 f3 f4 = normTop (arg1.view.read (Elt F) f0) (arg2.view.read (Elt F) f1) (arg3.view.read (Elt F) f2) (arg4.view.read (Elt F) f3) (arg5.view.read (Elt F) f4) := by
    unfold run.sl.r normTop
    rw [h6, load_all, load_all]
    rfl
  have hr2 : run.sl.r_2 c arg1 arg2 arg3 arg4 arg7 f0 f1 f2 f3 = resLow (arg1.view.read (Elt F) f0) (arg2.view.read (Elt F) f1) (arg3.view.read (Elt F) f2) (arg4.view.read (Elt F) f3) := by
    unfold run.sl.r_2 resLow
    rw [h77, load_all]
    rfl
  have hr5 : run.sl.r_5 c arg1 arg2 arg3 arg4 arg5 arg7 f0 f1 f2 f3 f4 = normLow (arg1.view.read (Elt F) f0) (arg2.view.read (Elt F) f1) (arg3.view.read (Elt F) f2) (arg4.view.read (Elt F) f3) (arg5.view.read (Elt F) f4) := by
    unfold run.sl.r_5 run.sl.r_3 run.sl.r_4 normLow
    rw [hr2, h77, load_all, load_all]
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold run.sl.H6_3
    refine (halves_after _ _ _ _ _ inb_S512x2048_S256x2048_0_0 inb_S512x2048_S256x2048_256_0).trans ?_
    rw [h6, load_all]
    unfold out6 resTop resLow
    rw [h77]
    rfl
  isplitl [H7]
  · iexists _; isplitr
    swap; · iexact H7
    ipureintro
    refine (tiles_after _ _ (run.sl.r c arg1 arg2 arg3 arg4 arg5 arg7 f0 f1 f2 f3 f4) (run.sl.r_5 c arg1 arg2 arg3 arg4 arg5 arg7 f0 f1 f2 f3 f4)).trans ?_
    rw [hr, hr5]
  iexists _; isplitr
  swap; · iexact H8
  ipureintro
  unfold run.sl.H8_2
  refine (halves_after _ _ _ _ _ inb_S512x128_S256x128_0_0 inb_S512x128_S256x128_256_0).trans ?_
  rw [hr, hr5, load_all]
  rfl

end Cert.Kernel6Ideal.ConvOut

end
-- ==== Proof.ConvOut.Frame.lean ====
/- The convolution's output projection and the norm after it: the whole run, at any values. -/
module

public import proofs.«01_k».proof.Proof.ConvOut.Body
public import proofs.«01_k».proof.Proof.Gen.Kernel6Ideal.Points
public import Idealize.ShloMosaic.Lib.Claim

@[expose] public section

set_option maxRecDepth 16384

noncomputable section

namespace Cert.Kernel6Ideal.ConvOut

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the region -/

/-- What the region finds in a buffer: the launch's contents after the operations before it. -/
abbrev V (c : Dev nD) (b : Ref sig .tc) : Buf (Elt F) ((c : Thread nD τ).loc b) :=
  StableHlo.after hostOps0 (fun b => m (c, b)) b

theorem no_fresh : (hostOps0 : List (HloOp τ sig (Elt F))).Forall fun op => op.fresh = ∅ := by
  simp only [List.Forall]; repeat' constructor

set_option maxHeartbeats 800000 in
theorem enters (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub no_fresh main_chain

/-- A buffer that no operation before the region writes is found as launched. -/
theorem V_kept (c : Dev nD) (b : Ref sig .tc)
    (h : b ≠ main_cst ∧ b ≠ main_v0 ∧ b ≠ main_c ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.ternary_writes, StableHlo.reshape_writes, Finset.mem_singleton]
    obtain ⟨h0, h1, h2, h3, h4, h5, h6, h7⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first result's block after a point. -/
abbrev res (c : Dev nD) (t : Fin cfg0.N) : Vec F S512x2048 .f32 :=
  out6 (iblk m c 0 t) (iblk m c 1 t) (iblk m c 2 t) (iblk m c 3 t)
/-- The second's. -/
abbrev nrm (c : Dev nD) (t : Fin cfg0.N) : Vec F S8192x128 .f32 :=
  cut (normTop (iblk m c 0 t) (iblk m c 1 t) (iblk m c 2 t) (iblk m c 3 t) (iblk m c 4 t)) (normLow (iblk m c 0 t) (iblk m c 1 t) (iblk m c 2 t) (iblk m c 3 t) (iblk m c 4 t))
/-- And the logits'. -/
abbrev lgt (c : Dev nD) (t : Fin cfg0.N) : Vec F S512x128 .f32 :=
  out8 (iblk m c 0 t) (iblk m c 1 t) (iblk m c 2 t) (iblk m c 3 t) (iblk m c 4 t) (iblk m c 5 t)

/-- What the pipeline is run with: every input's buffer is left at its block, every output's at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => res m c t
    | ⟨7, _⟩ => nrm m c t
    | ⟨8, _⟩ => lgt m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after6 (c : Dev nD) (t : Fin cfg0.N) : (dats m 0 c).after 6 t = res m c t := by dsimp only [dats]
theorem after7 (c : Dev nD) (t : Fin cfg0.N) : (dats m 0 c).after 7 t = nrm m c t := by dsimp only [dats]
theorem after8 (c : Dev nD) (t : Fin cfg0.N) : (dats m 0 c).after 8 t = lgt m c t := by dsimp only [dats]

/-- An input's buffer after a point holds its block. -/
theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  refine ⟨?_, ?_, ?_, ?_, ?_, ?_⟩ <;> dsimp only [dats]

/-- And so does it before the point, fetched there or not. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
      ∧ (∀ d, (dats m 0 c).before 3 t d = iblk m c 3 t) ∧ (∀ d, (dats m 0 c).before 4 t d = iblk m c 4 t) ∧ (∀ d, (dats m 0 c).before 5 t d = iblk m c 5 t) := by
  have a := after_in m c
  refine ⟨fun d => ?_, fun d => ?_, fun d => ?_, fun d => ?_, fun d => ?_, fun d => ?_⟩
  · exact ((dats m 0 c).before_in_eq_fetched 0 rfl (fun _ => rfl) (fun _ _ _ => rfl) (fun s => by rw [(a s).1]; unfold Dat.blockOf iblk; rw [dats_A]) t d).trans (by unfold Dat.fetched Dat.blockOf iblk; rw [dats_A]; rfl)
  · exact ((dats m 0 c).before_in_eq_fetched 1 rfl (fun _ => rfl) (fun _ _ _ => rfl) (fun s => by rw [(a s).2.1]; unfold Dat.blockOf iblk; rw [dats_A]) t d).trans (by unfold Dat.fetched Dat.blockOf iblk; rw [dats_A]; rfl)
  · exact ((dats m 0 c).before_in_eq_fetched 2 rfl (fun _ => rfl) (fun _ _ _ => rfl) (fun s => by rw [(a s).2.2.1]; unfold Dat.blockOf iblk; rw [dats_A]) t d).trans (by unfold Dat.fetched Dat.blockOf iblk; rw [dats_A]; rfl)
  · exact ((dats m 0 c).before_in_eq_fetched 3 rfl (fun _ => rfl) (fun _ _ _ => rfl) (fun s => by rw [(a s).2.2.2.1]; unfold Dat.blockOf iblk; rw [dats_A]) t d).trans (by unfold Dat.fetched Dat.blockOf iblk; rw [dats_A]; rfl)
  · exact ((dats m 0 c).before_in_eq_fetched 4 rfl (fun _ => rfl) (fun _ _ _ => rfl) (fun s => by rw [(a s).2.2.2.2.1]; unfold Dat.blockOf iblk; rw [dats_A]) t d).trans (by unfold Dat.fetched Dat.blockOf iblk; rw [dats_A]; rfl)
  · exact ((dats m 0 c).before_in_eq_fetched 5 rfl (fun _ => rfl) (fun _ _ _ => rfl) (fun s => by rw [(a s).2.2.2.2.2]; unfold Dat.blockOf iblk; rw [dats_A]) t d).trans (by unfold Dat.fetched Dat.blockOf iblk; rw [dats_A]; rfl)

/-! ## A point -/

/-- What the body is called with. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)))

/-- And what it gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t)
    ∗ owns (c : Thread nD τ) (st0_8 t) fullShare ((dats m 0 c).after 8 t))

theorem point (c : Dev nD) (t : Fin cfg0.N) :
    pre m c t ⊢ wp frame (wpE (defs₀ (F := F)) Variants.none c none) Set.univ (bodyAt0 t) (fun _ => post m c t) := by
  obtain ⟨b0, b1, b2, b3, b4, b5⟩ := before_in m c t
  obtain ⟨a0, a1, a2, a3, a4, a5⟩ := after_in m c t
  unfold pre post bodyAt0
  simp only [b0, b1, b2, b3, b4, b5]
  rw [show (dats m 0 c).Φ t.succ = (dats m 0 c).Φ t.castSucc from rfl, show (dats m 0 c).owesAt () t.succ = (dats m 0 c).owesAt () t.castSucc from rfl,
    a0, a1, a2, a3, a4, a5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run (iblk m c 0 t) (iblk m c 1 t) (iblk m c 2 t) (iblk m c 3 t) (iblk m c 4 t) (iblk m c 5 t) c (grid0.coords t) _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem points (c : Dev nD) : BodyObligation (dats (F := F) m 0 c) (defs₀ (F := F)) Variants.none () Set.univ := fun t => by
  rw [bigSep_W0, bigSep_W0, body_row]
  exact triple_restated (point m c t) rfl .rfl fun _ => .rfl

/-! ## The run -/

set_option backward.isDefEq.respectTransparency.types false in
set_option maxHeartbeats 800000 in
/-- The run ends with every array at what the points leave in it, and every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (points m c).loose) (hshare := fun c => (dats m 0 c).share_full fun _ => rfl)
    (howed := fun _ _ => rfl) (V := V m) (hmain := enters m Variants.none) (hA := dats_A m) (hΦ := fun _ _ => rfl)

/-- A buffer that an input window stages ends as launched. -/
theorem kept_in (w : Fin cfg0.W) (hw : (cfg0.win w).isOut = false) (r : PUnit × MemSt nD τ sig (Elt F)) (h : Pipeline.FramePost cfgs (dats m) 0 (V m) r) (c : Dev nD)
    (hV : V m c (Pipeline.arrRef spec0 w) = m ((c : Thread nD τ).loc (Pipeline.arrRef spec0 w))) :
    r.2.mem ((c : Thread nD τ).loc (Pipeline.arrRef spec0 w)) = m ((c : Thread nD τ).loc (Pipeline.arrRef spec0 w)) :=
  ((h c).1 w).trans (((dats m 0 c).arrAt_in w hw _).trans ((dats_A m c w).trans hV))

/-- The three results as arrays, the arguments as launched, the counters at zero. -/
theorem whole : θ_run defs (onTc (τ := τ) (main (F := F))) ⟨m, fun _ => 0, ρ⟩ fun r => (∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_v6_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => ⟨(h.1 c).1 6, (h.1 c).1 7, (h.1 c).1 8,
      kept_in m 0 rfl r h.1 c (V_kept m c main_arg0 (by decide)),
      ((h.1 c).2 main_arg1 (Pipeline.mem_restRefs_of main_arg1 (by decide) (by decide))).trans (V_kept m c main_arg1 (by decide)),
      ((h.1 c).2 main_arg2 (Pipeline.mem_restRefs_of main_arg2 (by decide) (by decide))).trans (V_kept m c main_arg2 (by decide)),
      kept_in m 3 rfl r h.1 c (V_kept m c main_arg3 (by decide)),
      ((h.1 c).2 main_arg4 (Pipeline.mem_restRefs_of main_arg4 (by decide) (by decide))).trans (V_kept m c main_arg4 (by decide)),
      ((h.1 c).2 main_arg5 (Pipeline.mem_restRefs_of main_arg5 (by decide) (by decide))).trans (V_kept m c main_arg5 (by decide))⟩, h.2⟩)
    (launch m ρ)

/-- The same without the results. -/
theorem unchanged : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h.1 c).2.2.2, h.2⟩) (whole m ρ)

end Cert.Kernel6Ideal.ConvOut

end
-- ==== Proof.ConvOut.Value.lean ====
/- The convolution's output projection and the norm after it: the two results at an entry. -/
module

public import proofs.«01_k».proof.Proof.ConvOut.Frame
public import proofs.«01_k».proof.Proof.Ffn.Pay
public import Idealize.ShloMosaic.Lib.Pointwise

@[expose] public section

set_option maxRecDepth 16384

noncomputable section

namespace Cert.Kernel6Ideal.ConvOut

open Cert.Kernel6Ideal Cert.Kernel6Ideal.Gen
open Idealize.ShloMosaic Idealize.ShloMosaic.TcCoe Idealize.ShloMosaic.Tactic
open Idealize.SL Idealize.SL.RA
open Idealize.ShloMosaic.Pipeline (Dat Cfg Window)

open Cert.Kernel2Ideal.Ffn (rowNorm)

/-! ## The body at an entry -/

/-- One entry: the residual, the product and the bias. -/
def entry (x b : EReal) (a w : Fin 2048 → EReal) : EReal :=
  x + ((∑ k, a k * w k) + b)

section Pay

variable (x0 : Vec Ideal S512x2048 .bf16) (x1 : Vec Ideal S2048x2048 .bf16) (x2 : Vec Ideal S1x2048 .f32) (x3 : Vec Ideal S512x2048 .f32) (x4 : Vec Ideal S1x2048 .f32)

/-- The entry of a block's row. -/
def line (r : Fin 512) (d : Fin 2048) : EReal :=
  entry (x3 (ix2 r d)) (x2 (ix2 0 d)) (fun k => x0 (ix2 r k)) (fun k => x1 (ix2 k d))

theorem top_apply (x : Vec Ideal S512x2048 .f32) (r : Fin 256) (d : Fin 2048) : top x (ix2 r d) = x (ix2 ⟨r.val, by omega⟩ d) :=
  congrArg x (funext fun a => by fin_cases a <;> apply Fin.ext <;> simp)

theorem low_apply (x : Vec Ideal S512x2048 .f32) (r : Fin 256) (d : Fin 2048) : low x (ix2 r d) = x (ix2 ⟨256 + r.val, by omega⟩ d) :=
  congrArg x (funext fun a => by fin_cases a <;> apply Fin.ext <;> simp)

theorem pay1_apply (r : Fin 512) (d : Fin 2048) : k0_pay1 x0 x1 (ix2 r d) = (∑ k : Fin 2048, x0 (ix2 r k) * x1 (ix2 k d) : EReal) := by
  pointwise [k0_pay1]

theorem pay2_apply (x y : Vec Ideal S256x2048 .f32) (b : Vec Ideal S1x2048 .f32) (r : Fin 256) (d : Fin 2048) :
    k0_pay2 x y b (ix2 r d) = (x (ix2 r d) + (y (ix2 r d) + b (ix2 0 d)) : EReal) := by
  have h : k0_pay2 x y b (ix2 r d) = (x (ix2 r d) + y (ix2 r d) + b (ix2 0 d) : EReal) := by
    pointwise [k0_pay2]
  exact h.trans (add_assoc _ _ _)

theorem resTop_apply (r : Fin 256) (d : Fin 2048) : resTop x0 x1 x2 x3 (ix2 r d) = line x0 x1 x2 x3 ⟨r.val, by omega⟩ d := by
  unfold resTop
  rw [pay2_apply, top_apply, top_apply, pay1_apply]
  rfl

theorem resLow_apply (r : Fin 256) (d : Fin 2048) : resLow x0 x1 x2 x3 (ix2 r d) = line x0 x1 x2 x3 ⟨256 + r.val, by omega⟩ d := by
  unfold resLow
  refine (pay2_apply _ _ _ r d).trans ?_
  rw [low_apply, low_apply, pay1_apply]
  rfl

theorem pay3_apply (x y : Vec Ideal S256x2048 .f32) (b g : Vec Ideal S1x2048 .f32) (r : Fin 256) (d : Fin 2048) :
    k0_pay3 x y b g (ix2 r d) = rowNorm (fun q => k0_pay2 x y b (ix2 r q)) (g (ix2 0 d)) d := by
  unfold rowNorm
  pointwise [k0_pay3, k0_pay2]

theorem normTop_apply (r : Fin 256) (d : Fin 2048) :
    normTop x0 x1 x2 x3 x4 (ix2 r d) = rowNorm (line x0 x1 x2 x3 ⟨r.val, by omega⟩) (x4 (ix2 0 d)) d := by
  unfold normTop
  rw [pay3_apply]
  exact congrArg (fun y => rowNorm y (x4 (ix2 0 d)) d) (funext fun q => resTop_apply x0 x1 x2 x3 r q)

theorem normLow_apply (r : Fin 256) (d : Fin 2048) :
    normLow x0 x1 x2 x3 x4 (ix2 r d) = rowNorm (line x0 x1 x2 x3 ⟨256 + r.val, by omega⟩) (x4 (ix2 0 d)) d := by
  have h : normLow x0 x1 x2 x3 x4 = k0_pay3 (low x3) (low (k0_pay1 x0 x1)) x2 x4 := rfl
  rw [h, pay3_apply]
  exact congrArg (fun y => rowNorm y (x4 (ix2 0 d)) d) (funext fun q => resLow_apply x0 x1 x2 x3 r q)

theorem out6_apply (r : Fin 512) (d : Fin 2048) : out6 x0 x1 x2 x3 (ix2 r d) = line x0 x1 x2 x3 r d := by
  by_cases h : r.val < 256
  · refine (dif_pos h).trans ?_
    exact resTop_apply x0 x1 x2 x3 ⟨r.val, h⟩ d
  · refine (dif_neg h).trans ?_
    refine (resLow_apply x0 x1 x2 x3 ⟨r.val - 256, by omega⟩ d).trans ?_
    exact congrArg (fun q => line x0 x1 x2 x3 q d) (Fin.ext (by show 256 + (r.val - 256) = r.val; omega))

/-- The norm's block: row `r` holds the piece `r % 16` of the norm of row `r / 16`. -/
theorem cut_apply (r : Fin 8192) (l : Fin 128) :
    cut (normTop x0 x1 x2 x3 x4) (normLow x0 x1 x2 x3 x4) (ix2 r l)
      = rowNorm (line x0 x1 x2 x3 ⟨r.val / 16, by omega⟩) (x4 (ix2 0 ⟨r.val % 16 * 128 + l.val, by omega⟩)) ⟨r.val % 16 * 128 + l.val, by omega⟩ := by
  by_cases h : r.val < 4096
  · refine (dif_pos h).trans ?_
    exact normTop_apply x0 x1 x2 x3 x4 ⟨r.val / 16, by omega⟩ ⟨r.val % 16 * 128 + l.val, by omega⟩
  · refine (dif_neg h).trans ?_
    refine (normLow_apply x0 x1 x2 x3 x4 ⟨(r.val - 4096) / 16, by omega⟩ ⟨(r.val - 4096) % 16 * 128 + l.val, by omega⟩).trans ?_
    have e0 : (⟨256 + (r.val - 4096) / 16, by omega⟩ : Fin 512) = ⟨r.val / 16, by omega⟩ := Fin.ext (by show 256 + (r.val - 4096) / 16 = r.val / 16; omega)
    have e1 : (⟨(r.val - 4096) % 16 * 128 + l.val, by omega⟩ : Fin 2048) = ⟨r.val % 16 * 128 + l.val, by omega⟩ := Fin.ext (by show (r.val - 4096) % 16 * 128 + l.val = r.val % 16 * 128 + l.val; omega)
    exact congrArg₂ (fun q e => rowNorm (line x0 x1 x2 x3 q) (x4 (ix2 0 e)) e) e0 e1

end Pay

variable (m : (ℓ : Loc nD τ sig) → Buf (Elt Ideal) ℓ)

/-! ## What the region finds -/

theorem V_v3 (c : Dev nD) : V m c main_v3 = truncf (F := Ideal) .bf16 (m ((c : Thread nD τ).loc main_arg1) : FVec Ideal S2048x2048 .f32) bitsLt_bf16_f32 := by
  unfold V hostOps0
  after_results <;> rfl

theorem V_v4 (c : Dev nD) : V m c main_v4 = shapeCast S1x2048 (m ((c : Thread nD τ).loc main_arg2) : Vec Ideal S2048 .f32) shapeCasts_S2048_S1x2048 := by
  unfold V hostOps0
  after_results <;> rfl

theorem V_v5 (c : Dev nD) : V m c main_v5 = shapeCast S1x2048 (m ((c : Thread nD τ).loc main_arg4) : Vec Ideal S2048 .f32) shapeCasts_S2048_S1x2048 := by
  unfold V hostOps0
  after_results <;> rfl

theorem cast_apply (x : Vec Ideal S2048x2048 .f32) (h : Fin 2048) (q : Fin 2048) : truncf (F := Ideal) .bf16 x bitsLt_bf16_f32 (ix2 h q) = (x (ix2 h q) : EReal) := by
  pointwise []

theorem flat_apply (x : Vec Ideal S2048 .f32) (d : Fin 2048) : shapeCast S1x2048 x shapeCasts_S2048_S1x2048 (ix2 0 d) = x (ix1 d) := by
  pointwise []

/-! ## The blocks -/

theorem lt_N (t : Fin cfg0.N) : t.val < 32 := by
  have h : cfg0.N = 32 := N_0
  have := t.isLt
  omega

/-- The rows' windows follow the point. -/
theorem idx_rows : ∀ t : Fin cfg0.N, ((win0 0).index t 0 = t.val ∧ (win0 0).index t 1 = 0) ∧ ((win0 3).index t 0 = t.val ∧ (win0 3).index t 1 = 0)
      ∧ ((win0 6).index t 0 = t.val ∧ (win0 6).index t 1 = 0) ∧ ((win0 7).index t 0 = t.val ∧ (win0 7).index t 1 = 0) :=
  (by decide +kernel : ∀ t : Fin grid0.N, ((win0 0).index t 0 = t.val ∧ (win0 0).index t 1 = 0) ∧ ((win0 3).index t 0 = t.val ∧ (win0 3).index t 1 = 0)
      ∧ ((win0 6).index t 0 = t.val ∧ (win0 6).index t 1 = 0) ∧ ((win0 7).index t 0 = t.val ∧ (win0 7).index t 1 = 0))

/-- The weights', the bias's and the gain's do not move. -/
theorem idx_still : ∀ t : Fin cfg0.N, ((win0 1).index t 0 = 0 ∧ (win0 1).index t 1 = 0) ∧ ((win0 2).index t 0 = 0 ∧ (win0 2).index t 1 = 0) ∧ ((win0 4).index t 0 = 0 ∧ (win0 4).index t 1 = 0) :=
  (by decide +kernel : ∀ t : Fin grid0.N, ((win0 1).index t 0 = 0 ∧ (win0 1).index t 1 = 0) ∧ ((win0 2).index t 0 = 0 ∧ (win0 2).index t 1 = 0) ∧ ((win0 4).index t 0 = 0 ∧ (win0 4).index t 1 = 0))

/-- The row of the whole array that a block's row is. -/
abbrev rowOf (t : Fin cfg0.N) (r : Fin 512) : Fin 16384 := ⟨t.val * 512 + r.val, by have := lt_N t; omega⟩

theorem blk0 (c : Dev nD) (t : Fin cfg0.N) (r : Fin 512) (k : Fin 2048) : iblk m c 0 t (ix2 r k) = (m ((c : Thread nD τ).loc main_arg0) : Vec Ideal S16384x2048 .bf16) (ix2 (rowOf t r) k) := by
  obtain ⟨e0, e1⟩ := (idx_rows t).1
  unfold iblk
  rw [View.read_apply]
  show V m c main_arg0 _ = _
  rw [V_kept m c main_arg0 (by decide)]
  show (m ((c : Thread nD τ).loc main_arg0) : Vec Ideal S16384x2048 .bf16) _ = _
  congr 1
  funext x; apply Fin.ext; fin_cases x
  · refine (Pipeline.Window.rect_emb_val (win0 0) t (ix2 r k) (0 : Fin 2)).trans ?_
    show (win0 0).index t 0 * 512 + r.val = t.val * 512 + r.val
    rw [e0]
  · refine (Pipeline.Window.rect_emb_val (win0 0) t (ix2 r k) (1 : Fin 2)).trans ?_
    show (win0 0).index t 1 * 2048 + k.val = k.val
    rw [e1]; omega

theorem blk3 (c : Dev nD) (t : Fin cfg0.N) (r : Fin 512) (d : Fin 2048) : iblk m c 3 t (ix2 r d) = (m ((c : Thread nD τ).loc main_arg3) : Vec Ideal S16384x2048 .f32) (ix2 (rowOf t r) d) := by
  obtain ⟨e0, e1⟩ := (idx_rows t).2.1
  unfold iblk
  rw [View.read_apply]
  show V m c main_arg3 _ = _
  rw [V_kept m c main_arg3 (by decide)]
  show (m ((c : Thread nD τ).loc main_arg3) : Vec Ideal S16384x2048 .f32) _ = _
  congr 1
  funext x; apply Fin.ext; fin_cases x
  · refine (Pipeline.Window.rect_emb_val (win0 3) t (ix2 r d) (0 : Fin 2)).trans ?_
    show (win0 3).index t 0 * 512 + r.val = t.val * 512 + r.val
    rw [e0]
  · refine (Pipeline.Window.rect_emb_val (win0 3) t (ix2 r d) (1 : Fin 2)).trans ?_
    show (win0 3).index t 1 * 2048 + d.val = d.val
    rw [e1]; omega

theorem blk1 (c : Dev nD) (t : Fin cfg0.N) (k d : Fin 2048) : iblk m c 1 t (ix2 k d) = (m ((c : Thread nD τ).loc main_arg1) : Vec Ideal S2048x2048 .f32) (ix2 k d) := by
  obtain ⟨e0, e1⟩ := (idx_still t).1
  refine Eq.trans ?_ (cast_apply (m ((c : Thread nD τ).loc main_arg1)) k d)
  unfold iblk
  rw [View.read_apply]
  show V m c main_v3 _ = _
  rw [V_v3]
  congr 1
  funext x; apply Fin.ext; fin_cases x
  · refine (Pipeline.Window.rect_emb_val (win0 1) t (ix2 k d) (0 : Fin 2)).trans ?_
    show (win0 1).index t 0 * 2048 + k.val = k.val
    rw [e0]; omega
  · refine (Pipeline.Window.rect_emb_val (win0 1) t (ix2 k d) (1 : Fin 2)).trans ?_
    show (win0 1).index t 1 * 2048 + d.val = d.val
    rw [e1]; omega

theorem blk2 (c : Dev nD) (t : Fin cfg0.N) (d : Fin 2048) : iblk m c 2 t (ix2 0 d) = (m ((c : Thread nD τ).loc main_arg2) : Vec Ideal S2048 .f32) (ix1 d) := by
  obtain ⟨e0, e1⟩ := (idx_still t).2.1
  refine Eq.trans ?_ (flat_apply (m ((c : Thread nD τ).loc main_arg2)) d)
  unfold iblk
  rw [View.read_apply]
  show V m c main_v4 _ = _
  rw [V_v4]
  congr 1
  funext x; apply Fin.ext; fin_cases x
  · refine (Pipeline.Window.rect_emb_val (win0 2) t (ix2 0 d) (0 : Fin 2)).trans ?_
    show (win0 2).index t 0 * 1 + 0 = 0
    rw [e0]
  · refine (Pipeline.Window.rect_emb_val (win0 2) t (ix2 0 d) (1 : Fin 2)).trans ?_
    show (win0 2).index t 1 * 2048 + d.val = d.val
    rw [e1]; omega

theorem blk4 (c : Dev nD) (t : Fin cfg0.N) (d : Fin 2048) : iblk m c 4 t (ix2 0 d) = (m ((c : Thread nD τ).loc main_arg4) : Vec Ideal S2048 .f32) (ix1 d) := by
  obtain ⟨e0, e1⟩ := (idx_still t).2.2
  refine Eq.trans ?_ (flat_apply (m ((c : Thread nD τ).loc main_arg4)) d)
  unfold iblk
  rw [View.read_apply]
  show V m c main_v5 _ = _
  rw [V_v5]
  congr 1
  funext x; apply Fin.ext; fin_cases x
  · refine (Pipeline.Window.rect_emb_val (win0 4) t (ix2 0 d) (0 : Fin 2)).trans ?_
    show (win0 4).index t 0 * 1 + 0 = 0
    rw [e0]
  · refine (Pipeline.Window.rect_emb_val (win0 4) t (ix2 0 d) (1 : Fin 2)).trans ?_
    show (win0 4).index t 1 * 2048 + d.val = d.val
    rw [e1]; omega

/-- The first result at an entry, from the arguments. -/
def first (c : Dev nD) (R : Fin 16384) (d : Fin 2048) : EReal :=
  entry ((m ((c : Thread nD τ).loc main_arg3) : Vec Ideal S16384x2048 .f32) (ix2 R d)) ((m ((c : Thread nD τ).loc main_arg2) : Vec Ideal S2048 .f32) (ix1 d))
    (fun k => (m ((c : Thread nD τ).loc main_arg0) : Vec Ideal S16384x2048 .bf16) (ix2 R k)) (fun k => (m ((c : Thread nD τ).loc main_arg1) : Vec Ideal S2048x2048 .f32) (ix2 k d))

/-- The second: row `R` of it is a piece of the norm of the first result's row `R / 16`. -/
def second (c : Dev nD) (R : Fin 262144) (l : Fin 128) : EReal :=
  rowNorm (first m c ⟨R.val / 16, by omega⟩) ((m ((c : Thread nD τ).loc main_arg4) : Vec Ideal S2048 .f32) (ix1 ⟨R.val % 16 * 128 + l.val, by omega⟩)) ⟨R.val % 16 * 128 + l.val, by omega⟩

theorem line_point (c : Dev nD) (t : Fin cfg0.N) (r : Fin 512) (d : Fin 2048) :
    line (iblk m c 0 t) (iblk m c 1 t) (iblk m c 2 t) (iblk m c 3 t) r d = first m c (rowOf t r) d := by
  unfold line first
  exact congr (congr (congr (congrArg entry (blk3 m c t r d)) (blk2 m c t d)) (funext fun k => blk0 m c t r k)) (funext fun k => blk1 m c t k d)

theorem first_point (c : Dev nD) (t : Fin cfg0.N) (r : Fin 512) (d : Fin 2048) : res m c t (ix2 r d) = first m c (rowOf t r) d :=
  (out6_apply _ _ _ _ r d).trans (line_point m c t r d)

theorem second_point (c : Dev nD) (t : Fin cfg0.N) (r : Fin 8192) (l : Fin 128) :
    nrm m c t (ix2 r l) = second m c ⟨t.val * 8192 + r.val, by have := lt_N t; omega⟩ l := by
  refine (cut_apply _ _ _ _ _ r l).trans ?_
  unfold second
  have h0 : rowOf t ⟨r.val / 16, by omega⟩ = ⟨(t.val * 8192 + r.val) / 16, by have := lt_N t; omega⟩ :=
    Fin.ext (by show t.val * 512 + r.val / 16 = (t.val * 8192 + r.val) / 16; omega)
  have h1 : (⟨r.val % 16 * 128 + l.val, by omega⟩ : Fin 2048) = ⟨(t.val * 8192 + r.val) % 16 * 128 + l.val, by omega⟩ :=
    Fin.ext (by show r.val % 16 * 128 + l.val = (t.val * 8192 + r.val) % 16 * 128 + l.val; omega)
  have h2 := congr (congrArg rowNorm (funext fun q => line_point m c t ⟨r.val / 16, by omega⟩ q)) (blk4 m c t ⟨r.val % 16 * 128 + l.val, by omega⟩)
  refine (congrFun h2 _).trans ?_
  exact congrArg₂ (fun R d => rowNorm (first m c R) ((m ((c : Thread nD τ).loc main_arg4) : Vec Ideal S2048 .f32) (ix1 d)) d) h0 h1

/-! ## The two arrays -/

theorem mem_blk6 (t : Fin cfg0.N) (j : S16384x2048.Idx) :
    j ∈ ((cfg0.win 6).blk t).view.set
      ↔ ∀ x : Fin 2, (win0 6).index t x * S512x2048.size x ≤ (j x).val ∧ (j x).val < (win0 6).index t x * S512x2048.size x + S512x2048.size x := by
  show j ∈ ((View.whole main_v6_0).slice ((win0 6).rect t)).set ↔ _
  rw [View.set_slice_whole, Rect.mem_set_unit]; exact Iff.rfl

theorem mem_blk7 (t : Fin cfg0.N) (j : S262144x128.Idx) :
    j ∈ ((cfg0.win 7).blk t).view.set
      ↔ ∀ x : Fin 2, (win0 7).index t x * S8192x128.size x ≤ (j x).val ∧ (j x).val < (win0 7).index t x * S8192x128.size x + S8192x128.size x := by
  show j ∈ ((View.whole main_v6_1).slice ((win0 7).rect t)).set ↔ _
  rw [View.set_slice_whole, Rect.mem_set_unit]; exact Iff.rfl

theorem arr6_apply (c : Dev nD) (R : Fin 16384) (d : Fin 2048) :
    ((dats m 0 c).arrAt 6 cfg0.N : Vec Ideal S16384x2048 .f32) (ix2 R d) = first m c R d := by
  have hN : cfg0.N = 32 := N_0
  have hN' : grid0.N = 32 := N_0
  refine (dats m 0 c).arrAt_forall_of_flushed 6
    (fun (j : S16384x2048.Idx) (v : EReal) => j = ix2 R d → v = first m c R d)
    (fun t hf y hy => ?_) cfg0.N ⟨R.val / 512, by omega⟩ (ix2 R d) (by show R.val / 512 < _; omega) (flush0_6 _) ?_ rfl
  · obtain ⟨e0, e1⟩ := (idx_rows t).2.2.1
    obtain ⟨y0, y1, rfl⟩ : ∃ (y0 : Fin 512) (y1 : Fin 2048), y = ix2 y0 y1 := ⟨y 0, y 1, eq_ix2 y⟩
    have h0 : (win0 6).index t 0 * 512 + y0.val = R.val :=
      (Pipeline.Window.rect_emb_val (win0 6) t (ix2 y0 y1) (0 : Fin 2)).symm.trans (congrArg (fun j : S16384x2048.Idx => (j 0).val) hy)
    have h1 : (win0 6).index t 1 * 2048 + y1.val = d.val :=
      (Pipeline.Window.rect_emb_val (win0 6) t (ix2 y0 y1) (1 : Fin 2)).symm.trans (congrArg (fun j : S16384x2048.Idx => (j 1).val) hy)
    rw [e0] at h0
    rw [e1] at h1
    have eR : rowOf t y0 = R := Fin.ext h0
    have ed : y1 = d := Fin.ext (by omega)
    subst ed
    have hv := first_point m c t y0 y1
    rw [eR] at hv
    rw [show (dats m 0 c).flushed 6 t = (cfg0.win 6).cut (grid0.coords t) ((dats m 0 c).after 6 t) from rfl, after6, cast_eq]
    exact hv
  · obtain ⟨e0, e1⟩ := (idx_rows ⟨R.val / 512, by omega⟩).2.2.1
    rw [mem_blk6]
    refine Fin.forall_fin_two.mpr ⟨?_, ?_⟩
    · show (win0 6).index _ 0 * 512 ≤ R.val ∧ R.val < (win0 6).index _ 0 * 512 + 512
      rw [e0]
      show (R.val / 512) * 512 ≤ R.val ∧ R.val < (R.val / 512) * 512 + 512
      omega
    · show (win0 6).index _ 1 * 2048 ≤ d.val ∧ d.val < (win0 6).index _ 1 * 2048 + 2048
      rw [e1]
      show 0 * 2048 ≤ d.val ∧ d.val < 0 * 2048 + 2048
      omega

theorem arr7_apply (c : Dev nD) (R : Fin 262144) (l : Fin 128) :
    ((dats m 0 c).arrAt 7 cfg0.N : Vec Ideal S262144x128 .f32) (ix2 R l) = second m c R l := by
  have hN : cfg0.N = 32 := N_0
  have hN' : grid0.N = 32 := N_0
  refine (dats m 0 c).arrAt_forall_of_flushed 7
    (fun (j : S262144x128.Idx) (v : EReal) => j = ix2 R l → v = second m c R l)
    (fun t hf y hy => ?_) cfg0.N ⟨R.val / 8192, by omega⟩ (ix2 R l) (by show R.val / 8192 < _; omega) (flush0_7 _) ?_ rfl
  · obtain ⟨e0, e1⟩ := (idx_rows t).2.2.2
    obtain ⟨y0, y1, rfl⟩ : ∃ (y0 : Fin 8192) (y1 : Fin 128), y = ix2 y0 y1 := ⟨y 0, y 1, eq_ix2 y⟩
    have h0 : (win0 7).index t 0 * 8192 + y0.val = R.val :=
      (Pipeline.Window.rect_emb_val (win0 7) t (ix2 y0 y1) (0 : Fin 2)).symm.trans (congrArg (fun j : S262144x128.Idx => (j 0).val) hy)
    have h1 : (win0 7).index t 1 * 128 + y1.val = l.val :=
      (Pipeline.Window.rect_emb_val (win0 7) t (ix2 y0 y1) (1 : Fin 2)).symm.trans (congrArg (fun j : S262144x128.Idx => (j 1).val) hy)
    rw [e0] at h0
    rw [e1] at h1
    have eR : (⟨t.val * 8192 + y0.val, h0 ▸ R.isLt⟩ : Fin 262144) = R := Fin.ext h0
    have ed : y1 = l := Fin.ext (by omega)
    subst ed
    have hv := second_point m c t y0 y1
    rw [eR] at hv
    rw [show (dats m 0 c).flushed 7 t = (cfg0.win 7).cut (grid0.coords t) ((dats m 0 c).after 7 t) from rfl, after7, cast_eq]
    exact hv
  · obtain ⟨e0, e1⟩ := (idx_rows ⟨R.val / 8192, by omega⟩).2.2.2
    rw [mem_blk7]
    refine Fin.forall_fin_two.mpr ⟨?_, ?_⟩
    · show (win0 7).index _ 0 * 8192 ≤ R.val ∧ R.val < (win0 7).index _ 0 * 8192 + 8192
      rw [e0]
      show (R.val / 8192) * 8192 ≤ R.val ∧ R.val < (R.val / 8192) * 8192 + 8192
      omega
    · show (win0 7).index _ 1 * 128 ≤ l.val ∧ l.val < (win0 7).index _ 1 * 128 + 128
      rw [e1]
      show 0 * 128 ≤ l.val ∧ l.val < 0 * 128 + 128
      omega

end Cert.Kernel6Ideal.ConvOut

end
-- ==== Proof.MlaProj.Pay.lean ====
/- The attention's projections: what the kernel's values hold at an entry of a block. -/
module

public import proofs.«01_k».proof.Proof.Gen.Kernel7Ideal.Value
public import Idealize.ShloMosaic.Lib.Pointwise

@[expose] public section

set_option maxRecDepth 16384

noncomputable section

namespace Cert.Kernel7Ideal.MlaProj

open Cert.Kernel7Ideal Cert.Kernel7Ideal.Gen
open Idealize.ShloMosaic

/-- One entry of the norm of a row of 512: the row over the root of its mean square, times the gain. -/
def rowNorm (y : Fin 512 → EReal) (g : EReal) (d : Fin 512) : EReal :=
  y d * Ideal.rsqrt (Ideal.div (∑ x, y x * y x) (Ideal.ofBits FTy.f32 1140850688#32) + Ideal.ofBits FTy.f32 897988541#32) * g

/-- A row normed and multiplied by a column. -/
def normDot (y g w : Fin 512 → EReal) : EReal := ∑ i, rowNorm y (g i) i * w i

/-- The factor on the queries. -/
def qScale : EReal := Ideal.ofBits FTy.f32 1037384597#32

theorem pay4_apply (x0 : Vec Ideal S512x2048 .bf16) (x3 : Vec Ideal S2048x1152 .bf16) (r : Fin 512) (d : Fin 1152) :
    k0_pay4 x0 x3 (ix2 r d) = (∑ k : Fin 2048, x0 (ix2 r k) * x3 (ix2 k d) : EReal) := by
  pointwise [k0_pay4]

/-- A position's angle at a frequency. -/
def angle (p : BitVec 32) (f : EReal) : EReal := FloatOps.sitofp (F := Ideal) FTy.f32 p * f

theorem lane_lt : ∀ e : Fin 64, IntOp.cmpi CmpIPredicate.slt (BitVec.ofNat 32 e.val) 64#32 = 1#1 := by decide

theorem lane_ge : ∀ e : Fin 64, IntOp.cmpi CmpIPredicate.slt (BitVec.ofNat 32 (64 + e.val)) 64#32 = 0#1 := by decide

theorem tab_cos (x1 : Vec Ideal S512x1 .i32) (x2 : Vec Ideal S1x128 .f32) (r : Fin 512) (e : Fin 64) :
    k0_pay5 (F := Ideal) x1 x2 (ix2 r ⟨e.val, by omega⟩) = Ideal.cos (angle (x1 (ix2 r 0)) (x2 (ix2 0 ⟨e.val, by omega⟩))) := by
  unfold angle
  pointwise [k0_pay5]
  rw [lane_lt]
  rfl

theorem tab_sin (x1 : Vec Ideal S512x1 .i32) (x2 : Vec Ideal S1x128 .f32) (r : Fin 512) (e : Fin 64) :
    k0_pay5 (F := Ideal) x1 x2 (ix2 r ⟨64 + e.val, by omega⟩) = Ideal.sin (angle (x1 (ix2 r 0)) (x2 (ix2 0 ⟨64 + e.val, by omega⟩))) := by
  unfold angle
  pointwise [k0_pay5]
  rw [lane_ge]
  rfl

theorem pay6_apply (x0 : Vec Ideal S512x2048 .bf16) (x3 : Vec Ideal S2048x1152 .bf16) (g : Vec Ideal S1x512 .f32) (w : Vec Ideal S512x2048 .bf16) (r : Fin 512) (d : Fin 2048) :
    k0_pay6 x0 x3 g w (ix2 r d)
      = normDot (fun j => k0_pay4 x0 x3 (ix2 r ⟨j.val, by omega⟩)) (fun i => g (ix2 0 i)) (fun i => w (ix2 i d)) * qScale := by
  unfold normDot rowNorm qScale
  pointwise [k0_pay6]

theorem pay28_apply (P : Vec Ideal S512x1152 .f32) (g : Vec Ideal S1x512 .f32) (w : Vec Ideal S512x2048 .bf16) (r : Fin 512) (d : Fin 2048) :
    k0_pay28 (k0_pay25 P) (k0_pay26 g) (k0_pay27 P) w (ix2 r d)
      = normDot (fun j => P (ix2 r ⟨512 + j.val, by omega⟩)) (fun i => g (ix2 0 i)) (fun i => w (ix2 i d)) := by
  unfold normDot rowNorm
  pointwise [k0_pay25, k0_pay26, k0_pay27, k0_pay28]

theorem pay29_left (P : Vec Ideal S512x1152 .f32) (T : Vec Ideal S512x128 .f32) (r : Fin 512) (e : Fin 64) :
    k0_pay29 (F := Ideal) P T (ix2 r ⟨e.val, by omega⟩)
      = (P (ix2 r ⟨1024 + e.val, by omega⟩) * T (ix2 r ⟨e.val, by omega⟩) + P (ix2 r ⟨1088 + e.val, by omega⟩) * T (ix2 r ⟨64 + e.val, by omega⟩) : EReal) := by
  have h : (e.val + 128 - 64) % 128 = 64 + e.val := by omega
  have h' : 1024 + (64 + e.val) = 1088 + e.val := by omega
  pointwise [k0_pay29]
  simp only [h, h']

theorem pay29_right (P : Vec Ideal S512x1152 .f32) (T : Vec Ideal S512x128 .f32) (r : Fin 512) (e : Fin 64) :
    k0_pay29 (F := Ideal) P T (ix2 r ⟨64 + e.val, by omega⟩)
      = (P (ix2 r ⟨1024 + e.val, by omega⟩) * T (ix2 r ⟨e.val, by omega⟩) + P (ix2 r ⟨1088 + e.val, by omega⟩) * T (ix2 r ⟨64 + e.val, by omega⟩) : EReal) := by
  refine Eq.trans ?_ (add_comm _ _)
  have h : (64 + e.val + 128 - 64) % 128 = e.val := by omega
  have h' : 1024 + (64 + e.val) = 1088 + e.val := by omega
  pointwise [k0_pay29]
  simp only [h, h']

end Cert.Kernel7Ideal.MlaProj

end
-- ==== Proof.MlaProj.Spec.lean ====
/- The attention's projections: the three results at an entry, from the arguments. -/
module

public import proofs.«01_k».proof.Proof.MlaProj.Pay

@[expose] public section

set_option maxRecDepth 16384

noncomputable section

namespace Cert.Kernel7Ideal.MlaProj

open Cert.Kernel7Ideal Cert.Kernel7Ideal.Gen
open Idealize.ShloMosaic

/-- The 32 frequencies of the rotary embedding: ten thousand to the power `-2j / 64`. -/
def freqs : FVec Ideal S32 .f32 :=
  Host.powf (broadcastInDim S32 ![] bcast_S_S32 (constant (F := Ideal) S_ .f32 0x461C4000#32))
    (Host.divf (Host.negf (addf (broadcastInDim S32 ![] bcast_S_S32 (constant (F := Ideal) S_ .f32 0x00000000#32))
      (mulf (broadcastInDim S32 ![] bcast_S_S32 (constant (F := Ideal) S_ .f32 0x40000000#32)) (sitofp .f32 (iotaInDim S32 32 0)))))
      (broadcastInDim S32 ![] bcast_S_S32 (constant (F := Ideal) S_ .f32 0x42800000#32)))

variable (h : FVec Ideal S16384x2048 .bf16) (p : IVec S2x8192 32) (w : FVec Ideal S2048x4416 .f32) (qg : FVec Ideal S512 .f32) (wq : FVec Ideal S512x1536 .f32) (kg : FVec Ideal S512 .f32) (wkv : FVec Ideal S512x2048 .f32)

/-- The shared key's columns of the weight. -/
def keyCols : FVec Ideal S2048x64 .f32 := extractStridedSlice S2048x64 ![0, 4352] w slices_S2048x4416_S2048x64_0_4352

/-- Those columns turned by a quarter: the second half negated, before the first. -/
def turnK : FVec Ideal S2048x64 .f32 :=
  concatenate S2048x64 1 [⟨S2048x32, Host.negf (extractStridedSlice S2048x32 ![0, 32] (keyCols w) slices_S2048x64_S2048x32_0_32)⟩, ⟨S2048x32, extractStridedSlice S2048x32 ![0, 0] (keyCols w) slices_S2048x64_S2048x32_0_0⟩] concatenates_S2048x32_S2048x32_S2048x64_d1

/-- The queries' weight, head by head. -/
def headQ : FVec Ideal S512x8x192 .f32 := shapeCast S512x8x192 wq shapeCasts_S512x1536_S512x8x192

/-- Each head's 64 rotary columns. -/
def ropeQ : FVec Ideal S512x8x64 .f32 := extractStridedSlice S512x8x64 ![0, 0, 128] (headQ wq) slices_S512x8x192_S512x8x64_0_0_128

/-- Those columns turned by a quarter. -/
def turnQ : FVec Ideal S512x8x64 .f32 :=
  concatenate S512x8x64 2 [⟨S512x8x32, Host.negf (extractStridedSlice S512x8x32 ![0, 0, 32] (ropeQ wq) slices_S512x8x64_S512x8x32_0_0_32)⟩, ⟨S512x8x32, extractStridedSlice S512x8x32 ![0, 0, 0] (ropeQ wq) slices_S512x8x64_S512x8x32_0_0_0⟩] concatenates_S512x8x32_S512x8x32_S512x8x64_d2

/-- A row of the input against a column of the weight. -/
def proj (R : Fin 16384) (c : Fin 4416) : EReal := ∑ k : Fin 2048, h (ix2 R k) * w (ix2 k c)

/-- And against a turned column of the shared key. -/
def projTurn (R : Fin 16384) (e : Fin 64) : EReal := ∑ k : Fin 2048, h (ix2 R k) * turnK w (ix2 k e)

/-- A row's angle at a lane of the 64. -/
def ang (R : Fin 16384) (e : Fin 64) : EReal :=
  angle (p (ix2 ⟨R.val / 8192, by omega⟩ ⟨R.val % 8192, by omega⟩)) (freqs (ix1 ⟨e.val % 32, by omega⟩))

/-- A query's entry. -/
def qPlain (R : Fin 16384) (hd : Fin 8) (l : Fin 192) : EReal :=
  normDot (fun j => proj h w R ⟨3328 + j.val, by omega⟩) (fun i => qg (ix1 i)) (fun i => wq (ix2 i ⟨hd.val * 192 + l.val, by omega⟩)) * qScale

/-- A turned query's entry. -/
def qTurn (R : Fin 16384) (hd : Fin 8) (e : Fin 64) : EReal :=
  normDot (fun j => proj h w R ⟨3328 + j.val, by omega⟩) (fun i => qg (ix1 i)) (fun i => turnQ wq (ix3 i hd e)) * qScale

/-- A key's or value's entry. -/
def kvAt (R : Fin 16384) (c : Fin 2048) : EReal :=
  normDot (fun j => proj h w R ⟨3840 + j.val, by omega⟩) (fun i => kg (ix1 i)) (fun i => wkv (ix2 i c))

/-- The shared key's entry, with its rotary embedding. -/
def kRope (R : Fin 16384) (e : Fin 64) : EReal :=
  proj h w R ⟨4352 + e.val, by omega⟩ * Ideal.cos (ang p R e) + projTurn h w R e * Ideal.sin (ang p R e)

end Cert.Kernel7Ideal.MlaProj

end
-- ==== Proof.MlaProj.Fine.lean ====
/- Sums of finite extended reals: their negatives, and the norm of a row of them. -/
module

public import proofs.«01_k».proof.Proof.MlaProj.Spec

@[expose] public section

noncomputable section

namespace Cert.Kernel7Ideal.MlaProj

open Cert.Kernel7Ideal Cert.Kernel7Ideal.Gen
open Idealize.ShloMosaic

/-- Neither infinity. -/
def Fine (x : EReal) : Prop := x ≠ ⊤ ∧ x ≠ ⊥

theorem Fine.real {x : EReal} (hx : Fine x) : ∃ r : ℝ, x = (r : EReal) := ⟨x.toReal, (EReal.coe_toReal hx.1 hx.2).symm⟩

theorem fine_coe (r : ℝ) : Fine (r : EReal) := ⟨EReal.coe_ne_top r, EReal.coe_ne_bot r⟩

theorem Fine.mul {x y : EReal} (hx : Fine x) (hy : Fine y) : Fine (x * y) := by
  obtain ⟨a, rfl⟩ := hx.real
  obtain ⟨b, rfl⟩ := hy.real
  rw [← EReal.coe_mul]
  exact fine_coe _

theorem Fine.add {x y : EReal} (hx : Fine x) (hy : Fine y) : Fine (x + y) := by
  obtain ⟨a, rfl⟩ := hx.real
  obtain ⟨b, rfl⟩ := hy.real
  rw [← EReal.coe_add]
  exact fine_coe _

theorem fine_sum {ι : Type} (s : Finset ι) (f : ι → EReal) (hf : ∀ i, Fine (f i)) : Fine (∑ i ∈ s, f i) :=
  Finset.sum_induction f Fine (fun _ _ => Fine.add) (fine_coe 0) fun i _ => hf i

/-- The negative of a sum of finite terms is the sum of the negatives. -/
theorem sum_neg {ι : Type} (s : Finset ι) (f : ι → EReal) (hf : ∀ i, Fine (f i)) : (∑ i ∈ s, -f i) = -∑ i ∈ s, f i := by
  classical
  induction s using Finset.induction_on with
  | empty => simp
  | insert i s hi ih =>
    rw [Finset.sum_insert hi, Finset.sum_insert hi, ih, EReal.neg_add (Or.inl (hf i).2) (Or.inl (hf i).1)]
    rfl

/-- An entry whose size is below infinity is finite. -/
theorem fine_of_below {x t : EReal} (ht : t = ⊤) (hx : Ideal.cmp .olt (max x (-x)) t = 1#1) : Fine x := by
  rw [ht] at hx
  unfold Ideal.cmp at hx
  have hlt : max x (-x) < ⊤ := by
    by_contra hn
    simp [hn] at hx
  rw [max_lt_iff] at hlt
  refine ⟨hlt.1.ne, fun hb => hlt.2.ne ?_⟩
  rw [hb]
  rfl

theorem fine_rsqrt {x : EReal} (hx : 0 < x) : Fine (Ideal.rsqrt x) := by
  induction x with
  | bot => exact absurd hx (by simp)
  | top => exact fine_coe 0
  | coe r =>
    have hr : 0 < r := EReal.coe_pos.mp hx
    show Fine (if r < 0 then ⊥ else if r = 0 then ⊤ else ((Real.sqrt r)⁻¹ : ℝ))
    rw [if_neg (not_lt.mpr hr.le), if_neg hr.ne']
    exact fine_coe _

theorem ofBits_512 : Ideal.ofBits FTy.f32 1140850688#32 = ((512 : ℝ) : EReal) := by
  simp [Ideal.ofBits, Ideal.ieee, -EReal.coe_mul]; norm_num

theorem ofBits_eps : (0 : EReal) < Ideal.ofBits FTy.f32 897988541#32 := by
  simp [Ideal.ofBits, Ideal.ieee, -EReal.coe_mul]

/-- A finite row over the root of its mean square, the count of its entries and the offset positive. -/
theorem fine_meanSquare {ι : Type} [Fintype ι] {y : ι → EReal} (hy : ∀ j, Fine (y j)) {n e : EReal} {r : ℝ} (hn : n = (r : EReal)) (hr : 0 < r) (he : 0 < e) :
    Fine (Ideal.rsqrt (Ideal.div (∑ x, y x * y x) n + e)) := by
  have h0 : (0 : EReal) ≤ ∑ x, y x * y x := Finset.sum_nonneg fun x _ => by
    obtain ⟨a, ha⟩ := (hy x).real
    rw [ha, ← EReal.coe_mul]
    exact EReal.coe_nonneg.mpr (mul_self_nonneg a)
  obtain ⟨b, hb⟩ := (fine_sum Finset.univ (fun x => y x * y x) fun x => (hy x).mul (hy x)).real
  have h1 : (0 : EReal) ≤ Ideal.div (∑ x, y x * y x) n := by
    rw [hb] at h0 ⊢
    rw [hn]
    unfold Ideal.div
    rw [if_neg (EReal.coe_pos.mpr hr).ne', ← EReal.coe_inv, ← EReal.coe_mul]
    exact EReal.coe_nonneg.mpr (mul_nonneg (EReal.coe_nonneg.mp h0) (inv_nonneg.mpr hr.le))
  exact fine_rsqrt (lt_of_lt_of_le he (le_add_of_nonneg_left h1))

/-- The norm of a finite row with a finite gain is finite. -/
theorem fine_rowNorm {y : Fin 512 → EReal} {g : EReal} (hy : ∀ j, Fine (y j)) (hg : Fine g) (d : Fin 512) : Fine (rowNorm y g d) :=
  ((hy d).mul (fine_meanSquare hy ofBits_512 (by norm_num) ofBits_eps)).mul hg

/-- A normed row against a negated column. -/
theorem normDot_neg {y g w : Fin 512 → EReal} (hy : ∀ j, Fine (y j)) (hg : ∀ j, Fine (g j)) (hw : ∀ j, Fine (w j)) :
    normDot y g (fun i => -w i) = -normDot y g w := by
  unfold normDot
  rw [← sum_neg _ _ fun i => (fine_rowNorm hy (hg i) i).mul (hw i)]
  exact Finset.sum_congr rfl fun i _ => mul_neg _ _

/-! ## The turned columns -/

variable (h : FVec Ideal S16384x2048 .bf16) (w : FVec Ideal S2048x4416 .f32) (qg : FVec Ideal S512 .f32) (wq : FVec Ideal S512x1536 .f32)

theorem turnK_early (k : Fin 2048) (j : Fin 32) : turnK w (ix2 k ⟨j.val, by omega⟩) = -w (ix2 k ⟨4384 + j.val, by omega⟩) := by
  pointwise [turnK, keyCols]
  exact congrArg (fun z => -w (ix2 k z)) (Fin.ext (by show 4352 + (32 + j.val) = 4384 + j.val; omega))

theorem turnK_late (k : Fin 2048) (j : Fin 32) : turnK w (ix2 k ⟨32 + j.val, by omega⟩) = w (ix2 k ⟨4352 + j.val, by omega⟩) := by
  pointwise [turnK, keyCols]

theorem turnQ_early (i : Fin 512) (hd : Fin 8) (j : Fin 32) : turnQ wq (ix3 i hd ⟨j.val, by omega⟩) = -wq (ix2 i ⟨hd.val * 192 + (160 + j.val), by omega⟩) := by
  pointwise [turnQ, ropeQ, headQ]
  exact congrArg (fun z => -wq (ix2 i z)) (Fin.ext (by show hd.val * 192 + (128 + (32 + j.val)) = hd.val * 192 + (160 + j.val); omega))

theorem turnQ_late (i : Fin 512) (hd : Fin 8) (j : Fin 32) : turnQ wq (ix3 i hd ⟨32 + j.val, by omega⟩) = wq (ix2 i ⟨hd.val * 192 + (128 + j.val), by omega⟩) := by
  pointwise [turnQ, ropeQ, headQ]

/-- Finite arguments. -/
structure FineArgs : Prop where
  rows : ∀ R k, Fine (h (ix2 R k))
  cols : ∀ k c, Fine (w (ix2 k c))
  gain : ∀ i, Fine (qg (ix1 i))
  up : ∀ i c, Fine (wq (ix2 i c))

variable {h w qg wq}

theorem fine_proj (H : FineArgs h w qg wq) (R : Fin 16384) (c : Fin 4416) : Fine (proj h w R c) :=
  fine_sum _ _ fun k => (H.rows R k).mul (H.cols k c)

theorem projTurn_early (H : FineArgs h w qg wq) (R : Fin 16384) (j : Fin 32) :
    projTurn h w R ⟨j.val, by omega⟩ = -proj h w R ⟨4384 + j.val, by omega⟩ := by
  unfold projTurn proj
  rw [← sum_neg _ _ fun k => (H.rows R k).mul (H.cols k _)]
  exact Finset.sum_congr rfl fun k _ => (congrArg _ (turnK_early w k j)).trans (mul_neg _ _)

theorem projTurn_late (R : Fin 16384) (j : Fin 32) : projTurn h w R ⟨32 + j.val, by omega⟩ = proj h w R ⟨4352 + j.val, by omega⟩ := by
  unfold projTurn proj
  exact Finset.sum_congr rfl fun k _ => congrArg _ (turnK_late w k j)

theorem qTurn_early (H : FineArgs h w qg wq) (R : Fin 16384) (hd : Fin 8) (j : Fin 32) :
    qTurn h w qg wq R hd ⟨j.val, by omega⟩ = -qPlain h w qg wq R hd ⟨160 + j.val, by omega⟩ := by
  unfold qTurn qPlain
  simp only [turnQ_early]
  rw [normDot_neg (fun j => fine_proj H R _) (fun i => H.gain i) (fun i => H.up i _)]
  exact EReal.neg_mul _ _

theorem qTurn_late (R : Fin 16384) (hd : Fin 8) (j : Fin 32) :
    qTurn h w qg wq R hd ⟨32 + j.val, by omega⟩ = qPlain h w qg wq R hd ⟨128 + j.val, by omega⟩ := by
  unfold qTurn qPlain
  simp only [turnQ_late]

/-- The shared key's two halves, rotated. -/
theorem kRope_early (p : IVec S2x8192 32) (H : FineArgs h w qg wq) (R : Fin 16384) (j : Fin 32) :
    kRope h p w R ⟨j.val, by omega⟩ = proj h w R ⟨4352 + j.val, by omega⟩ * Ideal.cos (ang p R ⟨j.val, by omega⟩)
      - proj h w R ⟨4384 + j.val, by omega⟩ * Ideal.sin (ang p R ⟨j.val, by omega⟩) := by
  unfold kRope
  rw [projTurn_early H, EReal.neg_mul]
  rfl

theorem kRope_late (p : IVec S2x8192 32) (R : Fin 16384) (j : Fin 32) :
    kRope h p w R ⟨32 + j.val, by omega⟩ = proj h w R ⟨4352 + j.val, by omega⟩ * Ideal.sin (ang p R ⟨j.val, by omega⟩)
      + proj h w R ⟨4384 + j.val, by omega⟩ * Ideal.cos (ang p R ⟨j.val, by omega⟩) := by
  have ha : ang p R ⟨32 + j.val, by omega⟩ = ang p R ⟨j.val, by omega⟩ := by
    unfold ang
    exact congrArg (fun z => angle _ (freqs (ix1 z))) (Fin.ext (by show (32 + j.val) % 32 = j.val % 32; omega))
  unfold kRope
  rw [projTurn_late, ha, add_comm]
  refine congrArg₂ (· + ·) rfl (congrArg (fun z => proj h w R z * _) (Fin.ext ?_))
  show 4352 + (32 + j.val) = 4384 + j.val
  omega

end Cert.Kernel7Ideal.MlaProj

end
-- ==== Proof.ConvOut.Logits.lean ====
/- The convolution's output projection and the norm after it: the router's logits at an entry, where the gain and the router are finite. -/
module

public import proofs.«01_k».proof.Proof.ConvOut.Value
public import proofs.«01_k».proof.Proof.MlaProj.Fine
public import Idealize.ShloMosaic.Lib.Routing.OpsPair
public import Idealize.ShloMosaic.Lib.Routing.OpsSet

@[expose] public section

set_option maxRecDepth 16384

noncomputable section

namespace Cert.Kernel6Ideal.ConvOut

open Cert.Kernel6Ideal Cert.Kernel6Ideal.Gen
open Idealize.ShloMosaic Idealize.ShloMosaic.TcCoe Idealize.ShloMosaic.Tactic
open Idealize.SL Idealize.SL.RA
open Idealize.ShloMosaic.Pipeline (Dat Cfg Window)

open Cert.Kernel2Ideal.Ffn (rowNorm)
open Cert.Kernel7Ideal.MlaProj (Fine fine_coe fine_meanSquare ofBits_eps)

/-! ## Finite values -/

/-- A finite value less itself. -/
theorem sub_own {x : EReal} (hx : Fine x) : x - x = 0 := by
  obtain ⟨r, rfl⟩ := hx.real
  rw [← EReal.coe_sub, sub_self, EReal.coe_zero]

theorem ofBits_2048 : Ideal.ofBits FTy.f32 1157627904#32 = ((2048 : ℝ) : EReal) := by
  simp [Ideal.ofBits, Ideal.ieee, -EReal.coe_mul]; norm_num

theorem own_nonneg (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

theorem own_top {x : EReal} (hx : ¬ Fine x) : x * x = ⊤ := by
  induction x with
  | bot => exact EReal.bot_mul_bot
  | top => exact EReal.top_mul_top
  | coe a => exact absurd (fine_coe a) hx

/-- The norm of a row is finite where its gain is: an infinite entry makes the mean square infinite, and the row is then divided to zero. -/
theorem fine_norm (y : Fin 2048 → EReal) {g : EReal} (hg : Fine g) (d : Fin 2048) : Fine (rowNorm y g d) := by
  by_cases hy : ∀ j, Fine (y j)
  · exact ((hy d).mul (fine_meanSquare hy ofBits_2048 (by norm_num) ofBits_eps)).mul hg
  · obtain ⟨j, hj⟩ := not_forall.mp hy
    have hs : (∑ x, y x * y x) = ⊤ := by
      refine top_le_iff.mp ?_
      rw [← own_top hj]
      exact Finset.single_le_sum (f := fun x => y x * y x) (fun x _ => own_nonneg (y x)) (Finset.mem_univ j)
    have hd : Ideal.div ⊤ (Ideal.ofBits FTy.f32 1157627904#32) = ⊤ := by
      rw [ofBits_2048]
      unfold Ideal.div
      rw [if_neg (EReal.coe_pos.mpr (by norm_num : (0 : ℝ) < 2048)).ne', ← EReal.coe_inv]
      exact EReal.top_mul_coe_of_pos (by norm_num)
    have hq : Ideal.rsqrt (⊤ : EReal) = 0 := rfl
    unfold rowNorm
    rw [hs, hd, EReal.top_add_of_ne_bot (ne_of_gt (lt_of_le_of_lt bot_le ofBits_eps)), hq, mul_zero, zero_mul]
    exact fine_coe 0

/-! ## The product in halves -/

/-- Two finite factors each split into a half and what is left of it: the remainders are zero and the three products are one. -/
theorem halves {n r : Fin 2048 → EReal} (hn : ∀ k, Fine (n k)) (hr : ∀ k, Fine (r k)) :
    (∑ k, n k * r k) + ((∑ k, n k * (r k - r k)) + ∑ k, (n k - n k) * r k) = ∑ k, n k * r k := by
  have h1 : ∀ k, n k * (r k - r k) = 0 := fun k => by rw [sub_own (hr k), mul_zero]
  have h2 : ∀ k, (n k - n k) * r k = 0 := fun k => by rw [sub_own (hn k), zero_mul]
  simp only [h1, h2, Finset.sum_const_zero, add_zero]

theorem pay20_apply (v : Vec Ideal S256x2048 .f32) (x : Vec Ideal S2048x128 .f32) (r : Fin 256) (l : Fin 128) :
    k0_pay20 v x (ix2 r l) = ((∑ k : Fin 2048, v (ix2 r k) * x (ix2 k l)) + ((∑ k : Fin 2048, v (ix2 r k) * (x (ix2 k l) - x (ix2 k l))) + ∑ k : Fin 2048, (v (ix2 r k) - v (ix2 r k)) * x (ix2 k l)) : EReal) := by
  pointwise [k0_pay20]

theorem pay41_same (v : Vec Ideal S256x2048 .f32) (x : Vec Ideal S2048x128 .f32) : k0_pay41 v x = k0_pay20 v x := rfl

theorem out8_apply (x0 : Vec Ideal S512x2048 .bf16) (x1 : Vec Ideal S2048x2048 .bf16) (x2 : Vec Ideal S1x2048 .f32) (x3 : Vec Ideal S512x2048 .f32) (x4 : Vec Ideal S1x2048 .f32) (x5 : Vec Ideal S2048x128 .f32)
    (r : Fin 512) (l : Fin 128) (hg : ∀ d, Fine (x4 (ix2 0 d))) (hr : ∀ k, Fine (x5 (ix2 k l))) :
    out8 x0 x1 x2 x3 x4 x5 (ix2 r l) = (∑ k : Fin 2048, rowNorm (line x0 x1 x2 x3 r) (x4 (ix2 0 k)) k * x5 (ix2 k l) : EReal) := by
  have hn : ∀ k, Fine (rowNorm (line x0 x1 x2 x3 r) (x4 (ix2 0 k)) k) := fun k => fine_norm _ (hg k) k
  by_cases h : r.val < 256
  · refine (dif_pos h).trans ((pay20_apply _ _ ⟨r.val, h⟩ l).trans ?_)
    simp only [normTop_apply]
    exact halves hn hr
  · have e : (⟨256 + (r.val - 256), by omega⟩ : Fin 512) = r := Fin.ext (by show 256 + (r.val - 256) = r.val; omega)
    refine (dif_neg h).trans ((congrFun (pay41_same _ _) _).trans ((pay20_apply _ _ ⟨r.val - 256, by omega⟩ l).trans ?_))
    simp only [normLow_apply]
    rw [e]
    exact halves hn hr

/-! ## The router's padded columns -/

/-- Where an update of the padding lands: at its own row and column. -/
theorem pad_lands (idx : IVec S1 32) (h0 : ∀ i, idx i = 0#32) (k : Fin 2048) (j : Fin 8) (r : Fin 2048) (l : Fin 128) :
    scatter_S2048x128_S1_S2048x8_01_n_1_0.resultIdx? (ix2 k j) idx = some (ix2 r l) ↔ k.val = r.val ∧ j.val = l.val := by
  have s0 : scatter_S2048x128_S1_S2048x8_01_n_1_0.start (ix2 k j) idx (0 : Fin 2) = 0 := by
    unfold ScatterDims.start
    exact dif_neg (by decide)
  have s1 : scatter_S2048x128_S1_S2048x8_01_n_1_0.start (ix2 k j) idx (1 : Fin 2) = 0 := by
    unfold ScatterDims.start
    refine (dif_pos (by decide)).trans ?_
    rw [h0]
    rfl
  have w0 : scatter_S2048x128_S1_S2048x8_01_n_1_0.window (ix2 k j) (0 : Fin 2) = k.val := rfl
  have w1 : scatter_S2048x128_S1_S2048x8_01_n_1_0.window (ix2 k j) (1 : Fin 2) = j.val := rfl
  refine (Routing.resultIdx?_ix2 _ _ _ r l).trans ?_
  rw [s0, s1, w0, w1]
  omega

/-- The padded router: its own columns, then zeros. -/
def padded (g : Vec Ideal S2048x8 .f32) (k : Fin 2048) (l : Fin 128) : EReal := if h : l.val < 8 then g (ix2 k ⟨l.val, h⟩) else 0

theorem pad_apply (g : Vec Ideal S2048x8 .f32) (k : Fin 2048) (l : Fin 128) :
    Host.scatter scatter_S2048x128_S1_S2048x8_01_n_1_0 (fun _ b => b) (broadcastInDim S2048x128 ![] bcast_S_S2048x128 (constant (F := Ideal) S_ .f32 0x00000000#32)) (broadcastInDim S1 ![] bcast_S_S1 (constantI S_ 32 0#32)) g (ix2 k l)
      = padded g k l := by
  have h0 : ∀ i, (broadcastInDim S1 ![] bcast_S_S1 (constantI S_ 32 0#32) : IVec S1 32) i = 0#32 := fun i => rfl
  unfold padded
  by_cases h : l.val < 8
  · rw [dif_pos h]
    refine Routing.scatter_set_hit _ _ _ _ _ _ (fun y hy => ?_) (ix2 k ⟨l.val, h⟩) ((pad_lands _ h0 _ _ _ _).2 ⟨rfl, rfl⟩)
    obtain ⟨y0, y1, rfl⟩ : ∃ (y0 : Fin 2048) (y1 : Fin 8), y = ix2 y0 y1 := ⟨y 0, y 1, eq_ix2 y⟩
    obtain ⟨e0, e1⟩ := (pad_lands _ h0 _ _ _ _).1 hy
    exact congrArg₂ (fun a b => g (ix2 a b)) (Fin.ext e0) (Fin.ext e1)
  · rw [dif_neg h]
    refine (Routing.scatter_set_miss _ _ _ _ _ fun y hy => ?_).trans ?_
    · obtain ⟨y0, y1, rfl⟩ : ∃ (y0 : Fin 2048) (y1 : Fin 8), y = ix2 y0 y1 := ⟨y 0, y 1, eq_ix2 y⟩
      have e1 := ((pad_lands _ h0 _ _ _ _).1 hy).2
      have := y1.isLt
      omega
    · pointwise []

variable (m : (ℓ : Loc nD τ sig) → Buf (Elt Ideal) ℓ)

theorem V_v2 (c : Dev nD) : V m c main_v2
    = Host.scatter scatter_S2048x128_S1_S2048x8_01_n_1_0 (fun _ b => b) (broadcastInDim S2048x128 ![] bcast_S_S2048x128 (constant (F := Ideal) S_ .f32 0x00000000#32)) (broadcastInDim S1 ![] bcast_S_S1 (constantI S_ 32 0#32)) (m ((c : Thread nD τ).loc main_arg5) : Vec Ideal S2048x8 .f32) := by
  unfold V hostOps0
  after_results <;> rfl

/-- The padded router's window does not move. -/
theorem idx_router : ∀ t : Fin cfg0.N, (win0 5).index t 0 = 0 ∧ (win0 5).index t 1 = 0 :=
  (by decide +kernel : ∀ t : Fin grid0.N, (win0 5).index t 0 = 0 ∧ (win0 5).index t 1 = 0)

/-- The logits' follows the point. -/
theorem idx_logits : ∀ t : Fin cfg0.N, (win0 8).index t 0 = t.val ∧ (win0 8).index t 1 = 0 :=
  (by decide +kernel : ∀ t : Fin grid0.N, (win0 8).index t 0 = t.val ∧ (win0 8).index t 1 = 0)

theorem blk5 (c : Dev nD) (t : Fin cfg0.N) (k : Fin 2048) (l : Fin 128) : iblk m c 5 t (ix2 k l) = padded (m ((c : Thread nD τ).loc main_arg5)) k l := by
  obtain ⟨e0, e1⟩ := idx_router t
  refine Eq.trans ?_ (pad_apply (m ((c : Thread nD τ).loc main_arg5)) k l)
  unfold iblk
  rw [View.read_apply]
  show V m c main_v2 _ = _
  rw [V_v2]
  congr 1
  funext x; apply Fin.ext; fin_cases x
  · refine (Pipeline.Window.rect_emb_val (win0 5) t (ix2 k l) (0 : Fin 2)).trans ?_
    show (win0 5).index t 0 * 2048 + k.val = k.val
    rw [e0]; omega
  · refine (Pipeline.Window.rect_emb_val (win0 5) t (ix2 k l) (1 : Fin 2)).trans ?_
    show (win0 5).index t 1 * 128 + l.val = l.val
    rw [e1]; omega

/-! ## The array -/

/-- The gain and the router finite. -/
structure FineArgs (c : Dev nD) : Prop where
  gain : ∀ d, Fine ((m ((c : Thread nD τ).loc main_arg4) : Vec Ideal S2048 .f32) (ix1 d))
  router : ∀ k l, Fine ((m ((c : Thread nD τ).loc main_arg5) : Vec Ideal S2048x8 .f32) (ix2 k l))

/-- The third result at an entry: the norm of the first result's row against a column of the padded router. -/
def third (c : Dev nD) (R : Fin 16384) (l : Fin 128) : EReal :=
  ∑ k : Fin 2048, rowNorm (first m c R) ((m ((c : Thread nD τ).loc main_arg4) : Vec Ideal S2048 .f32) (ix1 k)) k * padded (m ((c : Thread nD τ).loc main_arg5)) k l

variable {m}

theorem third_point {c : Dev nD} (H : FineArgs m c) (t : Fin cfg0.N) (r : Fin 512) (l : Fin 128) : lgt m c t (ix2 r l) = third m c (rowOf t r) l := by
  have hline : line (iblk m c 0 t) (iblk m c 1 t) (iblk m c 2 t) (iblk m c 3 t) r = first m c (rowOf t r) := funext fun d => line_point m c t r d
  refine (out8_apply _ _ _ _ _ _ r l (fun d => ?_) (fun k => ?_)).trans ?_
  · rw [blk4]
    exact H.gain d
  · rw [blk5]
    unfold padded
    split
    · exact H.router _ _
    · exact fine_coe 0
  · refine Finset.sum_congr rfl fun k _ => ?_
    rw [hline, blk4, blk5]

theorem mem_blk8 (t : Fin cfg0.N) (j : S16384x128.Idx) :
    j ∈ ((cfg0.win 8).blk t).view.set
      ↔ ∀ x : Fin 2, (win0 8).index t x * S512x128.size x ≤ (j x).val ∧ (j x).val < (win0 8).index t x * S512x128.size x + S512x128.size x := by
  show j ∈ ((View.whole main_v6_2).slice ((win0 8).rect t)).set ↔ _
  rw [View.set_slice_whole, Rect.mem_set_unit]; exact Iff.rfl

theorem arr8_apply {c : Dev nD} (H : FineArgs m c) (R : Fin 16384) (l : Fin 128) :
    ((dats m 0 c).arrAt 8 cfg0.N : Vec Ideal S16384x128 .f32) (ix2 R l) = third m c R l := by
  have hN : cfg0.N = 32 := N_0
  have hN' : grid0.N = 32 := N_0
  refine (dats m 0 c).arrAt_forall_of_flushed 8
    (fun (j : S16384x128.Idx) (v : EReal) => j = ix2 R l → v = third m c R l)
    (fun t hf y hy => ?_) cfg0.N ⟨R.val / 512, by omega⟩ (ix2 R l) (by show R.val / 512 < _; omega) (flush0_8 _) ?_ rfl
  · obtain ⟨e0, e1⟩ := idx_logits t
    obtain ⟨y0, y1, rfl⟩ : ∃ (y0 : Fin 512) (y1 : Fin 128), y = ix2 y0 y1 := ⟨y 0, y 1, eq_ix2 y⟩
    have h0 : (win0 8).index t 0 * 512 + y0.val = R.val :=
      (Pipeline.Window.rect_emb_val (win0 8) t (ix2 y0 y1) (0 : Fin 2)).symm.trans (congrArg (fun j : S16384x128.Idx => (j 0).val) hy)
    have h1 : (win0 8).index t 1 * 128 + y1.val = l.val :=
      (Pipeline.Window.rect_emb_val (win0 8) t (ix2 y0 y1) (1 : Fin 2)).symm.trans (congrArg (fun j : S16384x128.Idx => (j 1).val) hy)
    rw [e0] at h0
    rw [e1] at h1
    have eR : rowOf t y0 = R := Fin.ext h0
    have el : y1 = l := Fin.ext (by omega)
    subst el
    have hv := third_point H t y0 y1
    rw [eR] at hv
    rw [show (dats m 0 c).flushed 8 t = (cfg0.win 8).cut (grid0.coords t) ((dats m 0 c).after 8 t) from rfl, after8, cast_eq]
    exact hv
  · obtain ⟨e0, e1⟩ := idx_logits ⟨R.val / 512, by omega⟩
    rw [mem_blk8]
    refine Fin.forall_fin_two.mpr ⟨?_, ?_⟩
    · show (win0 8).index _ 0 * 512 ≤ R.val ∧ R.val < (win0 8).index _ 0 * 512 + 512
      rw [e0]
      show (R.val / 512) * 512 ≤ R.val ∧ R.val < (R.val / 512) * 512 + 512
      omega
    · show (win0 8).index _ 1 * 128 ≤ l.val ∧ l.val < (win0 8).index _ 1 * 128 + 128
      rw [e1]
      show 0 * 128 ≤ l.val ∧ l.val < 0 * 128 + 128
      omega

end Cert.Kernel6Ideal.ConvOut

end
-- ==== Proof.ConvOut.Ref.lean ====
/- The reference's projection after the convolution and its norm and the router's logits read at an entry. -/
module

public import proofs.«01_k».proof.Proof.Gen.Reference6Ideal
public import proofs.«01_k».proof.Proof.Gen.Reference6Ideal.Run
public import proofs.«01_k».proof.Proof.ConvOut.Logits
public import Idealize.ShloMosaic.Lib.Pointwise

@[expose] public section

set_option maxRecDepth 16384

noncomputable section

namespace Cert.Reference6Ideal.ConvOut

open Cert.Reference6Ideal Cert.Reference6Ideal.Gen
open Cert.Kernel6Ideal.ConvOut (entry padded)
open Cert.Kernel2Ideal.Ffn (rowNorm)
open Idealize.ShloMosaic

variable (a : FVec Ideal S16384x2048 .bf16) (w : FVec Ideal S2048x2048 .f32) (b : FVec Ideal S2048 .f32) (x : FVec Ideal S16384x2048 .f32)

/-- The reference's first result as one expression of its arguments. -/
def first : FVec Ideal S16384x2048 .f32 :=
  addf x (addf (Host.dotGeneral (F := Ideal) dot_S16384x2048_S2048x2048_S16384x2048_1_0_0_1_n_n none (extf .f32 a bitsLt_bf16_f32) w) (broadcastInDim S16384x2048 ![0, 1] bcast_S1x2048_S16384x2048_0_1 (broadcastInDim S1x2048 ![1] bcast_S2048_S1x2048_1 b)))

/-- The norm of its rows. -/
def normed (y : FVec Ideal S16384x2048 .f32) (g : FVec Ideal S2048 .f32) : FVec Ideal S16384x2048 .f32 :=
  mulf (mulf y (broadcastInDim S16384x2048 ![0, 1] bcast_S16384x1_S16384x2048_0_1 (Host.rsqrt (addf (Host.divf (broadcastInDim S16384x1 ![0] bcast_S16384_S16384x1_0 (Host.reduceAdd (F := Ideal) (mulf y y) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 g))

/-- Its second result: the norm, each row cut into sixteen. -/
def second (y : FVec Ideal S16384x2048 .f32) (g : FVec Ideal S2048 .f32) : FVec Ideal S262144x128 .f32 :=
  shapeCast S262144x128 (normed y g) shapeCasts_S16384x2048_S262144x128

/-- Its third: the norm against the router, then zeros. -/
def third (y : FVec Ideal S16384x2048 .f32) (g : FVec Ideal S2048 .f32) (r : FVec Ideal S2048x8 .f32) : FVec Ideal S16384x128 .f32 :=
  concatenate S16384x128 1 [⟨S16384x8, Host.dotGeneral (F := Ideal) dot_S16384x2048_S2048x8_S16384x8_1_0_0_1_n_n none (normed y g) r⟩, ⟨S16384x120, broadcastInDim S16384x120 ![] bcast_S_S16384x120 (constant (F := Ideal) S_ .f32 0x00000000#32)⟩] concatenates_S16384x8_S16384x120_S16384x128_d1

theorem first_apply (R : Fin 16384) (d : Fin 2048) :
    first a w b x (ix2 R d) = entry (x (ix2 R d)) (b (ix1 d)) (fun k => a (ix2 R k)) (fun k => w (ix2 k d)) := by
  unfold entry
  pointwise [first]

theorem normed_apply (y : FVec Ideal S16384x2048 .f32) (g : FVec Ideal S2048 .f32) (R : Fin 16384) (d : Fin 2048) :
    normed y g (ix2 R d) = rowNorm (fun k => y (ix2 R k)) (g (ix1 d)) d := by
  unfold rowNorm
  pointwise [normed]

theorem second_apply (y : FVec Ideal S16384x2048 .f32) (g : FVec Ideal S2048 .f32) (R : Fin 262144) (l : Fin 128) :
    second y g (ix2 R l) = rowNorm (fun k => y (ix2 ⟨R.val / 16, by omega⟩ k)) (g (ix1 ⟨R.val % 16 * 128 + l.val, by omega⟩)) ⟨R.val % 16 * 128 + l.val, by omega⟩ := by
  unfold second
  refine (shapeCast_apply _ _ (ix2 R l) (ix2 ⟨R.val / 16, by omega⟩ ⟨R.val % 16 * 128 + l.val, by omega⟩) ?_).trans (normed_apply y g _ _)
  rw [Shape.rowMajor_val_two, Shape.rowMajor_val_two]
  show R.val / 16 * 2048 + (R.val % 16 * 128 + l.val) = R.val * 128 + l.val
  omega

theorem dot_apply (v : FVec Ideal S16384x2048 .f32) (r : FVec Ideal S2048x8 .f32) (R : Fin 16384) (l : Fin 8) :
    Host.dotGeneral (F := Ideal) dot_S16384x2048_S2048x8_S16384x8_1_0_0_1_n_n none v r (ix2 R l) = (∑ k : Fin 2048, v (ix2 R k) * r (ix2 k l) : EReal) := by
  pointwise []

theorem third_apply (y : FVec Ideal S16384x2048 .f32) (g : FVec Ideal S2048 .f32) (r : FVec Ideal S2048x8 .f32) (R : Fin 16384) (l : Fin 128) :
    third y g r (ix2 R l) = (∑ k : Fin 2048, rowNorm (fun q => y (ix2 R q)) (g (ix1 k)) k * padded r k l : EReal) := by
  unfold third
  by_cases h : l.val < 8
  · have e : ∀ k, padded r k l = r (ix2 k ⟨l.val, h⟩) := fun k => dif_pos h
    simp only [e]
    refine Eq.trans ?_ ((dot_apply (normed y g) r R ⟨l.val, h⟩).trans (Finset.sum_congr rfl fun k _ => by rw [normed_apply]))
    generalize Host.dotGeneral (F := Ideal) dot_S16384x2048_S2048x8_S16384x8_1_0_0_1_n_n none (normed y g) r = z
    rw [concatenate_pair_apply, dif_pos (by exact h)]
    exact congrArg z (funext fun a => by fin_cases a <;> rfl)
  · have e : ∀ k, padded r k l = 0 := fun k => dif_neg h
    simp only [e, mul_zero, Finset.sum_const_zero]
    rw [concatenate_pair_apply, dif_neg (by exact h)]
    pointwise []

end Cert.Reference6Ideal.ConvOut

end
-- ==== Proof.ConvOut.Claim.lean ====
/- The projection after the convolution and its norm against the reference, and the frames. -/
module

public import proofs.«01_k».proof.Defs
public import proofs.«01_k».proof.Proof.Gen.Kernel6
public import proofs.«01_k».proof.Proof.Gen.Pre_finite_out
public import proofs.«01_k».proof.Proof.Gen.On_stream_and_norm
public import proofs.«01_k».proof.Proof.ConvOut.Value
public import proofs.«01_k».proof.Proof.ConvOut.Ref

@[expose] public section

set_option maxRecDepth 16384

noncomputable section

namespace Cert.Proof.ConvOut

open Idealize.ShloMosaic Idealize.ShloMosaic.TcCoe Idealize.SL.Sem
open Cert.Kernel7Ideal.MlaProj (fine_of_below)
open Cert.Kernel6Ideal (main_arg0 main_arg1 main_arg2 main_arg3 main_arg4 main_arg5)

variable {F : FTy → Type} [FloatOps F]

/-! ## The frames: one run serves the program read over words and read over extended reals -/

theorem bodies_same : Cert.Kernel6.defs₀ (F := F) = Cert.Kernel6Ideal.defs₀ (F := F) := by
  unfold Cert.Kernel6.defs₀ Cert.Kernel6Ideal.defs₀
  refine congrArg Defs.onTc (funext fun l => funext fun p => ?_)
  match l, p with
  | 0, (t, s) => rfl

theorem tables_same : Cert.Kernel6.defs (F := F) = Cert.Kernel6Ideal.defs (F := F) :=
  congrArg (Pipeline.defs Cert.Kernel6Ideal.pcfgs) bodies_same

theorem mains_same : Cert.Kernel6.main (F := F) = Cert.Kernel6Ideal.main (F := F) := rfl

theorem frame_ideal : Cert.quiescent_Kernel6Ideal := fun m ρ _ =>
  Cert.Kernel6Ideal.ConvOut.unchanged (F := Ideal) m ρ

theorem frame_words : Cert.quiescent_Kernel6 := fun m ρ _ => by
  rw [tables_same, mains_same]
  have h := Cert.Kernel6Ideal.ConvOut.unchanged (F := Bits) m ρ
  exact h

theorem frame_reference : Cert.quiescent_Reference6Ideal := fun m ρ _ =>
  (θ_run Cert.Reference6Ideal.defs _ _).mono (fun r h => ⟨fun c => (h c).2.2.2, sem_eq_zero_of_no_sems rfl r.2⟩) (Cert.Reference6Ideal.Value.run (F := Ideal) m ρ)

/-! ## The values -/

section Values

variable (m : (ℓ : Loc Cert.Kernel6Ideal.nD Cert.Kernel6Ideal.τ Cert.Kernel6Ideal.sig) → Buf (Elt Ideal) ℓ)

/-- The reference's three results, from the kernel's arguments. -/
abbrev stream (c : Dev Cert.Kernel6Ideal.nD) := Cert.Reference6Ideal.ConvOut.first (m ((c.tc : Thread _ _).loc main_arg0)) (m ((c.tc : Thread _ _).loc main_arg1)) (m ((c.tc : Thread _ _).loc main_arg2)) (m ((c.tc : Thread _ _).loc main_arg3))
abbrev norm (c : Dev Cert.Kernel6Ideal.nD) := Cert.Reference6Ideal.ConvOut.second (stream m c) (m ((c.tc : Thread _ _).loc main_arg4))
abbrev logits (c : Dev Cert.Kernel6Ideal.nD) := Cert.Reference6Ideal.ConvOut.third (stream m c) (m ((c.tc : Thread _ _).loc main_arg4)) (m ((c.tc : Thread _ _).loc main_arg5))

theorem stream_eq (c : Dev Cert.Kernel6Ideal.nD) : (Cert.Kernel6Ideal.ConvOut.dats m 0 c).arrAt 6 Cert.Kernel6Ideal.cfg0.N = stream m c := funext fun j => by
  obtain ⟨R, d, rfl⟩ : ∃ (R : Fin 16384) (d : Fin 2048), j = ix2 R d := ⟨j 0, j 1, eq_ix2 j⟩
  exact (Cert.Kernel6Ideal.ConvOut.arr6_apply m c R d).trans (Cert.Reference6Ideal.ConvOut.first_apply _ _ _ _ R d).symm

theorem row_eq (c : Dev Cert.Kernel6Ideal.nD) (R : Fin 16384) : Cert.Kernel6Ideal.ConvOut.first m c R = fun k => stream m c (ix2 R k) :=
  funext fun k => (Cert.Reference6Ideal.ConvOut.first_apply _ _ _ _ R k).symm

theorem norm_eq (c : Dev Cert.Kernel6Ideal.nD) : (Cert.Kernel6Ideal.ConvOut.dats m 0 c).arrAt 7 Cert.Kernel6Ideal.cfg0.N = norm m c := funext fun j => by
  obtain ⟨R, l, rfl⟩ : ∃ (R : Fin 262144) (l : Fin 128), j = ix2 R l := ⟨j 0, j 1, eq_ix2 j⟩
  refine (Cert.Kernel6Ideal.ConvOut.arr7_apply m c R l).trans (Eq.trans ?_ (Cert.Reference6Ideal.ConvOut.second_apply _ _ R l).symm)
  exact congrArg (fun y => Cert.Kernel2Ideal.Ffn.rowNorm y _ _) (row_eq m c _)

variable {m}

theorem logits_eq {c : Dev Cert.Kernel6Ideal.nD} (H : Cert.Kernel6Ideal.ConvOut.FineArgs m c) : (Cert.Kernel6Ideal.ConvOut.dats m 0 c).arrAt 8 Cert.Kernel6Ideal.cfg0.N = logits m c := funext fun j => by
  obtain ⟨R, l, rfl⟩ : ∃ (R : Fin 16384) (l : Fin 128), j = ix2 R l := ⟨j 0, j 1, eq_ix2 j⟩
  refine (Cert.Kernel6Ideal.ConvOut.arr8_apply H R l).trans (Eq.trans ?_ (Cert.Reference6Ideal.ConvOut.third_apply _ _ _ R l).symm)
  unfold Cert.Kernel6Ideal.ConvOut.third
  rw [row_eq]

/-- The reference's run ends with the same three, the arguments equal. -/
theorem reference (m' : (ℓ : Loc Cert.Reference6Ideal.nD Cert.Reference6Ideal.τ Cert.Reference6Ideal.sig) → Buf (Elt Ideal) ℓ) (g' : Dev Cert.Reference6Ideal.nD → PrngReg)
    (hargs : ∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc main_arg0)
      ∧ m' ((c.tc : Thread Cert.Reference6Ideal.nD Cert.Reference6Ideal.τ).loc Cert.Reference6Ideal.main_arg1) = m ((c.tc : Thread Cert.Kernel6Ideal.nD Cert.Kernel6Ideal.τ).loc main_arg1)
      ∧ m' ((c.tc : Thread Cert.Reference6Ideal.nD Cert.Reference6Ideal.τ).loc Cert.Reference6Ideal.main_arg2) = m ((c.tc : Thread Cert.Kernel6Ideal.nD Cert.Kernel6Ideal.τ).loc main_arg2)
      ∧ m' ((c.tc : Thread Cert.Reference6Ideal.nD Cert.Reference6Ideal.τ).loc Cert.Reference6Ideal.main_arg3) = m ((c.tc : Thread Cert.Kernel6Ideal.nD Cert.Kernel6Ideal.τ).loc main_arg3)
      ∧ m' ((c.tc : Thread Cert.Reference6Ideal.nD Cert.Reference6Ideal.τ).loc Cert.Reference6Ideal.main_arg4) = m ((c.tc : Thread Cert.Kernel6Ideal.nD Cert.Kernel6Ideal.τ).loc main_arg4)
      ∧ m' ((c.tc : Thread Cert.Reference6Ideal.nD Cert.Reference6Ideal.τ).loc Cert.Reference6Ideal.main_arg5) = m ((c.tc : Thread Cert.Kernel6Ideal.nD Cert.Kernel6Ideal.τ).loc main_arg5)) :
    θ_run (Cert.Reference6Ideal.defs (F := Ideal)) (onTc (τ := Cert.Reference6Ideal.τ) (Cert.Reference6Ideal.main (F := Ideal))) ⟨m', fun _ => 0, g'⟩ fun r => ∀ c : Dev Cert.Reference6Ideal.nD,
      r.2.mem ((c.tc : Thread Cert.Reference6Ideal.nD Cert.Reference6Ideal.τ).loc Cert.Reference6Ideal.main_v5) = stream m c
      ∧ r.2.mem ((c.tc : Thread Cert.Reference6Ideal.nD Cert.Reference6Ideal.τ).loc Cert.Reference6Ideal.main_v22) = norm m c
      ∧ r.2.mem ((c.tc : Thread Cert.Reference6Ideal.nD Cert.Reference6Ideal.τ).loc Cert.Reference6Ideal.main_v21) = logits m c
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5) := by
  refine (θ_run Cert.Reference6Ideal.defs _ _).mono (fun r hr c => ?_) (Cert.Reference6Ideal.Value.run (F := Ideal) m' g')
  obtain ⟨e0, e1, e2, e3, e4, e5⟩ := hargs c
  have e := congr (congr (congr (congrArg Cert.Reference6Ideal.ConvOut.first e0) e1) e2) e3
  have eN := congr (congrArg Cert.Reference6Ideal.ConvOut.second e) e4
  have eL := congr (congr (congrArg Cert.Reference6Ideal.ConvOut.third e) e4) e5
  exact ⟨(hr c).1.trans e, (hr c).2.1.trans eN, (hr c).2.2.1.trans eL, (hr c).2.2.2⟩

end Values

/-- The stream and its norm, at any extended reals. -/
theorem algebraic : Cert.algebraic_Kernel6Ideal_Reference6Ideal_on_stream_and_norm := by
  intro m g m' g' hp hargs
  have hno : ¬ (0#1 : BitVec 1) = 1#1 := by decide
  exact ⟨stream m, norm m, logits m,
    (θ_run Cert.Kernel6Ideal.defs _ _).mono (fun r hr c => ⟨fun i _ => congrFun ((hr.1 c).1.trans (stream_eq m c)) i, fun i _ => congrFun ((hr.1 c).2.1.trans (norm_eq m c)) i,
      fun i hi => (hno hi).elim, (hr.1 c).2.2.2⟩) (Cert.Kernel6Ideal.ConvOut.whole (F := Ideal) m g),
    (θ_run Cert.Reference6Ideal.defs _ _).mono (fun r hr c => ⟨fun i _ => congrFun (hr c).1 i, fun i _ => congrFun (hr c).2.1 i,
      fun i _ => congrFun (hr c).2.2.1 i, (hr c).2.2.2⟩) (reference m' g' hargs)⟩

/-- All three results, the gain and the router finite. -/
theorem algebraic_finite : Cert.algebraic_Kernel6Ideal_Reference6Ideal_pre_finite_out := by
  intro m g m' g' hp hargs
  have tf : Ideal.ofBits FTy.f32 0x7F800000#32 = ⊤ := by simp [Ideal.ofBits, Ideal.ieee]
  have H : ∀ c, Cert.Kernel6Ideal.ConvOut.FineArgs m c := fun c =>
    ⟨fun d => fine_of_below tf (congrFun (hp c).1 (ix1 d)), fun k l => fine_of_below tf (congrFun (hp c).2 (ix2 k l))⟩
  exact ⟨stream m, norm m, logits m,
    (θ_run Cert.Kernel6Ideal.defs _ _).mono (fun r hr c => ⟨(hr.1 c).1.trans (stream_eq m c), (hr.1 c).2.1.trans (norm_eq m c),
      (hr.1 c).2.2.1.trans (logits_eq (H c)), (hr.1 c).2.2.2⟩) (Cert.Kernel6Ideal.ConvOut.whole (F := Ideal) m g),
    reference m' g' hargs⟩

end Cert.Proof.ConvOut

end
-- ==== Proof.MlaProj.Tiles.lean ====
/- The attention's projections: the sixteen stores of each result's block, read back. -/
module

public import proofs.«01_k».proof.Proof.MlaProj.Pay

@[expose] public section

set_option maxRecDepth 16384

noncomputable section

namespace Cert.Kernel7Ideal.MlaProj

open Cert.Kernel7Ideal Cert.Kernel7Ideal.Gen
open Idealize.ShloMosaic

theorem slot_inb (h : Fin 8) (b : Fin 2) : ∀ a : Fin 4, (![0, h.val, 0, b.val * 128] : Fin 4 → ℕ) a + S1x1x512x128.size a ≤ S1x8x512x256.size a := by
  intro a
  fin_cases a
  · show 0 + 1 ≤ 1; omega
  · show h.val + 1 ≤ 8; omega
  · show 0 + 512 ≤ 512; omega
  · show b.val * 128 + 128 ≤ 256; omega

/-- A store into half `b` of head `h`. -/
def slot (h : Fin 8) (b : Fin 2) (x : Vec Ideal S512x128 .bf16) : View.Piece (Elt Ideal) S1x8x512x256 .bf16 :=
  ⟨Rect.unit (s := S1x8x512x256) ![0, h.val, 0, b.val * 128] S1x1x512x128.size (slot_inb h b), shapeCast S1x1x512x128 x shapeCasts_S512x128_S1x1x512x128⟩

/-- The halves of the eight heads, last first. -/
abbrev places : List (Fin 8 × Fin 2) :=
  [(7, 1), (7, 0), (6, 1), (6, 0), (5, 1), (5, 0), (4, 1), (4, 0), (3, 1), (3, 0), (2, 1), (2, 0), (1, 1), (1, 0), (0, 1), (0, 0)]

theorem mem_places : ∀ h b, (h, b) ∈ places := by decide

/-- The stores of all the heads: one family of halves for the left, one for the right. -/
def slots (L R : Fin 8 → Vec Ideal S512x128 .bf16) : List (View.Piece (Elt Ideal) S1x8x512x256 .bf16) :=
  places.map fun p => slot p.1 p.2 (if p.2 = 0 then L p.1 else R p.1)

/-- The block they fill. -/
def heads (L R : Fin 8 → Vec Ideal S512x128 .bf16) : Vec Ideal S1x8x512x256 .bf16 := fun y =>
  have h3 : (y 3).val < 256 := (y 3).isLt
  if h : (y 3).val < 128 then L (y 1) (ix2 (y 2) ⟨(y 3).val, h⟩) else R (y 1) (ix2 (y 2) ⟨(y 3).val - 128, by omega⟩)

theorem heads_left (L R : Fin 8 → Vec Ideal S512x128 .bf16) (h : Fin 8) (r : Fin 512) (l : Fin 128) (k : Fin 256) (hk : k.val = l.val) :
    heads L R (ix4 0 h r k) = L h (ix2 r l) := by
  have e : ((ix4 (0 : Fin 1) h r k : S1x8x512x256.Idx) 3).val = k.val := rfl
  unfold heads
  rw [dif_pos (by rw [e]; omega)]
  exact congrArg (L h) (congrArg₂ ix2 rfl (Fin.ext hk))

theorem heads_right (L R : Fin 8 → Vec Ideal S512x128 .bf16) (h : Fin 8) (r : Fin 512) (l : Fin 128) (k : Fin 256) (hk : k.val = 128 + l.val) :
    heads L R (ix4 0 h r k) = R h (ix2 r l) := by
  have e : ((ix4 (0 : Fin 1) h r k : S1x8x512x256.Idx) 3).val = k.val := rfl
  unfold heads
  rw [dif_neg (by rw [e]; omega)]
  exact congrArg (R h) (congrArg₂ ix2 rfl (Fin.ext (by show k.val - 128 = l.val; omega)))

theorem slot_apply (h : Fin 8) (b : Fin 2) (x : Vec Ideal S512x128 .bf16) (r : Fin 512) (l : Fin 128) :
    (slot h b x).2 (ix4 0 0 r l) = x (ix2 r l) := by
  show shapeCast S1x1x512x128 x shapeCasts_S512x128_S1x1x512x128 (ix4 0 0 r l) = _
  pointwise []

theorem slots_apply (L R : Fin 8 → Vec Ideal S512x128 .bf16) : View.canon (slots L R) = heads L R := by
  funext y
  refine View.canon_apply_of_pieces (heads L R) (slots L R) ?_ y ?_
  · intro p hp x
    obtain ⟨⟨h, b⟩, -, rfl⟩ := List.mem_map.mp hp
    obtain ⟨x0, x1, r, l, rfl⟩ : ∃ (x0 x1 : Fin 1) (r : Fin 512) (l : Fin 128), x = ix4 x0 x1 r l := ⟨x 0, x 1, x 2, x 3, eq_ix4 x⟩
    obtain rfl : x0 = 0 := Subsingleton.elim _ _
    obtain rfl : x1 = 0 := Subsingleton.elim _ _
    refine (slot_apply h b _ r l).trans ?_
    have e : ∀ z, (slot h b z).1.emb (ix4 0 0 r l) = (ix4 0 h r ⟨b.val * 128 + l.val, by omega⟩ : S1x8x512x256.Idx) := by
      intro z; funext a; apply Fin.ext; fin_cases a
      · rfl
      · show h.val + 1 * 0 = h.val; omega
      · show 0 + 1 * r.val = r.val; omega
      · show b.val * 128 + 1 * l.val = b.val * 128 + l.val; omega
    rw [e]
    match b with
    | 0 => exact (heads_left L R h r l _ (by show 0 * 128 + l.val = l.val; omega)).symm
    | 1 => exact (heads_right L R h r l _ (by show 1 * 128 + l.val = 128 + l.val; omega)).symm
  · obtain ⟨y0, h, r, k, rfl⟩ : ∃ (y0 : Fin 1) (h : Fin 8) (r : Fin 512) (k : Fin 256), y = ix4 y0 h r k := ⟨y 0, y 1, y 2, y 3, eq_ix4 y⟩
    refine ⟨_, List.mem_map.mpr ⟨(h, ⟨k.val / 128, by omega⟩), mem_places _ _, rfl⟩, (Rect.mem_set_unit (inb := slot_inb h ⟨k.val / 128, by omega⟩)).mpr fun a => ?_⟩
    fin_cases a
    · show 0 ≤ y0.val ∧ y0.val < 0 + 1; omega
    · show h.val ≤ h.val ∧ h.val < h.val + 1; omega
    · show 0 ≤ r.val ∧ r.val < 0 + 512; omega
    · show k.val / 128 * 128 ≤ k.val ∧ k.val < k.val / 128 * 128 + 128; omega

/-! ## The three results' blocks -/

theorem cut_slice (h : Fin 8) (b : Fin 2) : S512x2048.Slices ![0, h.val * 256 + b.val * 128] S512x128 :=
  ⟨rfl, Fin.forall_fin_two.mpr ⟨by show 0 + 512 ≤ 512; omega, by show h.val * 256 + b.val * 128 + 128 ≤ 2048; omega⟩⟩

/-- Half `b` of head `h`'s 256 columns. -/
def cut (Q : Vec Ideal S512x2048 .f32) (b : Fin 2) (h : Fin 8) : Vec Ideal S512x128 .f32 :=
  extractStridedSlice S512x128 ![0, h.val * 256 + b.val * 128] Q (cut_slice h b)

theorem cut_apply (Q : Vec Ideal S512x2048 .f32) (b : Fin 2) (h : Fin 8) (r : Fin 512) (l : Fin 128) :
    cut Q b h (ix2 r l) = Q (ix2 r ⟨h.val * 256 + b.val * 128 + l.val, by omega⟩) :=
  extractStridedSlice_apply ![0, h.val * 256 + b.val * 128] Q (cut_slice h b) (ix2 r l) (ix2 r ⟨h.val * 256 + b.val * 128 + l.val, by omega⟩) (Fin.forall_fin_two.mpr ⟨by show r.val = 0 + r.val; omega, rfl⟩)

variable (x0 : Vec Ideal S512x2048 .bf16) (x1 : Vec Ideal S512x1 .i32) (x2 : Vec Ideal S1x128 .f32) (x3 : Vec Ideal S2048x1152 .bf16) (x4 : Vec Ideal S1x512 .f32) (x5 : Vec Ideal S512x2048 .bf16) (x6 : Vec Ideal S1x512 .f32) (x7 : Vec Ideal S512x2048 .bf16)

theorem hz : (![0, 0] : Fin 2 → Nat) = fun _ => 0 := funext fun a => by fin_cases a <;> rfl

/-- The block's rows times the narrow weights. -/
abbrev lat : Vec Ideal S512x1152 .f32 := k0_pay4 x0 x3
/-- The scaled queries. -/
abbrev query : Vec Ideal S512x2048 .f32 := k0_pay6 x0 x3 x4 x5
/-- Keys and values. -/
abbrev keyVal : Vec Ideal S512x2048 .f32 := k0_pay28 (k0_pay25 (lat x0 x3)) (k0_pay26 x6) (k0_pay27 (lat x0 x3)) x7
/-- The table of cosines and sines. -/
abbrev table : Vec Ideal S512x128 .f32 := k0_pay5 (F := Ideal) x1 x2

theorem pay62_eq : k0_pay62 x0 x1 x2 x3 x4 x5 x6 x7 = lat x0 x3 := by
  unfold k0_pay62
  simp only [View.ld_unit_zero (S := S512x2048) hz, View.ld_unit_zero (S := S2048x1152) hz]

theorem pay63_eq : k0_pay63 x0 x1 x2 x3 x4 x5 x6 x7 = table x1 x2 := by
  unfold k0_pay63
  simp only [View.ld_unit_zero (S := S512x1) hz, View.ld_unit_zero (S := S1x128) hz]

theorem pay64_eq : k0_pay64 x0 x1 x2 x3 x4 x5 x6 x7 = query x0 x3 x4 x5 := by
  unfold k0_pay64
  simp only [View.ld_unit_zero (S := S512x2048) hz, View.ld_unit_zero (S := S2048x1152) hz, View.ld_unit_zero (S := S1x512) hz]

theorem pay68_eq : k0_pay68 x0 x1 x2 x3 x4 x5 x6 x7 = keyVal x0 x3 x6 x7 := by
  unfold k0_pay68 k0_pay65 k0_pay66 k0_pay67
  simp only [pay62_eq, View.ld_unit_zero (S := S512x2048) hz, View.ld_unit_zero (S := S1x512) hz]

theorem pay69_eq : k0_pay69 x0 x1 x2 x3 x4 x5 x6 x7 = k0_pay29 (lat x0 x3) (table x1 x2) := by
  unfold k0_pay69
  simp only [pay62_eq, pay63_eq]

theorem out8_eq : out0_8 x0 x1 x2 x3 x4 x5 x6 x7
    = heads (fun h => truncf (F := Ideal) .bf16 (cut (query x0 x3 x4 x5) 0 h) bitsLt_bf16_f32)
        (fun h => truncf (F := Ideal) .bf16 (mulf (F := Ideal) (cut (query x0 x3 x4 x5) 1 h) (table x1 x2) : FVec Ideal S512x128 .f32) bitsLt_bf16_f32) := by
  refine Eq.trans ?_ (slots_apply _ _)
  rw [← pay63_eq x0 x1 x2 x3 x4 x5 x6 x7, ← pay64_eq x0 x1 x2 x3 x4 x5 x6 x7]
  rfl

theorem out9_eq : out0_9 x0 x1 x2 x3 x4 x5 x6 x7
    = heads (fun h => truncf (F := Ideal) .bf16 (cut (keyVal x0 x3 x6 x7) 0 h) bitsLt_bf16_f32)
        (fun _ => k0_pay29 (F := Ideal) (lat x0 x3) (table x1 x2)) := by
  refine Eq.trans ?_ (slots_apply _ _)
  rw [← pay68_eq x0 x1 x2 x3 x4 x5 x6 x7, ← pay69_eq x0 x1 x2 x3 x4 x5 x6 x7]
  rfl

theorem out10_eq : out0_10 x0 x1 x2 x3 x4 x5 x6 x7
    = heads (fun h => truncf (F := Ideal) .bf16 (cut (keyVal x0 x3 x6 x7) 1 h) bitsLt_bf16_f32)
        (fun _ => broadcast S512x128 (Scalar.ofBits (F := Ideal) .bf16 0x3F80#16)) := by
  refine Eq.trans ?_ (slots_apply _ _)
  rw [← pay68_eq x0 x1 x2 x3 x4 x5 x6 x7]
  rfl

end Cert.Kernel7Ideal.MlaProj

end
-- ==== Proof.MlaProj.Blocks.lean ====
/- The attention's projections: the blocks the kernel reads, from the arguments. -/
module

public import proofs.«01_k».proof.Proof.MlaProj.Spec

@[expose] public section

set_option maxRecDepth 16384

noncomputable section

namespace Cert.Kernel7Ideal.MlaProj

open Cert.Kernel7Ideal Cert.Kernel7Ideal.Gen
open Idealize.ShloMosaic Idealize.ShloMosaic.TcCoe Idealize.ShloMosaic.Tactic
open Idealize.SL Idealize.SL.RA
open Idealize.ShloMosaic.Pipeline (Dat Cfg Window)

/-! ## What the host hands the kernel -/

section Host

variable (p : IVec S2x8192 32) (w : FVec Ideal S2048x4416 .f32) (g : FVec Ideal S512 .f32) (wq : FVec Ideal S512x1536 .f32) (wkv : FVec Ideal S512x2048 .f32)

/-- The positions in one column. -/
def posCol : IVec S16384x1 32 := shapeCast S16384x1 p shapeCasts_S2x8192_S16384x1

/-- The frequencies four times over. -/
def freqRow : FVec Ideal S1x128 .f32 :=
  shapeCast S1x128 (shapeCast S128 (broadcastInDim S4x32 ![0, 1] bcast_S1x32_S4x32_0_1 (shapeCast S1x32 freqs shapeCasts_S32_S1x32)) shapeCasts_S4x32_S128) shapeCasts_S128_S1x128

/-- The narrow weights side by side. -/
def narrow : FVec Ideal S2048x1152 .f32 :=
  concatenate S2048x1152 1 [⟨S2048x1024, extractStridedSlice S2048x1024 ![0, 3328] w slices_S2048x4416_S2048x1024_0_3328⟩, ⟨S2048x64, keyCols w⟩, ⟨S2048x64, turnK w⟩] concatenates_S2048x1024_S2048x64_S2048x64_S2048x1152_d1

/-- Each head's query columns followed by the turned ones. -/
def wideQ : FVec Ideal S512x2048 .f32 :=
  shapeCast S512x2048 (concatenate S512x8x256 2 [⟨S512x8x192, headQ wq⟩, ⟨S512x8x64, turnQ wq⟩] concatenates_S512x8x192_S512x8x64_S512x8x256_d2) shapeCasts_S512x8x256_S512x2048

theorem posCol_apply (R : Fin 16384) : posCol p (ix2 R 0) = p (ix2 ⟨R.val / 8192, by omega⟩ ⟨R.val % 8192, by omega⟩) := by
  pointwise [posCol]

theorem freqRow_apply (l : Fin 128) : freqRow (ix2 0 l) = freqs (ix1 ⟨l.val % 32, by omega⟩) := by
  generalize hf : freqs = f
  unfold freqRow
  rw [hf]
  pointwise []

theorem narrow_lat (k : Fin 2048) (j : Fin 1024) : narrow w (ix2 k ⟨j.val, by omega⟩) = w (ix2 k ⟨3328 + j.val, by omega⟩) := by
  pointwise [narrow]

theorem narrow_key (k : Fin 2048) (e : Fin 64) : narrow w (ix2 k ⟨1024 + e.val, by omega⟩) = w (ix2 k ⟨4352 + e.val, by omega⟩) := by
  pointwise [narrow, keyCols]

theorem narrow_turn (k : Fin 2048) (e : Fin 64) : narrow w (ix2 k ⟨1088 + e.val, by omega⟩) = turnK w (ix2 k e) := by
  unfold narrow
  generalize turnK w = T
  pointwise []
  rw [dif_neg (by omega), dif_neg (by omega)]
  exact congrArg T (congrArg₂ ix2 rfl (Fin.ext (by show 1088 + e.val - 1024 - 64 = e.val; omega)))

theorem wideQ_plain (i : Fin 512) (hd : Fin 8) (l : Fin 192) : wideQ wq (ix2 i ⟨hd.val * 256 + l.val, by omega⟩) = wq (ix2 i ⟨hd.val * 192 + l.val, by omega⟩) := by
  unfold wideQ
  generalize turnQ wq = T
  have e : (hd.val * 256 + l.val) % 256 = l.val := by omega
  pointwise [headQ]
  rw [dif_pos (by omega)]
  simp only [e]

theorem wideQ_turn (i : Fin 512) (hd : Fin 8) (e : Fin 64) : wideQ wq (ix2 i ⟨hd.val * 256 + 192 + e.val, by omega⟩) = turnQ wq (ix3 i hd e) := by
  unfold wideQ
  generalize turnQ wq = T
  pointwise [headQ]
  rw [dif_neg (by omega)]
  exact congrArg T (congrArg₂ (ix3 i) rfl (Fin.ext (by show (hd.val * 256 + 192 + e.val) % 256 - 192 = e.val; omega)))

theorem gain_apply (i : Fin 512) : (shapeCast S1x512 g shapeCasts_S512_S1x512 : FVec Ideal S1x512 .f32) (ix2 0 i) = g (ix1 i) := by
  pointwise []

end Host

variable (m : (ℓ : Loc nD τ sig) → Buf (Elt Ideal) ℓ) (c : Dev nD)

/-- The arguments on a device. -/
abbrev aH : FVec Ideal S16384x2048 .bf16 := m ((c : Thread nD τ).loc main_arg0)
abbrev aP : IVec S2x8192 32 := m ((c : Thread nD τ).loc main_arg1)
abbrev aW : FVec Ideal S2048x4416 .f32 := m ((c : Thread nD τ).loc main_arg2)
abbrev aQg : FVec Ideal S512 .f32 := m ((c : Thread nD τ).loc main_arg3)
abbrev aWq : FVec Ideal S512x1536 .f32 := m ((c : Thread nD τ).loc main_arg4)
abbrev aKg : FVec Ideal S512 .f32 := m ((c : Thread nD τ).loc main_arg5)
abbrev aWkv : FVec Ideal S512x2048 .f32 := m ((c : Thread nD τ).loc main_arg6)

theorem V_v0 : V m c main_v0 = posCol (aP m c) := by
  unfold V hostOps0
  after_results <;> rfl

theorem V_v14 : V m c main_v14 = freqRow := by
  unfold V hostOps0
  after_results <;> rfl

theorem V_v30 : V m c main_v30 = truncf (F := Ideal) .bf16 (narrow (aW m c)) bitsLt_bf16_f32 := by
  unfold V hostOps0
  after_results <;> rfl

theorem V_v31 : V m c main_v31 = truncf (F := Ideal) .bf16 (wideQ (aWq m c)) bitsLt_bf16_f32 := by
  unfold V hostOps0
  after_results <;> rfl

theorem V_v32 : V m c main_v32 = truncf (F := Ideal) .bf16 (aWkv m c) bitsLt_bf16_f32 := by
  unfold V hostOps0
  after_results <;> rfl

theorem V_v33 : V m c main_v33 = shapeCast S1x512 (aQg m c) shapeCasts_S512_S1x512 := by
  unfold V hostOps0
  after_results <;> rfl

theorem V_v34 : V m c main_v34 = shapeCast S1x512 (aKg m c) shapeCasts_S512_S1x512 := by
  unfold V hostOps0
  after_results <;> rfl

/-! ## The blocks -/

theorem lt_N (t : Fin cfg0.N) : t.val < 32 := by
  have h : cfg0.N = 32 := N_0
  have := t.isLt
  omega

/-- The row of the input a point's block row is. -/
def rowOf (t : Fin cfg0.N) (r : Fin 512) : Fin 16384 := ⟨t.val * 512 + r.val, by have := lt_N t; omega⟩

theorem idx0 : ∀ t : Fin cfg0.N, (win0 0).index t 0 = t.val ∧ (win0 0).index t 1 = 0 :=
  (by decide +kernel : ∀ t : Fin grid0.N, (win0 0).index t 0 = t.val ∧ (win0 0).index t 1 = 0)

theorem idx1 : ∀ t : Fin cfg0.N, (win0 1).index t 0 = t.val ∧ (win0 1).index t 1 = 0 :=
  (by decide +kernel : ∀ t : Fin grid0.N, (win0 1).index t 0 = t.val ∧ (win0 1).index t 1 = 0)

theorem blk0 (t : Fin cfg0.N) (r : Fin 512) (k : Fin 2048) : iblk m c 0 t (ix2 r k) = aH m c (ix2 (rowOf t r) k) := by
  obtain ⟨e0, e1⟩ := idx0 t
  unfold iblk
  rw [View.read_apply]
  show V m c main_arg0 _ = _
  rw [V_main_arg0]
  show aH m c _ = _
  congr 1
  funext x; apply Fin.ext; fin_cases x
  · refine (Pipeline.Window.rect_emb_val (win0 0) t (ix2 r k) (0 : Fin 2)).trans ?_
    show (win0 0).index t 0 * 512 + r.val = t.val * 512 + r.val
    rw [e0]
  · refine (Pipeline.Window.rect_emb_val (win0 0) t (ix2 r k) (1 : Fin 2)).trans ?_
    show (win0 0).index t 1 * 2048 + k.val = k.val
    rw [e1]; omega

theorem blk1 (t : Fin cfg0.N) (r : Fin 512) : iblk m c 1 t (ix2 r 0) = posCol (aP m c) (ix2 (rowOf t r) 0) := by
  obtain ⟨e0, e1⟩ := idx1 t
  unfold iblk
  rw [View.read_apply]
  show V m c main_v0 _ = _
  rw [V_v0]
  congr 1
  funext x; apply Fin.ext; fin_cases x
  · refine (Pipeline.Window.rect_emb_val (win0 1) t (ix2 r 0) (0 : Fin 2)).trans ?_
    show (win0 1).index t 0 * 512 + r.val = t.val * 512 + r.val
    rw [e0]
  · refine (Pipeline.Window.rect_emb_val (win0 1) t (ix2 r 0) (1 : Fin 2)).trans ?_
    show (win0 1).index t 1 * 1 + 0 = 0
    rw [e1]

/-- A block whose index is zero on every axis is its whole array. -/
theorem emb_whole (W : Window sig grid0) (t : Fin grid0.N) (h : ∀ x, W.index t x = 0) (y : (W.xblock (grid0.coords t)).Idx) (z : W.shape.Idx)
    (hz : ∀ x, (z x).val = (y x).val) : (W.rect t).emb y = z :=
  funext fun x => Fin.ext ((Pipeline.Window.rect_emb_val_of_index_zero W t x (h x) y).trans (hz x).symm)

/-- The other windows take their whole arrays at every point. -/
theorem blk2 (t : Fin cfg0.N) (y : S1x128.Idx) : iblk m c 2 t y = freqRow y := by
  rw [← V_v14 m c]
  unfold iblk
  rw [View.read_apply]
  exact congrArg (V m c main_v14) (emb_whole (win0 2) t (Fin.forall_fin_two.mpr ⟨rfl, rfl⟩) y y fun _ => rfl)

theorem blk3 (t : Fin cfg0.N) (y : S2048x1152.Idx) : iblk m c 3 t y = (truncf (F := Ideal) .bf16 (narrow (aW m c)) bitsLt_bf16_f32) y := by
  rw [← V_v30 m c]
  unfold iblk
  rw [View.read_apply]
  exact congrArg (V m c main_v30) (emb_whole (win0 3) t (Fin.forall_fin_two.mpr ⟨rfl, rfl⟩) y y fun _ => rfl)

theorem blk4 (t : Fin cfg0.N) (y : S1x512.Idx) : iblk m c 4 t y = (shapeCast S1x512 (aQg m c) shapeCasts_S512_S1x512) y := by
  rw [← V_v33 m c]
  unfold iblk
  rw [View.read_apply]
  exact congrArg (V m c main_v33) (emb_whole (win0 4) t (Fin.forall_fin_two.mpr ⟨rfl, rfl⟩) y y fun _ => rfl)

theorem blk5 (t : Fin cfg0.N) (y : S512x2048.Idx) : iblk m c 5 t y = (truncf (F := Ideal) .bf16 (wideQ (aWq m c)) bitsLt_bf16_f32) y := by
  rw [← V_v31 m c]
  unfold iblk
  rw [View.read_apply]
  exact congrArg (V m c main_v31) (emb_whole (win0 5) t (Fin.forall_fin_two.mpr ⟨rfl, rfl⟩) y y fun _ => rfl)

theorem blk6 (t : Fin cfg0.N) (y : S1x512.Idx) : iblk m c 6 t y = (shapeCast S1x512 (aKg m c) shapeCasts_S512_S1x512) y := by
  rw [← V_v34 m c]
  unfold iblk
  rw [View.read_apply]
  exact congrArg (V m c main_v34) (emb_whole (win0 6) t (Fin.forall_fin_two.mpr ⟨rfl, rfl⟩) y y fun _ => rfl)

theorem blk7 (t : Fin cfg0.N) (y : S512x2048.Idx) : iblk m c 7 t y = (truncf (F := Ideal) .bf16 (aWkv m c) bitsLt_bf16_f32) y := by
  rw [← V_v32 m c]
  unfold iblk
  rw [View.read_apply]
  exact congrArg (V m c main_v32) (emb_whole (win0 7) t (Fin.forall_fin_two.mpr ⟨rfl, rfl⟩) y y fun _ => rfl)

end Cert.Kernel7Ideal.MlaProj

end
-- ==== Proof.MlaProj.Value.lean ====
/- The attention's projections: the three results at an entry. -/
module

public import proofs.«01_k».proof.Proof.MlaProj.Tiles
public import proofs.«01_k».proof.Proof.MlaProj.Blocks

@[expose] public section

set_option maxRecDepth 16384

noncomputable section

namespace Cert.Kernel7Ideal.MlaProj

open Cert.Kernel7Ideal Cert.Kernel7Ideal.Gen
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ) (c : Dev nD) (t : Fin cfg0.N)

/-! ## The values of a point at an entry -/

theorem lat_sum (r : Fin 512) (d : Fin 1152) :
    lat (iblk m c 0 t) (iblk m c 3 t) (ix2 r d) = (∑ k : Fin 2048, aH m c (ix2 (rowOf t r) k) * narrow (aW m c) (ix2 k d) : EReal) := by
  refine (pay4_apply (iblk m c 0 t) (iblk m c 3 t) r d).trans (Finset.sum_congr rfl fun k _ => ?_)
  rw [blk0, blk3]
  rfl

theorem lat_plain (r : Fin 512) (j : Fin 1024) :
    lat (iblk m c 0 t) (iblk m c 3 t) (ix2 r ⟨j.val, by omega⟩) = proj (aH m c) (aW m c) (rowOf t r) ⟨3328 + j.val, by omega⟩ := by
  rw [lat_sum]
  exact Finset.sum_congr rfl fun k _ => congrArg (fun x : EReal => aH m c (ix2 (rowOf t r) k) * x) (narrow_lat _ k j)

theorem lat_key (r : Fin 512) (e : Fin 64) :
    lat (iblk m c 0 t) (iblk m c 3 t) (ix2 r ⟨1024 + e.val, by omega⟩) = proj (aH m c) (aW m c) (rowOf t r) ⟨4352 + e.val, by omega⟩ := by
  rw [lat_sum]
  exact Finset.sum_congr rfl fun k _ => congrArg (fun x : EReal => aH m c (ix2 (rowOf t r) k) * x) (narrow_key _ k e)

theorem lat_turn (r : Fin 512) (e : Fin 64) :
    lat (iblk m c 0 t) (iblk m c 3 t) (ix2 r ⟨1088 + e.val, by omega⟩) = projTurn (aH m c) (aW m c) (rowOf t r) e := by
  rw [lat_sum]
  exact Finset.sum_congr rfl fun k _ => congrArg (fun x : EReal => aH m c (ix2 (rowOf t r) k) * x) (narrow_turn _ k e)

theorem angle_eq (r : Fin 512) (e : Fin 64) (l : Fin 128) (hl : l.val % 32 = e.val % 32) :
    angle (iblk m c 1 t (ix2 r 0)) (iblk m c 2 t (ix2 0 l)) = ang (aP m c) (rowOf t r) e := by
  unfold ang
  rw [blk1, blk2, posCol_apply, freqRow_apply]
  simp only [hl]

theorem table_cos (r : Fin 512) (e : Fin 64) :
    table (iblk m c 1 t) (iblk m c 2 t) (ix2 r ⟨e.val, by omega⟩) = Ideal.cos (ang (aP m c) (rowOf t r) e) :=
  (tab_cos (iblk m c 1 t) (iblk m c 2 t) r e).trans (congrArg Ideal.cos (angle_eq m c t r e _ rfl))

theorem table_sin (r : Fin 512) (e : Fin 64) :
    table (iblk m c 1 t) (iblk m c 2 t) (ix2 r ⟨64 + e.val, by omega⟩) = Ideal.sin (ang (aP m c) (rowOf t r) e) :=
  (tab_sin (iblk m c 1 t) (iblk m c 2 t) r e).trans (congrArg Ideal.sin (angle_eq m c t r e _ (by show (64 + e.val) % 32 = e.val % 32; omega)))

/-- Equal rows, gains and columns have equal products. -/
theorem normDot_congr {y y' g g' w w' : Fin 512 → EReal} (hy : ∀ j, y j = y' j) (hg : ∀ j, g j = g' j) (hw : ∀ j, w j = w' j) :
    normDot y g w = normDot y' g' w' := by
  rw [funext hy, funext hg, funext hw]

theorem query_plain (r : Fin 512) (hd : Fin 8) (l : Fin 192) :
    query (iblk m c 0 t) (iblk m c 3 t) (iblk m c 4 t) (iblk m c 5 t) (ix2 r ⟨hd.val * 256 + l.val, by omega⟩)
      = qPlain (aH m c) (aW m c) (aQg m c) (aWq m c) (rowOf t r) hd l := by
  refine (pay6_apply (iblk m c 0 t) (iblk m c 3 t) (iblk m c 4 t) (iblk m c 5 t) r _).trans ?_
  refine congrArg (fun x : EReal => x * qScale) (normDot_congr (fun j => lat_plain m c t r ⟨j.val, by omega⟩) (fun i => ?_) (fun i => ?_))
  · exact (blk4 m c t _).trans (gain_apply _ i)
  · exact (blk5 m c t _).trans (wideQ_plain _ i hd l)

theorem query_turn (r : Fin 512) (hd : Fin 8) (e : Fin 64) :
    query (iblk m c 0 t) (iblk m c 3 t) (iblk m c 4 t) (iblk m c 5 t) (ix2 r ⟨hd.val * 256 + 192 + e.val, by omega⟩)
      = qTurn (aH m c) (aW m c) (aQg m c) (aWq m c) (rowOf t r) hd e := by
  refine (pay6_apply (iblk m c 0 t) (iblk m c 3 t) (iblk m c 4 t) (iblk m c 5 t) r _).trans ?_
  refine congrArg (fun x : EReal => x * qScale) (normDot_congr (fun j => lat_plain m c t r ⟨j.val, by omega⟩) (fun i => ?_) (fun i => ?_))
  · exact (blk4 m c t _).trans (gain_apply _ i)
  · exact (blk5 m c t _).trans (wideQ_turn _ i hd e)

theorem keyVal_apply (r : Fin 512) (d : Fin 2048) :
    keyVal (iblk m c 0 t) (iblk m c 3 t) (iblk m c 6 t) (iblk m c 7 t) (ix2 r d)
      = kvAt (aH m c) (aW m c) (aKg m c) (aWkv m c) (rowOf t r) d := by
  refine (pay28_apply (lat (iblk m c 0 t) (iblk m c 3 t)) (iblk m c 6 t) (iblk m c 7 t) r d).trans ?_
  refine normDot_congr (fun j => ?_) (fun i => ?_) (fun i => blk7 m c t _)
  · refine (lat_plain m c t r ⟨512 + j.val, by omega⟩).trans (congrArg (proj (aH m c) (aW m c) (rowOf t r)) (Fin.ext ?_))
    show 3328 + (512 + j.val) = 3840 + j.val
    omega
  · exact (blk6 m c t _).trans (gain_apply _ i)

theorem rope_sum (r : Fin 512) (e : Fin 64) :
    (lat (iblk m c 0 t) (iblk m c 3 t) (ix2 r ⟨1024 + e.val, by omega⟩) * table (iblk m c 1 t) (iblk m c 2 t) (ix2 r ⟨e.val, by omega⟩)
        + lat (iblk m c 0 t) (iblk m c 3 t) (ix2 r ⟨1088 + e.val, by omega⟩) * table (iblk m c 1 t) (iblk m c 2 t) (ix2 r ⟨64 + e.val, by omega⟩) : EReal)
      = kRope (aH m c) (aP m c) (aW m c) (rowOf t r) e := by
  rw [lat_key, lat_turn, table_cos, table_sin]
  rfl

/-! ## The results' blocks at an entry -/

/-- What a point leaves for each of the three results. -/
abbrev blkQ : Vec Ideal S1x8x512x256 .bf16 := out0_8 (iblk m c 0 t) (iblk m c 1 t) (iblk m c 2 t) (iblk m c 3 t) (iblk m c 4 t) (iblk m c 5 t) (iblk m c 6 t) (iblk m c 7 t)
abbrev blkK : Vec Ideal S1x8x512x256 .bf16 := out0_9 (iblk m c 0 t) (iblk m c 1 t) (iblk m c 2 t) (iblk m c 3 t) (iblk m c 4 t) (iblk m c 5 t) (iblk m c 6 t) (iblk m c 7 t)
abbrev blkV : Vec Ideal S1x8x512x256 .bf16 := out0_10 (iblk m c 0 t) (iblk m c 1 t) (iblk m c 2 t) (iblk m c 3 t) (iblk m c 4 t) (iblk m c 5 t) (iblk m c 6 t) (iblk m c 7 t)

theorem blkQ_plain (hd : Fin 8) (r : Fin 512) (l : Fin 128) :
    blkQ m c t (ix4 0 hd r ⟨l.val, by omega⟩) = qPlain (aH m c) (aW m c) (aQg m c) (aWq m c) (rowOf t r) hd ⟨l.val, by omega⟩ := by
  unfold blkQ
  rw [out8_eq, heads_left _ _ hd r l _ rfl]
  refine (cut_apply _ 0 hd r l).trans (Eq.trans (congrArg _ (congrArg₂ ix2 rfl (Fin.ext ?_))) (query_plain m c t r hd ⟨l.val, by omega⟩))
  show hd.val * 256 + 0 * 128 + l.val = hd.val * 256 + l.val
  omega

theorem blkQ_cos (hd : Fin 8) (r : Fin 512) (e : Fin 64) :
    blkQ m c t (ix4 0 hd r ⟨128 + e.val, by omega⟩)
      = qPlain (aH m c) (aW m c) (aQg m c) (aWq m c) (rowOf t r) hd ⟨128 + e.val, by omega⟩ * Ideal.cos (ang (aP m c) (rowOf t r) e) := by
  unfold blkQ
  rw [out8_eq, heads_right _ _ hd r ⟨e.val, by omega⟩ _ rfl]
  refine congrArg₂ (fun a b : EReal => a * b) ((cut_apply _ 1 hd r ⟨e.val, by omega⟩).trans (Eq.trans (congrArg _ (congrArg₂ ix2 rfl (Fin.ext ?_))) (query_plain m c t r hd ⟨128 + e.val, by omega⟩))) (table_cos m c t r e)
  show hd.val * 256 + 1 * 128 + e.val = hd.val * 256 + (128 + e.val)
  omega

theorem blkQ_sin (hd : Fin 8) (r : Fin 512) (e : Fin 64) :
    blkQ m c t (ix4 0 hd r ⟨192 + e.val, by omega⟩)
      = qTurn (aH m c) (aW m c) (aQg m c) (aWq m c) (rowOf t r) hd e * Ideal.sin (ang (aP m c) (rowOf t r) e) := by
  unfold blkQ
  rw [out8_eq, heads_right _ _ hd r ⟨64 + e.val, by omega⟩ _ (by show 192 + e.val = 128 + (64 + e.val); omega)]
  refine congrArg₂ (fun a b : EReal => a * b) ((cut_apply _ 1 hd r ⟨64 + e.val, by omega⟩).trans (Eq.trans (congrArg _ (congrArg₂ ix2 rfl (Fin.ext ?_))) (query_turn m c t r hd e))) (table_sin m c t r e)
  show hd.val * 256 + 1 * 128 + (64 + e.val) = hd.val * 256 + 192 + e.val
  omega

theorem blkK_plain (hd : Fin 8) (r : Fin 512) (l : Fin 128) :
    blkK m c t (ix4 0 hd r ⟨l.val, by omega⟩) = kvAt (aH m c) (aW m c) (aKg m c) (aWkv m c) (rowOf t r) ⟨hd.val * 256 + l.val, by omega⟩ := by
  unfold blkK
  rw [out9_eq, heads_left _ _ hd r l _ rfl]
  refine (cut_apply _ 0 hd r l).trans ((keyVal_apply m c t r _).trans (congrArg _ (Fin.ext ?_)))
  show hd.val * 256 + 0 * 128 + l.val = hd.val * 256 + l.val
  omega

theorem blkK_left (hd : Fin 8) (r : Fin 512) (e : Fin 64) :
    blkK m c t (ix4 0 hd r ⟨128 + e.val, by omega⟩) = kRope (aH m c) (aP m c) (aW m c) (rowOf t r) e := by
  unfold blkK
  rw [out9_eq, heads_right _ _ hd r ⟨e.val, by omega⟩ _ rfl]
  exact (pay29_left _ _ r e).trans (rope_sum m c t r e)

theorem blkK_right (hd : Fin 8) (r : Fin 512) (e : Fin 64) :
    blkK m c t (ix4 0 hd r ⟨192 + e.val, by omega⟩) = kRope (aH m c) (aP m c) (aW m c) (rowOf t r) e := by
  unfold blkK
  rw [out9_eq, heads_right _ _ hd r ⟨64 + e.val, by omega⟩ _ (by show 192 + e.val = 128 + (64 + e.val); omega)]
  exact (pay29_right _ _ r e).trans (rope_sum m c t r e)

theorem blkV_plain (hd : Fin 8) (r : Fin 512) (l : Fin 128) :
    blkV m c t (ix4 0 hd r ⟨l.val, by omega⟩) = kvAt (aH m c) (aW m c) (aKg m c) (aWkv m c) (rowOf t r) ⟨hd.val * 256 + 128 + l.val, by omega⟩ := by
  unfold blkV
  rw [out10_eq, heads_left _ _ hd r l _ rfl]
  refine (cut_apply _ 1 hd r l).trans ((keyVal_apply m c t r _).trans (congrArg _ (Fin.ext ?_)))
  show hd.val * 256 + 1 * 128 + l.val = hd.val * 256 + 128 + l.val
  omega

theorem blkV_one (hd : Fin 8) (r : Fin 512) (l : Fin 128) :
    blkV m c t (ix4 0 hd r ⟨128 + l.val, by omega⟩) = (1 : EReal) := by
  unfold blkV
  rw [out10_eq, heads_right _ _ hd r l _ rfl]
  exact Ideal.ofBits_one_bf16

/-! ## The arrays -/

/-- The point that writes position `s` of sequence `b`, and the row of its block. -/
def pointOf (b : Fin 2) (s : Fin 8192) : Fin cfg0.N := ⟨b.val * 16 + s.val / 512, by have h : cfg0.N = 32 := N_0; omega⟩
def blkRow (s : Fin 8192) : Fin 512 := ⟨s.val % 512, by omega⟩

/-- That position's row of the input. -/
def posRow (b : Fin 2) (s : Fin 8192) : Fin 16384 := ⟨b.val * 8192 + s.val, by omega⟩

theorem rowOf_pointOf (b : Fin 2) (s : Fin 8192) : rowOf (pointOf b s) (blkRow s) = posRow b s := by
  refine Fin.ext ?_
  show (b.val * 16 + s.val / 512) * 512 + s.val % 512 = b.val * 8192 + s.val
  omega

/-- Where an element of a point's block lies in the array. -/
theorem emb_at (W : Window sig grid0) (t : Fin grid0.N) (y : (W.xblock (grid0.coords t)).Idx) (z : W.shape.Idx) (hk : W.kind = .blocked)
    (hz : ∀ x, W.index t x * W.size x + (y x).val = (z x).val) : (W.rect t).emb y = z :=
  funext fun x => Fin.ext ((Pipeline.Window.rect_emb_val W t y x hk).trans (hz x))

theorem forall_four {P : Fin 4 → Prop} (h0 : P 0) (h1 : P 1) (h2 : P 2) (h3 : P 3) : ∀ a, P a := by
  intro a
  fin_cases a
  exacts [h0, h1, h2, h3]

theorem idx8 : ∀ t : Fin cfg0.N, (win0 8).index t = ![t.val / 16, 0, t.val % 16, 0] :=
  (by decide +kernel : ∀ t : Fin grid0.N, (win0 8).index t = ![t.val / 16, 0, t.val % 16, 0])
theorem idx9 : ∀ t : Fin cfg0.N, (win0 9).index t = ![t.val / 16, 0, t.val % 16, 0] :=
  (by decide +kernel : ∀ t : Fin grid0.N, (win0 9).index t = ![t.val / 16, 0, t.val % 16, 0])
theorem idx10 : ∀ t : Fin cfg0.N, (win0 10).index t = ![t.val / 16, 0, t.val % 16, 0] :=
  (by decide +kernel : ∀ t : Fin grid0.N, (win0 10).index t = ![t.val / 16, 0, t.val % 16, 0])

/-- A position's place: its point's block, at its row there. -/
theorem place (b : Fin 2) (s : Fin 8192) (hd : Fin 8) (k : Fin 256) : ∀ a : Fin 4,
    (![(pointOf b s).val / 16, 0, (pointOf b s).val % 16, 0] : Fin 4 → ℕ) a * S1x8x512x256.size a + ((ix4 (0 : Fin 1) hd (blkRow s) k : S1x8x512x256.Idx) a).val
      = ((ix4 b hd s k : S2x8x8192x256.Idx) a).val := by
  have e : (pointOf b s).val = b.val * 16 + s.val / 512 := rfl
  have e' : (blkRow s).val = s.val % 512 := rfl
  refine forall_four ?_ ?_ ?_ ?_
  · show (pointOf b s).val / 16 * 1 + 0 = b.val
    omega
  · show 0 * 8 + hd.val = hd.val
    omega
  · show (pointOf b s).val % 16 * 512 + (blkRow s).val = s.val
    omega
  · show 0 * 256 + k.val = k.val
    omega

theorem arrQ (b : Fin 2) (hd : Fin 8) (s : Fin 8192) (k : Fin 256) :
    ((dats m 0 c).arrAt 8 cfg0.N : Vec Ideal S2x8x8192x256 .bf16) (ix4 b hd s k) = blkQ m c (pointOf b s) (ix4 0 hd (blkRow s) k) := by
  have h := congrFun (Value.blocks8 m c (pointOf b s) (flush0_8 _)) (ix4 0 hd (blkRow s) k)
  rw [View.read_apply, Value.flushed8] at h
  rw [← emb_at (win0 8) (pointOf b s) (ix4 (0 : Fin 1) hd (blkRow s) k) (ix4 b hd s k) rfl (by rw [idx8]; exact place b s hd k)]
  exact h

theorem arrK (b : Fin 2) (hd : Fin 8) (s : Fin 8192) (k : Fin 256) :
    ((dats m 0 c).arrAt 9 cfg0.N : Vec Ideal S2x8x8192x256 .bf16) (ix4 b hd s k) = blkK m c (pointOf b s) (ix4 0 hd (blkRow s) k) := by
  have h := congrFun (Value.blocks9 m c (pointOf b s) (flush0_9 _)) (ix4 0 hd (blkRow s) k)
  rw [View.read_apply, Value.flushed9] at h
  rw [← emb_at (win0 9) (pointOf b s) (ix4 (0 : Fin 1) hd (blkRow s) k) (ix4 b hd s k) rfl (by rw [idx9]; exact place b s hd k)]
  exact h

theorem arrV (b : Fin 2) (hd : Fin 8) (s : Fin 8192) (k : Fin 256) :
    ((dats m 0 c).arrAt 10 cfg0.N : Vec Ideal S2x8x8192x256 .bf16) (ix4 b hd s k) = blkV m c (pointOf b s) (ix4 0 hd (blkRow s) k) := by
  have h := congrFun (Value.blocks10 m c (pointOf b s) (flush0_10 _)) (ix4 0 hd (blkRow s) k)
  rw [View.read_apply, Value.flushed10] at h
  rw [← emb_at (win0 10) (pointOf b s) (ix4 (0 : Fin 1) hd (blkRow s) k) (ix4 b hd s k) rfl (by rw [idx10]; exact place b s hd k)]
  exact h

/-- A lane of the 256 is one of the first 128, one of the next 64 or one of the last 64. -/
theorem lane_cases {P : Fin 256 → Prop} (h1 : ∀ l : Fin 128, P ⟨l.val, by omega⟩) (h2 : ∀ e : Fin 64, P ⟨128 + e.val, by omega⟩) (h3 : ∀ e : Fin 64, P ⟨192 + e.val, by omega⟩) : ∀ k, P k := by
  intro k
  by_cases h : k.val < 128
  · exact h1 ⟨k.val, h⟩
  by_cases h' : k.val < 192
  · have e : (⟨128 + (k.val - 128), by omega⟩ : Fin 256) = k := Fin.ext (by show 128 + (k.val - 128) = k.val; omega)
    exact e ▸ h2 ⟨k.val - 128, by omega⟩
  · have e : (⟨192 + (k.val - 192), by omega⟩ : Fin 256) = k := Fin.ext (by show 192 + (k.val - 192) = k.val; omega)
    exact e ▸ h3 ⟨k.val - 192, by omega⟩

end Cert.Kernel7Ideal.MlaProj

end
-- ==== Proof.MlaProj.Ref.lean ====
/- The reference's attention projections read at an entry. -/
module

public import proofs.«01_k».proof.Proof.Gen.Reference7Ideal
public import proofs.«01_k».proof.Proof.Gen.Reference7Ideal.Run
public import proofs.«01_k».proof.Proof.MlaProj.Spec
public import Idealize.ShloMosaic.Lib.Pointwise

@[expose] public section

set_option maxRecDepth 16384

noncomputable section

namespace Cert.Reference7Ideal.MlaProj

open Cert.Reference7Ideal Cert.Reference7Ideal.Gen
open Cert.Kernel7Ideal.MlaProj (rowNorm normDot qScale angle freqs turnK turnQ headQ ropeQ keyCols proj projTurn ang qPlain qTurn kvAt kRope)
open Idealize.ShloMosaic

/-! ## The stages -/

/-- The norm of each row of 512. -/
def normed (y : FVec Ideal S16384x512 .f32) (g : FVec Ideal S512 .f32) : FVec Ideal S16384x512 .f32 :=
  mulf (mulf y (broadcastInDim S16384x512 ![0, 1] bcast_S16384x1_S16384x512_0_1 (Host.rsqrt (addf (Host.divf (broadcastInDim S16384x1 ![0] bcast_S16384_S16384x1_0 (Host.reduceAdd (F := Ideal) (mulf y y) (constant (F := Ideal) S_ .f32 0x00000000#32) reducesTo_S16384x512_S16384_d1 h_S_)) (broadcastInDim S16384x1 ![] bcast_S_S16384x1 (constant (F := Ideal) S_ .f32 0x44000000#32))) (broadcastInDim S16384x1 ![] bcast_S_S16384x1 (constant (F := Ideal) S_ .f32 0x358637BD#32)))))) (broadcastInDim S16384x512 ![0, 1] bcast_S1x512_S16384x512_0_1 (broadcastInDim S1x512 ![1] bcast_S512_S1x512_1 g))

theorem normed_apply (y : FVec Ideal S16384x512 .f32) (g : FVec Ideal S512 .f32) (R : Fin 16384) (d : Fin 512) :
    normed y g (ix2 R d) = rowNorm (fun j => y (ix2 R j)) (g (ix1 d)) d := by
  unfold rowNorm
  pointwise [normed]

variable (h : FVec Ideal S16384x2048 .bf16) (p : IVec S2x8192 32) (w : FVec Ideal S2048x4416 .f32)

/-- The queries' narrow projection, and the keys' and values'. -/
def latQ : FVec Ideal S16384x512 .f32 :=
  Host.dotGeneral (F := Ideal) dot_S16384x2048_S2048x512_S16384x512_1_0_0_1_n_n none (extf .f32 h bitsLt_bf16_f32) (extractStridedSlice S2048x512 ![0, 3328] w slices_S2048x4416_S2048x512_0_3328)
def latK : FVec Ideal S16384x512 .f32 :=
  Host.dotGeneral (F := Ideal) dot_S16384x2048_S2048x512_S16384x512_1_0_0_1_n_n none (extf .f32 h bitsLt_bf16_f32) (extractStridedSlice S2048x512 ![0, 3840] w slices_S2048x4416_S2048x512_0_3840)

theorem latQ_apply (R : Fin 16384) (j : Fin 512) : latQ h w (ix2 R j) = proj h w R ⟨3328 + j.val, by omega⟩ := by
  unfold proj
  pointwise [latQ]

theorem latK_apply (R : Fin 16384) (j : Fin 512) : latK h w (ix2 R j) = proj h w R ⟨3840 + j.val, by omega⟩ := by
  unfold proj
  pointwise [latK]

/-- A projection to 64 columns. -/
def dot64 (a : FVec Ideal S2048x64 .f32) : FVec Ideal S16384x64 .f32 :=
  Host.dotGeneral (F := Ideal) dot_S16384x2048_S2048x64_S16384x64_1_0_0_1_n_n none (extf .f32 h bitsLt_bf16_f32) a

theorem dot64_apply (a : FVec Ideal S2048x64 .f32) (R : Fin 16384) (e : Fin 64) :
    dot64 h a (ix2 R e) = (∑ k : Fin 2048, h (ix2 R k) * a (ix2 k e) : EReal) := by
  pointwise [dot64]

/-- The angles of all the positions at given frequencies. -/
def angs (f : FVec Ideal S32 .f32) : FVec Ideal S16384x32 .f32 :=
  mulf (broadcastInDim S16384x32 ![0, 1] bcast_S16384x1_S16384x32_0_1 (shapeCast S16384x1 (sitofp (F := Ideal) .f32 p) shapeCasts_S2x8192_S16384x1)) (broadcastInDim S16384x32 ![0, 1] bcast_S1x32_S16384x32_0_1 (broadcastInDim S1x32 ![1] bcast_S32_S1x32_1 f))

theorem angs_apply (f : FVec Ideal S32 .f32) (R : Fin 16384) (j : Fin 32) :
    angs p f (ix2 R j) = angle (p (ix2 ⟨R.val / 8192, by omega⟩ ⟨R.val % 8192, by omega⟩)) (f (ix1 j)) := by
  unfold angle
  pointwise [angs]

/-- A table of 32 columns twice over. -/
def twice (a : FVec Ideal S16384x32 .f32) : FVec Ideal S16384x64 .f32 :=
  concatenate S16384x64 1 [⟨S16384x32, a⟩, ⟨S16384x32, a⟩] concatenates_S16384x32_S16384x32_S16384x64_d1

theorem twice_left (a : FVec Ideal S16384x32 .f32) (R : Fin 16384) (j : Fin 32) : twice a (ix2 R ⟨j.val, by omega⟩) = a (ix2 R j) := by
  pointwise [twice]

theorem twice_right (a : FVec Ideal S16384x32 .f32) (R : Fin 16384) (j : Fin 32) : twice a (ix2 R ⟨32 + j.val, by omega⟩) = a (ix2 R j) := by
  pointwise [twice]

theorem twice_apply (a : FVec Ideal S16384x32 .f32) (R : Fin 16384) (e : Fin 64) : twice a (ix2 R e) = a (ix2 R ⟨e.val % 32, by omega⟩) := by
  by_cases he : e.val < 32
  · exact (twice_left a R ⟨e.val, he⟩).trans (congrArg a (congrArg₂ ix2 rfl (Fin.ext (Nat.mod_eq_of_lt he).symm)))
  · refine Eq.trans (congrArg (twice a) (congrArg₂ ix2 rfl (Fin.ext ?_))) ((twice_right a R ⟨e.val - 32, by omega⟩).trans (congrArg a (congrArg₂ ix2 rfl (Fin.ext ?_))))
    · show e.val = 32 + (e.val - 32); omega
    · show e.val - 32 = e.val % 32; omega

/-- The cosines and the sines. -/
def cosTab : FVec Ideal S16384x64 .f32 := twice (Host.cos (angs p freqs))
def sinTab : FVec Ideal S16384x64 .f32 := twice (Host.sin (angs p freqs))

theorem cosTab_apply (R : Fin 16384) (e : Fin 64) : cosTab p (ix2 R e) = Ideal.cos (ang p R e) :=
  (twice_apply _ R e).trans (congrArg Ideal.cos (angs_apply p freqs R _))

theorem sinTab_apply (R : Fin 16384) (e : Fin 64) : sinTab p (ix2 R e) = Ideal.sin (ang p R e) :=
  (twice_apply _ R e).trans (congrArg Ideal.sin (angs_apply p freqs R _))

/-- Every head given the same 64 columns. -/
def spread (a : FVec Ideal S16384x64 .f32) : FVec Ideal S16384x8x64 .f32 :=
  broadcastInDim S16384x8x64 ![0, 1, 2] bcast_S16384x1x64_S16384x8x64_0_1_2 (broadcastInDim S16384x1x64 ![0, 2] bcast_S16384x64_S16384x1x64_0_2 a)

theorem spread_apply (a : FVec Ideal S16384x64 .f32) (R : Fin 16384) (hd : Fin 8) (e : Fin 64) : spread a (ix3 R hd e) = a (ix2 R e) := by
  pointwise [spread]

/-- The scaled queries of the plain columns, and of given turned ones. -/
def queries (y : FVec Ideal S16384x512 .f32) (wq : FVec Ideal S512x1536 .f32) : FVec Ideal S16384x8x192 .f32 :=
  mulf (Host.dotGeneral (F := Ideal) dot_S16384x512_S512x8x192_S16384x8x192_1_0_0_12_n_n none y (shapeCast S512x8x192 wq shapeCasts_S512x1536_S512x8x192)) (broadcastInDim S16384x8x192 ![] bcast_S_S16384x8x192 (constant (F := Ideal) S_ .f32 0x3DD53B95#32))
def turned (y : FVec Ideal S16384x512 .f32) (a : FVec Ideal S512x8x64 .f32) : FVec Ideal S16384x8x64 .f32 :=
  mulf (Host.dotGeneral (F := Ideal) dot_S16384x512_S512x8x64_S16384x8x64_1_0_0_12_n_n none y a) (broadcastInDim S16384x8x64 ![] bcast_S_S16384x8x64 (constant (F := Ideal) S_ .f32 0x3DD53B95#32))

theorem queries_apply (y : FVec Ideal S16384x512 .f32) (wq : FVec Ideal S512x1536 .f32) (R : Fin 16384) (hd : Fin 8) (l : Fin 192) :
    queries y wq (ix3 R hd l) = ((∑ i : Fin 512, y (ix2 R i) * wq (ix2 i ⟨hd.val * 192 + l.val, by omega⟩)) * qScale : EReal) := by
  unfold qScale
  pointwise [queries]

theorem turned_apply (y : FVec Ideal S16384x512 .f32) (a : FVec Ideal S512x8x64 .f32) (R : Fin 16384) (hd : Fin 8) (e : Fin 64) :
    turned y a (ix3 R hd e) = ((∑ i : Fin 512, y (ix2 R i) * a (ix3 i hd e)) * qScale : EReal) := by
  unfold qScale
  pointwise [turned]

/-- The turned columns of the queries' weight. -/
def turnCols (wq : FVec Ideal S512x1536 .f32) : FVec Ideal S512x8x64 .f32 :=
  concatenate S512x8x64 2 [⟨S512x8x32, Host.negf (F := Ideal) (extractStridedSlice S512x8x32 ![0, 0, 160] (shapeCast S512x8x192 wq shapeCasts_S512x1536_S512x8x192 : FVec Ideal S512x8x192 .f32) slices_S512x8x192_S512x8x32_0_0_160 : FVec Ideal S512x8x32 .f32)⟩, ⟨S512x8x32, extractStridedSlice S512x8x32 ![0, 0, 128] (shapeCast S512x8x192 wq shapeCasts_S512x1536_S512x8x192) slices_S512x8x192_S512x8x32_0_0_128⟩] concatenates_S512x8x32_S512x8x32_S512x8x64_d2

theorem late_half (a : FVec Ideal S512x8x192 .f32) :
    extractStridedSlice S512x8x32 ![0, 0, 160] a slices_S512x8x192_S512x8x32_0_0_160
      = extractStridedSlice S512x8x32 ![0, 0, 32] (extractStridedSlice S512x8x64 ![0, 0, 128] a Cert.Kernel7Ideal.Gen.slices_S512x8x192_S512x8x64_0_0_128) Cert.Kernel7Ideal.Gen.slices_S512x8x64_S512x8x32_0_0_32 := by
  funext y
  obtain ⟨i, hd, l, rfl⟩ : ∃ (i : Fin 512) (hd : Fin 8) (l : Fin 32), y = ix3 i hd l := ⟨y 0, y 1, y 2, eq_ix3 y⟩
  pointwise []
  exact congrArg (fun z => a (ix3 i hd z)) (Fin.ext (by show 160 + l.val = 128 + (32 + l.val); omega))

theorem early_half (a : FVec Ideal S512x8x192 .f32) :
    extractStridedSlice S512x8x32 ![0, 0, 128] a slices_S512x8x192_S512x8x32_0_0_128
      = extractStridedSlice S512x8x32 ![0, 0, 0] (extractStridedSlice S512x8x64 ![0, 0, 128] a Cert.Kernel7Ideal.Gen.slices_S512x8x192_S512x8x64_0_0_128) Cert.Kernel7Ideal.Gen.slices_S512x8x64_S512x8x32_0_0_0 := by
  funext y
  obtain ⟨i, hd, l, rfl⟩ : ∃ (i : Fin 512) (hd : Fin 8) (l : Fin 32), y = ix3 i hd l := ⟨y 0, y 1, y 2, eq_ix3 y⟩
  pointwise []

theorem turnCols_eq (wq : FVec Ideal S512x1536 .f32) : turnCols wq = turnQ wq := by
  unfold turnCols
  rw [late_half, early_half]
  rfl

/-- The keys and values of all the heads. -/
def keyVals (y : FVec Ideal S16384x512 .f32) (wkv : FVec Ideal S512x2048 .f32) : FVec Ideal S16384x8x256 .f32 :=
  Host.dotGeneral (F := Ideal) dot_S16384x512_S512x8x256_S16384x8x256_1_0_0_12_n_n none y (shapeCast S512x8x256 wkv shapeCasts_S512x2048_S512x8x256)

theorem keyVals_apply (y : FVec Ideal S16384x512 .f32) (wkv : FVec Ideal S512x2048 .f32) (R : Fin 16384) (hd : Fin 8) (l : Fin 256) :
    keyVals y wkv (ix3 R hd l) = (∑ i : Fin 512, y (ix2 R i) * wkv (ix2 i ⟨hd.val * 256 + l.val, by omega⟩) : EReal) := by
  pointwise [keyVals]

/-- Positions and heads exchanged. -/
def headed (a : FVec Ideal S16384x8x256 .f32) : FVec Ideal S2x8x8192x256 .bf16 :=
  truncf .bf16 (transpose S2x8x8192x256 [0, 2, 1, 3] (shapeCast S2x8192x8x256 a shapeCasts_S16384x8x256_S2x8192x8x256) transposes_S2x8192x8x256_S2x8x8192x256_0_2_1_3) bitsLt_bf16_f32

theorem headed_apply (a : FVec Ideal S16384x8x256 .f32) (b : Fin 2) (hd : Fin 8) (s : Fin 8192) (k : Fin 256) :
    headed a (ix4 b hd s k) = a (ix3 ⟨b.val * 8192 + s.val, by omega⟩ hd k) := by
  pointwise [headed]

/-- 128 lanes and twice 64 side by side. -/
def join3 (a : FVec Ideal S16384x8x128 .f32) (b c : FVec Ideal S16384x8x64 .f32) : FVec Ideal S16384x8x256 .f32 :=
  concatenate S16384x8x256 2 [⟨S16384x8x128, a⟩, ⟨S16384x8x64, b⟩, ⟨S16384x8x64, c⟩] concatenates_S16384x8x128_S16384x8x64_S16384x8x64_S16384x8x256_d2

theorem join3_one (a : FVec Ideal S16384x8x128 .f32) (b c : FVec Ideal S16384x8x64 .f32) (R : Fin 16384) (hd : Fin 8) (l : Fin 128) :
    join3 a b c (ix3 R hd ⟨l.val, by omega⟩) = a (ix3 R hd l) := by
  pointwise [join3]

theorem join3_two (a : FVec Ideal S16384x8x128 .f32) (b c : FVec Ideal S16384x8x64 .f32) (R : Fin 16384) (hd : Fin 8) (e : Fin 64) :
    join3 a b c (ix3 R hd ⟨128 + e.val, by omega⟩) = b (ix3 R hd e) := by
  pointwise [join3]

theorem join3_three (a : FVec Ideal S16384x8x128 .f32) (b c : FVec Ideal S16384x8x64 .f32) (R : Fin 16384) (hd : Fin 8) (e : Fin 64) :
    join3 a b c (ix3 R hd ⟨192 + e.val, by omega⟩) = c (ix3 R hd e) := by
  pointwise [join3]
  rw [dif_neg (by omega), dif_neg (by omega)]
  exact congrArg c (congrArg₂ (ix3 R) rfl (Fin.ext (by show 192 + e.val - 128 - 64 = e.val; omega)))

/-- 128 lanes followed by 128 ones. -/
def withOnes (a : FVec Ideal S16384x8x128 .f32) : FVec Ideal S16384x8x256 .f32 :=
  concatenate S16384x8x256 2 [⟨S16384x8x128, a⟩, ⟨S16384x8x128, broadcastInDim S16384x8x128 ![] bcast_S_S16384x8x128 (constant (F := Ideal) S_ .f32 0x3F800000#32)⟩] concatenates_S16384x8x128_S16384x8x128_S16384x8x256_d2

theorem withOnes_one (a : FVec Ideal S16384x8x128 .f32) (R : Fin 16384) (hd : Fin 8) (l : Fin 128) :
    withOnes a (ix3 R hd ⟨l.val, by omega⟩) = a (ix3 R hd l) := by
  pointwise [withOnes]

theorem withOnes_two (a : FVec Ideal S16384x8x128 .f32) (R : Fin 16384) (hd : Fin 8) (l : Fin 128) :
    withOnes a (ix3 R hd ⟨128 + l.val, by omega⟩) = (1 : EReal) := by
  pointwise [withOnes]

/-! ## The results -/

variable (qg : FVec Ideal S512 .f32) (wq : FVec Ideal S512x1536 .f32) (kg : FVec Ideal S512 .f32) (wkv : FVec Ideal S512x2048 .f32)

/-- The queries as one expression of the arguments. -/
def resultQ : FVec Ideal S2x8x8192x256 .bf16 :=
  headed (join3 (extractStridedSlice S16384x8x128 ![0, 0, 0] (queries (normed (latQ h w) qg) wq) slices_S16384x8x192_S16384x8x128_0_0_0)
    (mulf (extractStridedSlice S16384x8x64 ![0, 0, 128] (queries (normed (latQ h w) qg) wq) slices_S16384x8x192_S16384x8x64_0_0_128) (spread (cosTab p)))
    (mulf (turned (normed (latQ h w) qg) (turnCols wq)) (spread (sinTab p))))

/-- The shared key with its rotary embedding. -/
def shared : FVec Ideal S16384x64 .f32 :=
  addf (mulf (dot64 h (keyCols w)) (cosTab p)) (mulf (dot64 h (turnK w)) (sinTab p))

/-- The keys. -/
def resultK : FVec Ideal S2x8x8192x256 .bf16 :=
  headed (join3 (extractStridedSlice S16384x8x128 ![0, 0, 0] (keyVals (normed (latK h w) kg) wkv) slices_S16384x8x256_S16384x8x128_0_0_0) (spread (shared h p w)) (spread (shared h p w)))

/-- The values. -/
def resultV : FVec Ideal S2x8x8192x256 .bf16 :=
  headed (withOnes (extractStridedSlice S16384x8x128 ![0, 0, 128] (keyVals (normed (latK h w) kg) wkv) slices_S16384x8x256_S16384x8x128_0_0_128))

/-- A normed row of the queries' projection against a column. -/
theorem dotQ (R : Fin 16384) (c : Fin 512 → EReal) :
    (∑ i : Fin 512, normed (latQ h w) qg (ix2 R i) * c i : EReal) = normDot (fun j => proj h w R ⟨3328 + j.val, by omega⟩) (fun i => qg (ix1 i)) c := by
  unfold normDot
  refine Finset.sum_congr rfl fun i _ => congrArg (fun x : EReal => x * c i) ?_
  rw [normed_apply]
  simp only [latQ_apply]

/-- And of the keys' and values'. -/
theorem dotK (R : Fin 16384) (c : Fin 512 → EReal) :
    (∑ i : Fin 512, normed (latK h w) kg (ix2 R i) * c i : EReal) = normDot (fun j => proj h w R ⟨3840 + j.val, by omega⟩) (fun i => kg (ix1 i)) c := by
  unfold normDot
  refine Finset.sum_congr rfl fun i _ => congrArg (fun x : EReal => x * c i) ?_
  rw [normed_apply]
  simp only [latK_apply]

theorem queries_eq (R : Fin 16384) (hd : Fin 8) (l : Fin 192) : queries (normed (latQ h w) qg) wq (ix3 R hd l) = qPlain h w qg wq R hd l :=
  (queries_apply _ _ R hd l).trans (congrArg (fun x : EReal => x * qScale) (dotQ h w qg R _))

theorem turned_eq (R : Fin 16384) (hd : Fin 8) (e : Fin 64) : turned (normed (latQ h w) qg) (turnCols wq) (ix3 R hd e) = qTurn h w qg wq R hd e := by
  rw [turnCols_eq]
  exact (turned_apply _ _ R hd e).trans (congrArg (fun x : EReal => x * qScale) (dotQ h w qg R _))

theorem keyVals_eq (R : Fin 16384) (hd : Fin 8) (l : Fin 256) : keyVals (normed (latK h w) kg) wkv (ix3 R hd l) = kvAt h w kg wkv R ⟨hd.val * 256 + l.val, by omega⟩ :=
  (keyVals_apply _ _ R hd l).trans (dotK h w kg R _)

theorem keyCols_apply (k : Fin 2048) (e : Fin 64) : keyCols w (ix2 k e) = w (ix2 k ⟨4352 + e.val, by omega⟩) := by
  pointwise [keyCols]

theorem shared_apply (R : Fin 16384) (e : Fin 64) : shared h p w (ix2 R e) = kRope h p w R e := by
  refine congrArg₂ (fun a b : EReal => a + b) (congrArg₂ (fun a b : EReal => a * b) ?_ (cosTab_apply p R e)) (congrArg₂ (fun a b : EReal => a * b) (dot64_apply h (turnK w) R e) (sinTab_apply p R e))
  refine (dot64_apply h (keyCols w) R e).trans (Finset.sum_congr rfl fun k _ => ?_)
  rw [keyCols_apply]

theorem cut128 (a : FVec Ideal S16384x8x192 .f32) (R : Fin 16384) (hd : Fin 8) (l : Fin 128) :
    extractStridedSlice S16384x8x128 ![0, 0, 0] a slices_S16384x8x192_S16384x8x128_0_0_0 (ix3 R hd l) = a (ix3 R hd ⟨l.val, by omega⟩) := by
  pointwise []

theorem cut64 (a : FVec Ideal S16384x8x192 .f32) (R : Fin 16384) (hd : Fin 8) (e : Fin 64) :
    extractStridedSlice S16384x8x64 ![0, 0, 128] a slices_S16384x8x192_S16384x8x64_0_0_128 (ix3 R hd e) = a (ix3 R hd ⟨128 + e.val, by omega⟩) := by
  pointwise []

theorem cutK (a : FVec Ideal S16384x8x256 .f32) (R : Fin 16384) (hd : Fin 8) (l : Fin 128) :
    extractStridedSlice S16384x8x128 ![0, 0, 0] a slices_S16384x8x256_S16384x8x128_0_0_0 (ix3 R hd l) = a (ix3 R hd ⟨l.val, by omega⟩) := by
  pointwise []

theorem cutV (a : FVec Ideal S16384x8x256 .f32) (R : Fin 16384) (hd : Fin 8) (l : Fin 128) :
    extractStridedSlice S16384x8x128 ![0, 0, 128] a slices_S16384x8x256_S16384x8x128_0_0_128 (ix3 R hd l) = a (ix3 R hd ⟨128 + l.val, by omega⟩) := by
  pointwise []

variable (b : Fin 2) (hd : Fin 8) (s : Fin 8192)

theorem resultQ_plain (l : Fin 128) :
    resultQ h p w qg wq (ix4 b hd s ⟨l.val, by omega⟩) = qPlain h w qg wq ⟨b.val * 8192 + s.val, by omega⟩ hd ⟨l.val, by omega⟩ :=
  (headed_apply _ b hd s _).trans ((join3_one _ _ _ _ hd l).trans ((cut128 _ _ hd l).trans (queries_eq h w qg wq _ hd _)))

theorem resultQ_cos (e : Fin 64) :
    resultQ h p w qg wq (ix4 b hd s ⟨128 + e.val, by omega⟩)
      = qPlain h w qg wq ⟨b.val * 8192 + s.val, by omega⟩ hd ⟨128 + e.val, by omega⟩ * Ideal.cos (ang p ⟨b.val * 8192 + s.val, by omega⟩ e) :=
  (headed_apply _ b hd s _).trans ((join3_two _ _ _ _ hd e).trans (congrArg₂ (fun a b : EReal => a * b)
    ((cut64 _ _ hd e).trans (queries_eq h w qg wq _ hd _)) ((spread_apply _ _ hd e).trans (cosTab_apply p _ e))))

theorem resultQ_sin (e : Fin 64) :
    resultQ h p w qg wq (ix4 b hd s ⟨192 + e.val, by omega⟩)
      = qTurn h w qg wq ⟨b.val * 8192 + s.val, by omega⟩ hd e * Ideal.sin (ang p ⟨b.val * 8192 + s.val, by omega⟩ e) :=
  (headed_apply _ b hd s _).trans ((join3_three _ _ _ _ hd e).trans (congrArg₂ (fun a b : EReal => a * b)
    (turned_eq h w qg wq _ hd e) ((spread_apply _ _ hd e).trans (sinTab_apply p _ e))))

theorem resultK_plain (l : Fin 128) :
    resultK h p w kg wkv (ix4 b hd s ⟨l.val, by omega⟩) = kvAt h w kg wkv ⟨b.val * 8192 + s.val, by omega⟩ ⟨hd.val * 256 + l.val, by omega⟩ :=
  (headed_apply _ b hd s _).trans ((join3_one _ _ _ _ hd l).trans ((cutK _ _ hd l).trans (keyVals_eq h w kg wkv _ hd _)))

theorem resultK_left (e : Fin 64) :
    resultK h p w kg wkv (ix4 b hd s ⟨128 + e.val, by omega⟩) = kRope h p w ⟨b.val * 8192 + s.val, by omega⟩ e :=
  (headed_apply _ b hd s _).trans ((join3_two _ _ _ _ hd e).trans ((spread_apply _ _ hd e).trans (shared_apply h p w _ e)))

theorem resultK_right (e : Fin 64) :
    resultK h p w kg wkv (ix4 b hd s ⟨192 + e.val, by omega⟩) = kRope h p w ⟨b.val * 8192 + s.val, by omega⟩ e :=
  (headed_apply _ b hd s _).trans ((join3_three _ _ _ _ hd e).trans ((spread_apply _ _ hd e).trans (shared_apply h p w _ e)))

theorem resultV_plain (l : Fin 128) :
    resultV h w kg wkv (ix4 b hd s ⟨l.val, by omega⟩) = kvAt h w kg wkv ⟨b.val * 8192 + s.val, by omega⟩ ⟨hd.val * 256 + 128 + l.val, by omega⟩ :=
  (headed_apply _ b hd s _).trans ((withOnes_one _ _ hd l).trans ((cutV _ _ hd l).trans ((keyVals_eq h w kg wkv _ hd _).trans
    (congrArg _ (Fin.ext (by show hd.val * 256 + (128 + l.val) = hd.val * 256 + 128 + l.val; omega))))))

theorem resultV_one (l : Fin 128) : resultV h w kg wkv (ix4 b hd s ⟨128 + l.val, by omega⟩) = (1 : EReal) :=
  (headed_apply _ b hd s _).trans (withOnes_two _ _ hd l)

end Cert.Reference7Ideal.MlaProj

end
-- ==== Proof.MlaProj.Plain.lean ====
/- The attention's projections with the embedding taken on the products: for finite arguments, the same arrays. -/
module

public import proofs.«01_k».proof.Proof.Gen.Reference8Ideal
public import proofs.«01_k».proof.Proof.Gen.Reference8Ideal.Run
public import proofs.«01_k».proof.Proof.MlaProj.Ref
public import proofs.«01_k».proof.Proof.MlaProj.Fine
public import proofs.«01_k».proof.Proof.MlaProj.Value
public import Idealize.ShloMosaic.Lib.Pointwise

@[expose] public section

set_option maxRecDepth 16384

noncomputable section

namespace Cert.Reference8Ideal.MlaProj

open Cert.Reference8Ideal Cert.Reference8Ideal.Gen
open Cert.Kernel7Ideal.MlaProj
open Cert.Reference7Ideal.MlaProj
open Idealize.ShloMosaic

variable (h : FVec Ideal S16384x2048 .bf16) (p : IVec S2x8192 32) (w : FVec Ideal S2048x4416 .f32) (qg : FVec Ideal S512 .f32) (wq : FVec Ideal S512x1536 .f32) (kg : FVec Ideal S512 .f32) (wkv : FVec Ideal S512x2048 .f32)

/-! ## The stages, and those of the other reference -/

/-- The whole input projection. -/
def all : FVec Ideal S16384x4416 .f32 :=
  Host.dotGeneral (F := Ideal) dot_S16384x2048_S2048x4416_S16384x4416_1_0_0_1_n_n none (extf .f32 h bitsLt_bf16_f32) w

theorem all_apply (R : Fin 16384) (c : Fin 4416) : all h w (ix2 R c) = proj h w R c := by
  unfold proj
  pointwise [all]

theorem cutQ_eq : extractStridedSlice S16384x512 ![0, 3328] (all h w) slices_S16384x4416_S16384x512_0_3328 = latQ h w := by
  have key (R : Fin 16384) (j : Fin 512) : extractStridedSlice S16384x512 ![0, 3328] (all h w) slices_S16384x4416_S16384x512_0_3328 (ix2 R j) = all h w (ix2 R ⟨3328 + j.val, by omega⟩) := by
    generalize all h w = a
    pointwise []
  funext y
  obtain ⟨R, j, rfl⟩ : ∃ (R : Fin 16384) (j : Fin 512), y = ix2 R j := ⟨y 0, y 1, eq_ix2 y⟩
  exact (key R j).trans ((all_apply h w R _).trans (latQ_apply h w R j).symm)

theorem cutKV_eq : extractStridedSlice S16384x512 ![0, 3840] (all h w) slices_S16384x4416_S16384x512_0_3840 = latK h w := by
  have key (R : Fin 16384) (j : Fin 512) : extractStridedSlice S16384x512 ![0, 3840] (all h w) slices_S16384x4416_S16384x512_0_3840 (ix2 R j) = all h w (ix2 R ⟨3840 + j.val, by omega⟩) := by
    generalize all h w = a
    pointwise []
  funext y
  obtain ⟨R, j, rfl⟩ : ∃ (R : Fin 16384) (j : Fin 512), y = ix2 R j := ⟨y 0, y 1, eq_ix2 y⟩
  exact (key R j).trans ((all_apply h w R _).trans (latK_apply h w R j).symm)

/-- The queries' up projection, cut into heads after the product. -/
def upQ (y : FVec Ideal S16384x512 .f32) : FVec Ideal S16384x8x192 .f32 :=
  mulf (shapeCast S16384x8x192 (Host.dotGeneral (F := Ideal) dot_S16384x512_S512x1536_S16384x1536_1_0_0_1_n_n none y wq) shapeCasts_S16384x1536_S16384x8x192) (broadcastInDim S16384x8x192 ![] bcast_S_S16384x8x192 (constant (F := Ideal) S_ .f32 0x3DD53B95#32))

theorem upQ_eq (y : FVec Ideal S16384x512 .f32) : upQ wq y = queries y wq := by
  have key (R : Fin 16384) (hd : Fin 8) (l : Fin 192) : upQ wq y (ix3 R hd l) = ((∑ i : Fin 512, y (ix2 R i) * wq (ix2 i ⟨hd.val * 192 + l.val, by omega⟩)) * qScale : EReal) := by
    unfold qScale
    pointwise [upQ]
  funext z
  obtain ⟨R, hd, l, rfl⟩ : ∃ (R : Fin 16384) (hd : Fin 8) (l : Fin 192), z = ix3 R hd l := ⟨z 0, z 1, z 2, eq_ix3 z⟩
  exact (key R hd l).trans (queries_apply y wq R hd l).symm

/-- The keys' and values'. -/
def upKV (y : FVec Ideal S16384x512 .f32) : FVec Ideal S16384x8x256 .f32 :=
  shapeCast S16384x8x256 (Host.dotGeneral (F := Ideal) dot_S16384x512_S512x2048_S16384x2048_1_0_0_1_n_n none y wkv) shapeCasts_S16384x2048_S16384x8x256

theorem upKV_eq (y : FVec Ideal S16384x512 .f32) : upKV wkv y = keyVals y wkv := by
  have key (R : Fin 16384) (hd : Fin 8) (l : Fin 256) : upKV wkv y (ix3 R hd l) = (∑ i : Fin 512, y (ix2 R i) * wkv (ix2 i ⟨hd.val * 256 + l.val, by omega⟩) : EReal) := by
    pointwise [upKV]
  funext z
  obtain ⟨R, hd, l, rfl⟩ : ∃ (R : Fin 16384) (hd : Fin 8) (l : Fin 256), z = ix3 R hd l := ⟨z 0, z 1, z 2, eq_ix3 z⟩
  exact (key R hd l).trans (keyVals_apply y wkv R hd l).symm

/-- Every head given the same 32 columns. -/
def spread32 (a : FVec Ideal S16384x32 .f32) : FVec Ideal S16384x8x32 .f32 :=
  broadcastInDim S16384x8x32 ![0, 1, 2] bcast_S16384x1x32_S16384x8x32_0_1_2 (broadcastInDim S16384x1x32 ![0, 2] bcast_S16384x32_S16384x1x32_0_2 a)

theorem spread32_apply (a : FVec Ideal S16384x32 .f32) (R : Fin 16384) (hd : Fin 8) (j : Fin 32) : spread32 a (ix3 R hd j) = a (ix2 R j) := by
  pointwise [spread32]

theorem ang_of (R : Fin 16384) (j : Fin 32) (e : Fin 64) (he : e.val % 32 = j.val) : angs p freqs (ix2 R j) = ang p R e :=
  (angs_apply p freqs R j).trans (congrArg (fun z => angle _ (freqs (ix1 z))) (Fin.ext he.symm))

/-- 128 lanes and four times 32 side by side. -/
def join5 (a : FVec Ideal S16384x8x128 .f32) (b c d e : FVec Ideal S16384x8x32 .f32) : FVec Ideal S16384x8x256 .f32 :=
  concatenate S16384x8x256 2 [⟨S16384x8x128, a⟩, ⟨S16384x8x32, b⟩, ⟨S16384x8x32, c⟩, ⟨S16384x8x32, d⟩, ⟨S16384x8x32, e⟩] concatenates_S16384x8x128_S16384x8x32_S16384x8x32_S16384x8x32_S16384x8x32_S16384x8x256_d2

section
variable (a : FVec Ideal S16384x8x128 .f32) (b c d e : FVec Ideal S16384x8x32 .f32) (R : Fin 16384) (hd : Fin 8)

theorem join5_one (l : Fin 128) : join5 a b c d e (ix3 R hd ⟨l.val, by omega⟩) = a (ix3 R hd l) := by
  pointwise [join5]

theorem join5_two (j : Fin 32) : join5 a b c d e (ix3 R hd ⟨128 + j.val, by omega⟩) = b (ix3 R hd j) := by
  pointwise [join5]

theorem join5_three (j : Fin 32) : join5 a b c d e (ix3 R hd ⟨160 + j.val, by omega⟩) = c (ix3 R hd j) := by
  pointwise [join5]
  rw [dif_neg (by omega), dif_neg (by omega), dif_pos (by omega)]
  exact congrArg c (congrArg₂ (ix3 R) rfl (Fin.ext (by show 160 + j.val - 128 - 32 = j.val; omega)))

theorem join5_four (j : Fin 32) : join5 a b c d e (ix3 R hd ⟨192 + j.val, by omega⟩) = d (ix3 R hd j) := by
  pointwise [join5]
  rw [dif_neg (by omega), dif_neg (by omega), dif_neg (by omega), dif_pos (by omega)]
  exact congrArg d (congrArg₂ (ix3 R) rfl (Fin.ext (by show 192 + j.val - 128 - 32 - 32 = j.val; omega)))

theorem join5_five (j : Fin 32) : join5 a b c d e (ix3 R hd ⟨224 + j.val, by omega⟩) = e (ix3 R hd j) := by
  pointwise [join5]
  rw [dif_neg (by omega), dif_neg (by omega), dif_neg (by omega), dif_neg (by omega)]
  exact congrArg e (congrArg₂ (ix3 R) rfl (Fin.ext (by show 224 + j.val - 128 - 32 - 32 - 32 = j.val; omega)))

end

/-- The two halves of a query's rotary part. -/
def half1 (a : FVec Ideal S16384x8x192 .f32) : FVec Ideal S16384x8x32 .f32 := extractStridedSlice S16384x8x32 ![0, 0, 128] a slices_S16384x8x192_S16384x8x32_0_0_128
def half2 (a : FVec Ideal S16384x8x192 .f32) : FVec Ideal S16384x8x32 .f32 := extractStridedSlice S16384x8x32 ![0, 0, 160] a slices_S16384x8x192_S16384x8x32_0_0_160

theorem half1_apply (a : FVec Ideal S16384x8x192 .f32) (R : Fin 16384) (hd : Fin 8) (j : Fin 32) : half1 a (ix3 R hd j) = a (ix3 R hd ⟨128 + j.val, by omega⟩) := by
  pointwise [half1]
theorem half2_apply (a : FVec Ideal S16384x8x192 .f32) (R : Fin 16384) (hd : Fin 8) (j : Fin 32) : half2 a (ix3 R hd j) = a (ix3 R hd ⟨160 + j.val, by omega⟩) := by
  pointwise [half2]

/-- The two halves of the shared key. -/
def key1 : FVec Ideal S16384x32 .f32 := extractStridedSlice S16384x32 ![0, 4352] (all h w) slices_S16384x4416_S16384x32_0_4352
def key2 : FVec Ideal S16384x32 .f32 := extractStridedSlice S16384x32 ![0, 4384] (all h w) slices_S16384x4416_S16384x32_0_4384

theorem key1_apply (R : Fin 16384) (j : Fin 32) : key1 h w (ix2 R j) = proj h w R ⟨4352 + j.val, by omega⟩ := by
  refine Eq.trans ?_ (all_apply h w R _)
  unfold key1
  generalize all h w = a
  pointwise []
theorem key2_apply (R : Fin 16384) (j : Fin 32) : key2 h w (ix2 R j) = proj h w R ⟨4384 + j.val, by omega⟩ := by
  refine Eq.trans ?_ (all_apply h w R _)
  unfold key2
  generalize all h w = a
  pointwise []

/-- Two halves side by side. -/
def pair (a b : FVec Ideal S16384x32 .f32) : FVec Ideal S16384x64 .f32 :=
  concatenate S16384x64 1 [⟨S16384x32, a⟩, ⟨S16384x32, b⟩] concatenates_S16384x32_S16384x32_S16384x64_d1

theorem pair_left (a b : FVec Ideal S16384x32 .f32) (R : Fin 16384) (j : Fin 32) : pair a b (ix2 R ⟨j.val, by omega⟩) = a (ix2 R j) := by
  pointwise [pair]
theorem pair_right (a b : FVec Ideal S16384x32 .f32) (R : Fin 16384) (j : Fin 32) : pair a b (ix2 R ⟨32 + j.val, by omega⟩) = b (ix2 R j) := by
  pointwise [pair]

/-- The shared key, rotated. -/
def rotated : FVec Ideal S16384x64 .f32 :=
  pair (subf (mulf (key1 h w) (Host.cos (angs p freqs))) (mulf (key2 h w) (Host.sin (angs p freqs))))
    (addf (mulf (key1 h w) (Host.sin (angs p freqs))) (mulf (key2 h w) (Host.cos (angs p freqs))))

theorem halves {P : Fin 64 → Prop} (h1 : ∀ j : Fin 32, P ⟨j.val, by omega⟩) (h2 : ∀ j : Fin 32, P ⟨32 + j.val, by omega⟩) : ∀ e, P e := by
  intro e
  by_cases he : e.val < 32
  · exact h1 ⟨e.val, he⟩
  · have q : (⟨32 + (e.val - 32), by omega⟩ : Fin 64) = e := Fin.ext (by show 32 + (e.val - 32) = e.val; omega)
    exact q ▸ h2 ⟨e.val - 32, by omega⟩

variable {h w qg wq}

theorem rotated_eq (H : FineArgs h w qg wq) : rotated h p w = shared h p w := by
  funext y
  obtain ⟨R, e, rfl⟩ : ∃ (R : Fin 16384) (e : Fin 64), y = ix2 R e := ⟨y 0, y 1, eq_ix2 y⟩
  revert e
  refine halves (fun j => ?_) (fun j => ?_)
  · refine (pair_left _ _ R j).trans (Eq.trans ?_ ((kRope_early p H R j).symm.trans (shared_apply h p w R _).symm))
    have ha := ang_of p R j ⟨j.val, by omega⟩ (Nat.mod_eq_of_lt j.isLt)
    exact congrArg₂ (fun a b : EReal => a - b) (congrArg₂ (fun a b : EReal => a * b) (key1_apply h w R j) (congrArg Ideal.cos ha))
      (congrArg₂ (fun a b : EReal => a * b) (key2_apply h w R j) (congrArg Ideal.sin ha))
  · refine (pair_right _ _ R j).trans (Eq.trans ?_ ((kRope_late p R j).symm.trans (shared_apply h p w R _).symm))
    have ha := ang_of p R j ⟨j.val, by omega⟩ (Nat.mod_eq_of_lt j.isLt)
    exact congrArg₂ (fun a b : EReal => a + b) (congrArg₂ (fun a b : EReal => a * b) (key1_apply h w R j) (congrArg Ideal.sin ha))
      (congrArg₂ (fun a b : EReal => a * b) (key2_apply h w R j) (congrArg Ideal.cos ha))

variable (h w qg wq)

/-! ## The results -/

/-- The queries, scaled. -/
def scaled : FVec Ideal S16384x8x192 .f32 :=
  upQ wq (normed (extractStridedSlice S16384x512 ![0, 3328] (all h w) slices_S16384x4416_S16384x512_0_3328) qg)

theorem scaled_apply (R : Fin 16384) (hd : Fin 8) (l : Fin 192) : scaled h w qg wq (ix3 R hd l) = qPlain h w qg wq R hd l := by
  unfold scaled
  rw [cutQ_eq, upQ_eq]
  exact queries_eq h w qg wq R hd l

def plainQ : FVec Ideal S2x8x8192x256 .bf16 :=
  headed (join5 (extractStridedSlice S16384x8x128 ![0, 0, 0] (scaled h w qg wq) slices_S16384x8x192_S16384x8x128_0_0_0)
    (mulf (half1 (scaled h w qg wq)) (spread32 (Host.cos (angs p freqs)))) (mulf (half2 (scaled h w qg wq)) (spread32 (Host.cos (angs p freqs))))
    (mulf (Host.negf (half2 (scaled h w qg wq))) (spread32 (Host.sin (angs p freqs)))) (mulf (half1 (scaled h w qg wq)) (spread32 (Host.sin (angs p freqs)))))

def plainK : FVec Ideal S2x8x8192x256 .bf16 :=
  headed (join3 (extractStridedSlice S16384x8x128 ![0, 0, 0] (upKV wkv (normed (extractStridedSlice S16384x512 ![0, 3840] (all h w) slices_S16384x4416_S16384x512_0_3840) kg)) slices_S16384x8x256_S16384x8x128_0_0_0)
    (spread (rotated h p w)) (spread (rotated h p w)))

def plainV : FVec Ideal S2x8x8192x256 .bf16 :=
  headed (withOnes (extractStridedSlice S16384x8x128 ![0, 0, 128] (upKV wkv (normed (extractStridedSlice S16384x512 ![0, 3840] (all h w) slices_S16384x4416_S16384x512_0_3840) kg)) slices_S16384x8x256_S16384x8x128_0_0_128))

theorem plainV_eq : plainV h w kg wkv = resultV h w kg wkv := by
  unfold plainV
  rw [cutKV_eq, upKV_eq]
  rfl

variable {h w qg wq}

theorem plainK_eq (H : FineArgs h w qg wq) : plainK h p w kg wkv = resultK h p w kg wkv := by
  unfold plainK
  rw [cutKV_eq, upKV_eq, rotated_eq p H]
  rfl

/-- A product with a table of cosines or sines spread over the heads. -/
theorem times (f : EReal → EReal) (T : FVec Ideal S16384x32 .f32) (hT : ∀ i, T i = f (angs p freqs i)) (a : FVec Ideal S16384x8x32 .f32) (x : EReal) (R : Fin 16384) (hd : Fin 8) (j : Fin 32) (e : Fin 64)
    (ha : a (ix3 R hd j) = x) (he : e.val % 32 = j.val) : mulf a (spread32 T) (ix3 R hd j) = x * f (ang p R e) :=
  congrArg₂ (fun a b : EReal => a * b) ha ((spread32_apply T R hd j).trans ((hT _).trans (congrArg f (ang_of p R j e he))))

theorem plainQ_eq (H : FineArgs h w qg wq) : plainQ h p w qg wq = resultQ h p w qg wq := by
  funext y
  obtain ⟨b, hd, s, k, rfl⟩ : ∃ (b : Fin 2) (hd : Fin 8) (s : Fin 8192) (k : Fin 256), y = ix4 b hd s k := ⟨y 0, y 1, y 2, y 3, eq_ix4 y⟩
  have h1 := fun (R : Fin 16384) (j : Fin 32) => (half1_apply _ R hd j).trans (scaled_apply h w qg wq R hd ⟨128 + j.val, by omega⟩)
  have h2 := fun (R : Fin 16384) (j : Fin 32) => (half2_apply _ R hd j).trans (scaled_apply h w qg wq R hd ⟨160 + j.val, by omega⟩)
  have m2 := fun j : Fin 32 => (show (32 + j.val) % 32 = j.val by omega)
  revert k
  refine lane_cases (fun l => ?_) (halves (fun j => ?_) (fun j => ?_)) (halves (fun j => ?_) (fun j => ?_))
  · exact (headed_apply _ b hd s _).trans ((join5_one _ _ _ _ _ _ hd l).trans (((cut128 _ _ hd l).trans (scaled_apply h w qg wq _ hd _)).trans (resultQ_plain h p w qg wq b hd s l).symm))
  · exact (headed_apply _ b hd s _).trans ((join5_two _ _ _ _ _ _ hd j).trans ((times p Ideal.cos _ (fun _ => rfl) _ _ _ hd j _ (h1 _ j) (Nat.mod_eq_of_lt j.isLt)).trans (resultQ_cos h p w qg wq b hd s ⟨j.val, by omega⟩).symm))
  · have q : (⟨128 + (32 + j.val), by omega⟩ : Fin 256) = ⟨160 + j.val, by omega⟩ := Fin.ext (by show 128 + (32 + j.val) = 160 + j.val; omega)
    have q' : (⟨128 + (32 + j.val), by omega⟩ : Fin 192) = ⟨160 + j.val, by omega⟩ := Fin.ext (by show 128 + (32 + j.val) = 160 + j.val; omega)
    refine Eq.trans (congrArg (fun z => plainQ h p w qg wq (ix4 b hd s z)) q) ?_
    exact (headed_apply _ b hd s _).trans ((join5_three _ _ _ _ _ _ hd j).trans ((times p Ideal.cos _ (fun _ => rfl) _ _ _ hd j _ ((h2 _ j).trans (congrArg (qPlain h w qg wq _ hd) q'.symm)) (m2 j)).trans (resultQ_cos h p w qg wq b hd s ⟨32 + j.val, by omega⟩).symm))
  · exact (headed_apply _ b hd s _).trans ((join5_four _ _ _ _ _ _ hd j).trans ((times p Ideal.sin _ (fun _ => rfl) _ _ _ hd j _ ((congrArg (fun z : EReal => -z) (h2 _ j)).trans (qTurn_early H _ hd j).symm) (Nat.mod_eq_of_lt j.isLt)).trans (resultQ_sin h p w qg wq b hd s ⟨j.val, by omega⟩).symm))
  · have q : (⟨192 + (32 + j.val), by omega⟩ : Fin 256) = ⟨224 + j.val, by omega⟩ := Fin.ext (by show 192 + (32 + j.val) = 224 + j.val; omega)
    refine Eq.trans (congrArg (fun z => plainQ h p w qg wq (ix4 b hd s z)) q) ?_
    exact (headed_apply _ b hd s _).trans ((join5_five _ _ _ _ _ _ hd j).trans ((times p Ideal.sin _ (fun _ => rfl) _ _ _ hd j _ ((h1 _ j).trans (qTurn_late _ hd j).symm) (m2 j)).trans (resultQ_sin h p w qg wq b hd s ⟨32 + j.val, by omega⟩).symm))

end Cert.Reference8Ideal.MlaProj

end
-- ==== Proof.MlaProj.Claim.lean ====
/- The attention's projections against the two references. -/
module

public import proofs.«01_k».proof.Defs
public import proofs.«01_k».proof.Proof.Gen.Pre_finite
public import proofs.«01_k».proof.Proof.MlaProj.Value
public import proofs.«01_k».proof.Proof.MlaProj.Ref
public import proofs.«01_k».proof.Proof.MlaProj.Plain

@[expose] public section

set_option maxRecDepth 16384

noncomputable section

namespace Cert.Proof

open Idealize.ShloMosaic Idealize.ShloMosaic.TcCoe Idealize.SL.Sem
open Cert.Kernel7Ideal.MlaProj
open Cert.Reference8Ideal.MlaProj (plainQ plainK plainV plainQ_eq plainK_eq plainV_eq)
open Cert.Reference7Ideal.MlaProj (resultQ resultK resultV resultQ_plain resultQ_cos resultQ_sin resultK_plain resultK_left resultK_right resultV_plain resultV_one)

section
open Cert.Kernel7Ideal Cert.Kernel7Ideal.Gen

variable (m : (ℓ : Loc nD τ sig) → Buf (Elt Ideal) ℓ) (c : Dev nD) (b : Fin 2) (hd : Fin 8) (s : Fin 8192)

theorem sameQ : ∀ k : Fin 256, blkQ m c (pointOf b s) (ix4 0 hd (blkRow s) k) = resultQ (aH m c) (aP m c) (aW m c) (aQg m c) (aWq m c) (ix4 b hd s k) :=
  lane_cases
    (fun l => (blkQ_plain m c (pointOf b s) hd (blkRow s) l).trans ((congrArg (fun R => qPlain _ _ _ _ R hd _) (rowOf_pointOf b s)).trans (resultQ_plain _ _ _ _ _ b hd s l).symm))
    (fun e => (blkQ_cos m c (pointOf b s) hd (blkRow s) e).trans ((congrArg (fun R => qPlain _ _ _ _ R hd _ * Ideal.cos (ang _ R e)) (rowOf_pointOf b s)).trans (resultQ_cos _ _ _ _ _ b hd s e).symm))
    (fun e => (blkQ_sin m c (pointOf b s) hd (blkRow s) e).trans ((congrArg (fun R => qTurn _ _ _ _ R hd _ * Ideal.sin (ang _ R e)) (rowOf_pointOf b s)).trans (resultQ_sin _ _ _ _ _ b hd s e).symm))

theorem sameK : ∀ k : Fin 256, blkK m c (pointOf b s) (ix4 0 hd (blkRow s) k) = resultK (aH m c) (aP m c) (aW m c) (aKg m c) (aWkv m c) (ix4 b hd s k) :=
  lane_cases
    (fun l => (blkK_plain m c (pointOf b s) hd (blkRow s) l).trans ((congrArg (fun R => kvAt _ _ _ _ R _) (rowOf_pointOf b s)).trans (resultK_plain _ _ _ _ _ b hd s l).symm))
    (fun e => (blkK_left m c (pointOf b s) hd (blkRow s) e).trans ((congrArg (fun R => kRope _ _ _ R e) (rowOf_pointOf b s)).trans (resultK_left _ _ _ _ _ b hd s e).symm))
    (fun e => (blkK_right m c (pointOf b s) hd (blkRow s) e).trans ((congrArg (fun R => kRope _ _ _ R e) (rowOf_pointOf b s)).trans (resultK_right _ _ _ _ _ b hd s e).symm))

/-- A lane past the first 128 is a one on both sides. -/
theorem sameOne (l : Fin 128) (k : Fin 256) (hk : k.val = 128 + l.val) :
    blkV m c (pointOf b s) (ix4 0 hd (blkRow s) k) = resultV (aH m c) (aW m c) (aKg m c) (aWkv m c) (ix4 b hd s k) := by
  have hl := l.isLt
  rw [show k = ⟨128 + l.val, by omega⟩ from Fin.ext hk]
  exact (blkV_one m c (pointOf b s) hd (blkRow s) l).trans (resultV_one _ _ _ _ b hd s l).symm

theorem sameV : ∀ k : Fin 256, blkV m c (pointOf b s) (ix4 0 hd (blkRow s) k) = resultV (aH m c) (aW m c) (aKg m c) (aWkv m c) (ix4 b hd s k) :=
  lane_cases
    (fun l => (blkV_plain m c (pointOf b s) hd (blkRow s) l).trans ((congrArg (fun R => kvAt _ _ _ _ R _) (rowOf_pointOf b s)).trans (resultV_plain _ _ _ _ b hd s l).symm))
    (fun e => sameOne m c b hd s ⟨e.val, by omega⟩ _ rfl)
    (fun e => sameOne m c b hd s ⟨64 + e.val, by omega⟩ _ (by show 192 + e.val = 128 + (64 + e.val); omega))

/-- The three arrays after the last point. -/
theorem arrQ_eq : (dats m 0 c).arrAt 8 cfg0.N = resultQ (aH m c) (aP m c) (aW m c) (aQg m c) (aWq m c) := by
  funext j
  obtain ⟨b, hd, s, k, rfl⟩ : ∃ (b : Fin 2) (hd : Fin 8) (s : Fin 8192) (k : Fin 256), j = ix4 b hd s k := ⟨j 0, j 1, j 2, j 3, eq_ix4 j⟩
  exact (arrQ m c b hd s k).trans (sameQ m c b hd s k)

theorem arrK_eq : (dats m 0 c).arrAt 9 cfg0.N = resultK (aH m c) (aP m c) (aW m c) (aKg m c) (aWkv m c) := by
  funext j
  obtain ⟨b, hd, s, k, rfl⟩ : ∃ (b : Fin 2) (hd : Fin 8) (s : Fin 8192) (k : Fin 256), j = ix4 b hd s k := ⟨j 0, j 1, j 2, j 3, eq_ix4 j⟩
  exact (arrK m c b hd s k).trans (sameK m c b hd s k)

theorem arrV_eq : (dats m 0 c).arrAt 10 cfg0.N = resultV (aH m c) (aW m c) (aKg m c) (aWkv m c) := by
  funext j
  obtain ⟨b, hd, s, k, rfl⟩ : ∃ (b : Fin 2) (hd : Fin 8) (s : Fin 8192) (k : Fin 256), j = ix4 b hd s k := ⟨j 0, j 1, j 2, j 3, eq_ix4 j⟩
  exact (arrV m c b hd s k).trans (sameV m c b hd s k)

end

theorem algebraic7 : Cert.algebraic_Kernel7Ideal_Reference7Ideal := by
  intro m g m' g' hp hargs
  refine ⟨fun c => resultQ (aH m c) (aP m c) (aW m c) (aQg m c) (aWq m c), fun c => resultK (aH m c) (aP m c) (aW m c) (aKg m c) (aWkv m c), fun c => resultV (aH m c) (aW m c) (aKg m c) (aWkv m c),
    (θ_run Cert.Kernel7Ideal.defs _ _).mono (fun r hr c => ⟨(hr c).1.trans (arrQ_eq m c), (hr c).2.1.trans (arrK_eq m c), (hr c).2.2.1.trans (arrV_eq m c), (hr c).2.2.2⟩) (Cert.Kernel7Ideal.Value.run_blocks (F := Ideal) m g),
    (θ_run Cert.Reference7Ideal.defs _ _).mono (fun r hr c => ?_) (Cert.Reference7Ideal.Value.run (F := Ideal) m' g')⟩
  obtain ⟨e0, e1, e2, e3, e4, e5, e6⟩ := hargs c
  have eQ := congr (congr (congr (congr (congrArg resultQ e0) e1) e2) e3) e4
  have eK := congr (congr (congr (congr (congrArg resultK e0) e1) e2) e5) e6
  have eV := congr (congr (congr (congrArg resultV e0) e2) e5) e6
  exact ⟨(hr c).1.trans eQ, (hr c).2.1.trans eK, (hr c).2.2.1.trans eV, (hr c).2.2.2⟩

/-- The precondition says that the four arrays it reads are finite. -/
theorem fine_args (m : (ℓ : Loc Cert.Kernel7Ideal.nD Cert.Kernel7Ideal.τ Cert.Kernel7Ideal.sig) → Buf (Elt Ideal) ℓ) (hp : Cert.Pre_Kernel7Ideal_finite m) (c : Dev Cert.Kernel7Ideal.nD) :
    FineArgs (aH m c) (aW m c) (aQg m c) (aWq m c) := by
  obtain ⟨h1, h2, h3, h4⟩ := hp c
  have tb : Ideal.ofBits FTy.bf16 0x7F80#16 = ⊤ := by simp [Ideal.ofBits, Ideal.ieee]
  have tf : Ideal.ofBits FTy.f32 0x7F800000#32 = ⊤ := by simp [Ideal.ofBits, Ideal.ieee]
  exact ⟨fun R k => fine_of_below tb (congrFun h1 (ix2 R k)), fun k d => fine_of_below tf (congrFun h2 (ix2 k d)),
    fun i => fine_of_below tf (congrFun h3 (ix1 i)), fun i d => fine_of_below tf (congrFun h4 (ix2 i d))⟩

theorem algebraic8 : Cert.algebraic_Kernel7Ideal_Reference8Ideal_pre_finite := by
  intro m g m' g' hp hargs
  refine ⟨fun c => plainQ (aH m c) (aP m c) (aW m c) (aQg m c) (aWq m c), fun c => plainK (aH m c) (aP m c) (aW m c) (aKg m c) (aWkv m c), fun c => plainV (aH m c) (aW m c) (aKg m c) (aWkv m c),
    (θ_run Cert.Kernel7Ideal.defs _ _).mono (fun r hr c => ⟨((hr c).1.trans (arrQ_eq m c)).trans (plainQ_eq _ (fine_args m hp c)).symm, ((hr c).2.1.trans (arrK_eq m c)).trans (plainK_eq _ _ _ (fine_args m hp c)).symm,
      ((hr c).2.2.1.trans (arrV_eq m c)).trans (plainV_eq _ _ _ _).symm, (hr c).2.2.2⟩) (Cert.Kernel7Ideal.Value.run_blocks (F := Ideal) m g),
    (θ_run Cert.Reference8Ideal.defs _ _).mono (fun r hr c => ?_) (Cert.Reference8Ideal.Value.run (F := Ideal) m' g')⟩
  obtain ⟨e0, e1, e2, e3, e4, e5, e6⟩ := hargs c
  have eQ := congr (congr (congr (congr (congrArg plainQ e0) e1) e2) e3) e4
  have eK := congr (congr (congr (congr (congrArg plainK e0) e1) e2) e5) e6
  have eV := congr (congr (congr (congrArg plainV e0) e2) e5) e6
  exact ⟨(hr c).1.trans eQ, (hr c).2.1.trans eK, (hr c).2.2.1.trans eV, (hr c).2.2.2⟩

end Cert.Proof

end
-- ==== Proof.lean ====
/- The routed experts, the dense SwiGLU, the attention's projections and four more of the trunk's projections: each call's frame and what it computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Pre_finite
public import proofs.«01_k».proof.Proof.Gen.Pre_finite_out
public import proofs.«01_k».proof.Proof.Gen.Pre_plan
public import proofs.«01_k».proof.Proof.Gen.On_routed
public import proofs.«01_k».proof.Proof.Gen.On_stream_and_norm
public import proofs.«01_k».proof.Proof.Moe.Launch
public import proofs.«01_k».proof.Proof.Moe.Claim
public import proofs.«01_k».proof.Proof.Moe.Same
public import proofs.«01_k».proof.Proof.Ffn.Claim
public import proofs.«01_k».proof.Proof.Glu.Claim
public import proofs.«01_k».proof.Proof.InProj.Claim
public import proofs.«01_k».proof.Proof.MixOut.Claim
public import proofs.«01_k».proof.Proof.ConvOut.Claim
public import proofs.«01_k».proof.Proof.MlaProj.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernelIdeal : Cert.quiescent_KernelIdeal := fun m ρ hp =>
  Cert.KernelIdeal.Moe.frame (F := Ideal) m ρ (Cert.KernelIdeal.Moe.planned_of (hp 0))

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_reference2 : Cert.quiescent_Reference2Ideal := fun m ρ _ =>
  (θ_run Cert.Reference2Ideal.defs _ _).mono (fun r h => ⟨fun c => (h c).2.2, sem_eq_zero_of_no_sems rfl r.2⟩) (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems rfl r.2⟩) (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems rfl r.2⟩) (Cert.Reference4Ideal.Value.run (F := Ideal) m ρ)

theorem frame_reference5 : Cert.quiescent_Reference5Ideal := fun m ρ _ =>
  (θ_run Cert.Reference5Ideal.defs _ _).mono (fun r h => ⟨fun c => (h c).2.2, sem_eq_zero_of_no_sems rfl r.2⟩) (Cert.Reference5Ideal.Value.run (F := Ideal) m ρ)

theorem frame_reference7 : Cert.quiescent_Reference7Ideal := fun m ρ _ =>
  (θ_run Cert.Reference7Ideal.defs _ _).mono (fun r h => ⟨fun c => (h c).2.2.2, sem_eq_zero_of_no_sems rfl r.2⟩) (Cert.Reference7Ideal.Value.run (F := Ideal) m ρ)

theorem frame_reference8 : Cert.quiescent_Reference8Ideal := fun m ρ _ =>
  (θ_run Cert.Reference8Ideal.defs _ _).mono (fun r h => ⟨fun c => (h c).2.2.2, sem_eq_zero_of_no_sems rfl r.2⟩) (Cert.Reference8Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Reference8Ideal.Gen.facts, Cert.Pre_plan.Gen.facts, Cert.Pre_finite_out.Gen.facts, Cert.Pre_finite.Gen.facts, Cert.On_routed.Gen.facts, Cert.On_stream_and_norm.Gen.facts,
  frame_kernel, frame_kernelIdeal, frame_reference, fun m ρ _ => frame_reference m ρ trivial, fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3, fun m ρ _ => Cert.Kernel4.Gen.frame m ρ, fun m ρ _ => Cert.Kernel4Ideal.Gen.frame m ρ, frame_reference4, fun m ρ _ => Cert.Kernel5.Gen.frame m ρ, fun m ρ _ => Cert.Kernel5Ideal.Gen.frame m ρ, frame_reference5, ConvOut.frame_words, ConvOut.frame_ideal, fun m ρ _ => ConvOut.frame_ideal m ρ trivial, ConvOut.frame_reference, fun m ρ _ => ConvOut.frame_reference m ρ trivial,
  fun m ρ _ => Cert.Kernel7.Gen.frame m ρ, fun m ρ _ => Cert.Kernel7Ideal.Gen.frame m ρ, fun m ρ _ => Cert.Kernel7Ideal.Gen.frame m ρ, frame_reference7, frame_reference8, fun m ρ _ => frame_reference8 m ρ trivial,
  trivial, algebraic, trivial, algebraic2, trivial, algebraic3, trivial, algebraic4, trivial, algebraic5, trivial, ConvOut.algebraic, ConvOut.algebraic_finite, trivial, algebraic7, algebraic8⟩

end Cert.Proof

end
